-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_gradient [hPre_finite_gradient : Cert.Pre_finite_gradient.Facts] (m : (ℓ : Loc Cert.KernelIdeal.nD Cert.KernelIdeal.τ Cert.KernelIdeal.sig) → Buf (Elt Ideal) ℓ) : Prop :=
  ∀ c : Dev Cert.KernelIdeal.nD,
    (Cert.Pre_finite_gradient.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_gradient [hPre_finite_gradient : Cert.Pre_finite_gradient.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_gradient.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite_gradient [hKernelIdeal : Cert.KernelIdeal.Facts] [hPre_finite_gradient : Cert.Pre_finite_gradient.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_gradient m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite_gradient [hReferenceIdeal : Cert.ReferenceIdeal.Facts] [hPre_finite_gradient : Cert.Pre_finite_gradient.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_gradient m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal_pre_finite_gradient [hKernelIdeal : Cert.KernelIdeal.Facts] [hReferenceIdeal : Cert.ReferenceIdeal.Facts] [hPre_finite_gradient : Cert.Pre_finite_gradient.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_gradient m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v3_0)) (v1 : (c : Dev Cert.KernelIdeal.nD) → Buf (Elt Ideal) ((c.tc : Thread Cert.KernelIdeal.nD Cert.KernelIdeal.τ).loc Cert.KernelIdeal.main_v3_1)) (v2 : (c : Dev Cert.KernelIdeal.nD) → Buf (Elt Ideal) ((c.tc : Thread Cert.KernelIdeal.nD Cert.KernelIdeal.τ).loc Cert.KernelIdeal.main_v4)) (v3 : (c : Dev Cert.KernelIdeal.nD) → Buf (Elt Ideal) ((c.tc : Thread Cert.KernelIdeal.nD Cert.KernelIdeal.τ).loc Cert.KernelIdeal.main_v7)) (v4 : (c : Dev Cert.KernelIdeal.nD) → Buf (Elt Ideal) ((c.tc : Thread Cert.KernelIdeal.nD Cert.KernelIdeal.τ).loc Cert.KernelIdeal.main_v8)) (v5 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3_0) = v0 c
          ∧ r.2.mem ((c.tc : Thread Cert.KernelIdeal.nD Cert.KernelIdeal.τ).loc Cert.KernelIdeal.main_v3_1) = v1 c
          ∧ r.2.mem ((c.tc : Thread Cert.KernelIdeal.nD Cert.KernelIdeal.τ).loc Cert.KernelIdeal.main_v4) = v2 c
          ∧ r.2.mem ((c.tc : Thread Cert.KernelIdeal.nD Cert.KernelIdeal.τ).loc Cert.KernelIdeal.main_v7) = v3 c
          ∧ r.2.mem ((c.tc : Thread Cert.KernelIdeal.nD Cert.KernelIdeal.τ).loc Cert.KernelIdeal.main_v8) = v4 c
          ∧ r.2.mem ((c.tc : Thread Cert.KernelIdeal.nD Cert.KernelIdeal.τ).loc Cert.KernelIdeal.main_v11) = v5 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0_0) = v0 c
          ∧ r.2.mem ((c.tc : Thread Cert.ReferenceIdeal.nD Cert.ReferenceIdeal.τ).loc Cert.ReferenceIdeal.main_v0_1) = v1 c
          ∧ r.2.mem ((c.tc : Thread Cert.ReferenceIdeal.nD Cert.ReferenceIdeal.τ).loc Cert.ReferenceIdeal.main_v0_2) = v2 c
          ∧ r.2.mem ((c.tc : Thread Cert.ReferenceIdeal.nD Cert.ReferenceIdeal.τ).loc Cert.ReferenceIdeal.main_v0_3) = v3 c
          ∧ r.2.mem ((c.tc : Thread Cert.ReferenceIdeal.nD Cert.ReferenceIdeal.τ).loc Cert.ReferenceIdeal.main_v0_4) = v4 c
          ∧ r.2.mem ((c.tc : Thread Cert.ReferenceIdeal.nD Cert.ReferenceIdeal.τ).loc Cert.ReferenceIdeal.main_v0_5) = v5 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_gradient : Cert.Pre_finite_gradient.Facts),
    quiescent_Kernel (hKernel := hKernel)
    ∧ quiescent_KernelIdeal (hKernelIdeal := hKernelIdeal)
    ∧ quiescent_KernelIdeal_pre_finite_gradient (hKernelIdeal := hKernelIdeal) (hPre_finite_gradient := hPre_finite_gradient)
    ∧ quiescent_ReferenceIdeal (hReferenceIdeal := hReferenceIdeal)
    ∧ quiescent_ReferenceIdeal_pre_finite_gradient (hReferenceIdeal := hReferenceIdeal) (hPre_finite_gradient := hPre_finite_gradient)
    ∧ preserves_Kernel_KernelIdeal
    ∧ algebraic_KernelIdeal_ReferenceIdeal_pre_finite_gradient (hKernelIdeal := hKernelIdeal) (hReferenceIdeal := hReferenceIdeal) (hPre_finite_gradient := hPre_finite_gradient)
-- ==== Pre_finite_gradient.lean ====
abbrev S2x2048x3584 : Shape := ⟨3, ![2, 2048, 3584]⟩
abbrev S2x16x28 : Shape := ⟨3, ![2, 16, 28]⟩
abbrev S2x2048x18944 : Shape := ⟨3, ![2, 2048, 18944]⟩
abbrev S_ : Shape := ⟨0, ![]⟩

class Facts : Prop where
  bcast_S_S2x2048x18944 : S_.BroadcastsInDim S2x2048x18944 (![] : Fin 0 → Fin S2x2048x18944.rank)

variable [Facts]

def fn {F : FTy → Type} [FloatOps F] (main_arg0 : FVec F S2x2048x3584 .fp8e4m3) (main_arg1 : FVec F S2x16x28 .f32) (main_arg2 : FVec F S2x2048x18944 .f32) : IVec S2x2048x18944 1 :=
  let main_v0 : FVec F S2x2048x18944 .f32 := Host.absf main_arg2
  let main_cst : FVec F S_ .f32 := constant S_ .f32 0x7F7FFFFF#32
  let main_v1 : FVec F S2x2048x18944 .f32 := broadcastInDim S2x2048x18944 ![] bcast_S_S2x2048x18944 main_cst
  let main_v2 : IVec S2x2048x18944 1 := cmpf .ole main_v0 main_v1
  main_v2
-- ==== Kernel.lean ====
abbrev S2x2048x3584 : Shape := ⟨3, ![2, 2048, 3584]⟩
abbrev S2x16x28 : Shape := ⟨3, ![2, 16, 28]⟩
abbrev S2x2048x18944 : Shape := ⟨3, ![2, 2048, 18944]⟩
abbrev S4096x3584 : Shape := ⟨2, ![4096, 3584]⟩
abbrev S32x28 : Shape := ⟨2, ![32, 28]⟩
abbrev S4096x18944 : Shape := ⟨2, ![4096, 18944]⟩
abbrev S3584x18944 : Shape := ⟨2, ![3584, 18944]⟩
abbrev S74x32x128 : Shape := ⟨3, ![74, 32, 128]⟩
abbrev S4096x256 : Shape := ⟨2, ![4096, 256]⟩
abbrev S896x256 : Shape := ⟨2, ![896, 256]⟩
abbrev S1x32x128 : Shape := ⟨3, ![1, 32, 128]⟩
abbrev S3584x4096 : Shape := ⟨2, ![3584, 4096]⟩
abbrev S256x3584 : Shape := ⟨2, ![256, 3584]⟩
abbrev S_ : Shape := ⟨0, ![]⟩
abbrev S128x128 : Shape := ⟨2, ![128, 128]⟩
abbrev S1x1 : Shape := ⟨2, ![1, 1]⟩
abbrev S1x128 : Shape := ⟨2, ![1, 128]⟩
abbrev S128 : Shape := ⟨1, ![128]⟩
abbrev S1 : Shape := ⟨1, ![1]⟩
abbrev S1x256 : Shape := ⟨2, ![1, 256]⟩
abbrev S1x1x128 : Shape := ⟨3, ![1, 1, 128]⟩
abbrev S896x4096 : Shape := ⟨2, ![896, 4096]⟩
abbrev S74x32x2 : Shape := ⟨3, ![74, 32, 2]⟩
abbrev S32x74x2 : Shape := ⟨3, ![32, 74, 2]⟩
abbrev S2x16x148 : Shape := ⟨3, ![2, 16, 148]⟩

abbrev nBuf : Space → Nat
  | .hbm => 20
  | .vmem => 18
  | .smem => 1
  | _ => 0

abbrev bufTy : (tb : Table) → Fin (tcTables nBuf tb) → BufTy
  | .hbm, ⟨0, _⟩ => ⟨S2x2048x3584, .fp8e4m3⟩
  | .hbm, ⟨1, _⟩ => ⟨S2x16x28, .f32⟩
  | .hbm, ⟨2, _⟩ => ⟨S2x2048x18944, .f32⟩
  | .hbm, ⟨3, _⟩ => ⟨S4096x3584, .fp8e4m3⟩
  | .hbm, ⟨4, _⟩ => ⟨S32x28, .f32⟩
  | .hbm, ⟨5, _⟩ => ⟨S4096x18944, .f32⟩
  | .hbm, ⟨6, _⟩ => ⟨S3584x18944, .f32⟩
  | .hbm, ⟨7, _⟩ => ⟨S3584x18944, .f32⟩
  | .hbm, ⟨8, _⟩ => ⟨S4096x18944, .fp8e5m2⟩
  | .hbm, ⟨9, _⟩ => ⟨S74x32x128, .f32⟩
  | .hbm, ⟨10, _⟩ => ⟨S4096x18944, .fp8e4m3⟩
  | .hbm, ⟨11, _⟩ => ⟨S74x32x128, .f32⟩
  | .hbm, ⟨12, _⟩ => ⟨S2x2048x18944, .fp8e5m2⟩
  | .hbm, ⟨13, _⟩ => ⟨S74x32x2, .f32⟩
  | .hbm, ⟨14, _⟩ => ⟨S32x74x2, .f32⟩
  | .hbm, ⟨15, _⟩ => ⟨S2x16x148, .f32⟩
  | .hbm, ⟨16, _⟩ => ⟨S2x2048x18944, .fp8e4m3⟩
  | .hbm, ⟨17, _⟩ => ⟨S74x32x2, .f32⟩
  | .hbm, ⟨18, _⟩ => ⟨S32x74x2, .f32⟩
  | .hbm, ⟨19, _⟩ => ⟨S2x16x148, .f32⟩
  | .local _ .vmem, ⟨0, _⟩ => ⟨S4096x256, .f32⟩
  | .local _ .vmem, ⟨1, _⟩ => ⟨S4096x256, .f32⟩
  | .local _ .vmem, ⟨2, _⟩ => ⟨S896x256, .f32⟩
  | .local _ .vmem, ⟨3, _⟩ => ⟨S896x256, .f32⟩
  | .local _ .vmem, ⟨4, _⟩ => ⟨S896x256, .f32⟩
  | .local _ .vmem, ⟨5, _⟩ => ⟨S896x256, .f32⟩
  | .local _ .vmem, ⟨6, _⟩ => ⟨S4096x256, .fp8e5m2⟩
  | .local _ .vmem, ⟨7, _⟩ => ⟨S4096x256, .fp8e5m2⟩
  | .local _ .vmem, ⟨8, _⟩ => ⟨S1x32x128, .f32⟩
  | .local _ .vmem, ⟨9, _⟩ => ⟨S1x32x128, .f32⟩
  | .local _ .vmem, ⟨10, _⟩ => ⟨S4096x256, .fp8e4m3⟩
  | .local _ .vmem, ⟨11, _⟩ => ⟨S4096x256, .fp8e4m3⟩
  | .local _ .vmem, ⟨12, _⟩ => ⟨S1x32x128, .f32⟩
  | .local _ .vmem, ⟨13, _⟩ => ⟨S1x32x128, .f32⟩
  | .local _ .vmem, ⟨14, _⟩ => ⟨S3584x4096, .bf16⟩
  | .local _ .vmem, ⟨15, _⟩ => ⟨S4096x256, .bf16⟩
  | .local _ .vmem, ⟨16, _⟩ => ⟨S4096x256, .bf16⟩
  | .local _ .vmem, ⟨17, _⟩ => ⟨S256x3584, .fp8e4m3⟩
  | .local _ .smem, ⟨0, _⟩ => ⟨S32x28, .f32⟩
  | _, _ => ⟨S2x2048x3584, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .smem, ⟨0, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3_0 : Ref sig .tc := ⟨.hbm, 6, rfl⟩
abbrev main_v3_1 : Ref sig .tc := ⟨.hbm, 7, rfl⟩
abbrev main_v3_2 : Ref sig .tc := ⟨.hbm, 8, rfl⟩
abbrev main_v3_3 : Ref sig .tc := ⟨.hbm, 9, rfl⟩
abbrev main_v3_4 : Ref sig .tc := ⟨.hbm, 10, rfl⟩
abbrev main_v3_5 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_scratch0 : Ref sig .tc := ⟨.vmem, 14, rfl⟩
abbrev cc0_scratch1 : Ref sig .tc := ⟨.vmem, 15, rfl⟩
abbrev cc0_scratch2 : Ref sig .tc := ⟨.vmem, 16, rfl⟩
abbrev cc0_scratch3 : Ref sig .tc := ⟨.vmem, 17, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14

abbrev nD : Nat := 1
abbrev τ : Topo := Topo.v7x

variable {F : FTy → Type} [FloatOps F]

abbrev grid0 : Pipeline.Grid := ⟨2, ![74, 4], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let arg1 : BitVec 32 := BitVec.ofNat 32 (i 1).val
  let c0_i32_0 : BitVec 32 := 0#32
  let v1 : BitVec 1 := Scalar.cmpi .eq arg1 c0_i32_0
  let v2 : BitVec 1 := Scalar.andi v0 v1
  let v3 : BitVec 32 := Scalar.extui v2
  let c0_i32_1 : BitVec 32 := 0#32
  let v4 : BitVec 1 := Scalar.cmpi .ne v3 c0_i32_1
  v4

@[reducible] def k0_t1_loop : Scf.Loop 32 :=
  let c0_i32_19 : BitVec 32 := 0#32
  let c16_i32 : BitVec 32 := 16#32
  let v23 : BitVec 32 := Scalar.addi c0_i32_19 c16_i32
  let c1_i32 : BitVec 32 := 1#32
  ⟨c0_i32_19, v23, c1_i32⟩
def k0_off1 (k0_t1 : Fin k0_t1_loop.trips) : Fin 2 → Nat :=
  let c0_i32_19 : BitVec 32 := 0#32
  let c1_i32 : BitVec 32 := 1#32
  let arg16 : BitVec 32 := Scf.iv c0_i32_19 c1_i32 k0_t1
  let c256_i32 : BitVec 32 := 256#32
  let v24 : BitVec 32 := Scalar.muli arg16 c256_i32
  let c0_i32_21 : BitVec 32 := 0#32
  ![v24.toNat, 0]
def k0_off2 (k0_t1 : Fin k0_t1_loop.trips) (c0_i32_25 : BitVec 32) : Fin 2 → Nat :=
  let c0_i32_19 : BitVec 32 := 0#32
  let c1_i32 : BitVec 32 := 1#32
  let arg16 : BitVec 32 := Scf.iv c0_i32_19 c1_i32 k0_t1
  let c2_i32 : BitVec 32 := 2#32
  let v28 : BitVec 32 := Scalar.muli arg16 c2_i32
  let v29 : BitVec 32 := Scalar.addi v28 c0_i32_25
  let v30 : Index := Scalar.indexCast v29
  let c0_26 : Index := 0#32
  ![v30.toNat, 0]
def k0_off3 (k0_t1 : Fin k0_t1_loop.trips) (c0_i32_28 : BitVec 32) : Fin 2 → Nat :=
  let c0_29 : Index := 0#32
  let c0_i32_19 : BitVec 32 := 0#32
  let c1_i32 : BitVec 32 := 1#32
  let arg16 : BitVec 32 := Scf.iv c0_i32_19 c1_i32 k0_t1
  let c256_i32_27 : BitVec 32 := 256#32
  let v38 : BitVec 32 := Scalar.muli arg16 c256_i32_27
  let v39 : BitVec 32 := Scalar.addi v38 c0_i32_28
  let v40 : Index := Scalar.indexCast v39
  ![0, v40.toNat]
def k0_off4 (k0_t1 : Fin k0_t1_loop.trips) (c0_i32_39 : BitVec 32) : Fin 2 → Nat :=
  let c0_i32_19 : BitVec 32 := 0#32
  let c1_i32 : BitVec 32 := 1#32
  let arg16 : BitVec 32 := Scf.iv c0_i32_19 c1_i32 k0_t1
  let c2_i32_38 : BitVec 32 := 2#32
  let v62 : BitVec 32 := Scalar.muli arg16 c2_i32_38
  let v63 : BitVec 32 := Scalar.addi v62 c0_i32_39
  let v64 : Index := Scalar.indexCast v63
  let c1 : Index := 1#32
  ![v64.toNat, 1]
def k0_off5 (k0_t1 : Fin k0_t1_loop.trips) (c0_i32_41 : BitVec 32) : Fin 2 → Nat :=
  let c128_42 : Index := 128#32
  let c0_i32_19 : BitVec 32 := 0#32
  let c1_i32 : BitVec 32 := 1#32
  let arg16 : BitVec 32 := Scf.iv c0_i32_19 c1_i32 k0_t1
  let c256_i32_40 : BitVec 32 := 256#32
  let v72 : BitVec 32 := Scalar.muli arg16 c256_i32_40
  let v73 : BitVec 32 := Scalar.addi v72 c0_i32_41
  let v74 : Index := Scalar.indexCast v73
  ![128, v74.toNat]
def k0_off6 (k0_t1 : Fin k0_t1_loop.trips) (c0_i32_53 : BitVec 32) : Fin 2 → Nat :=
  let c0_i32_19 : BitVec 32 := 0#32
  let c1_i32 : BitVec 32 := 1#32
  let arg16 : BitVec 32 := Scf.iv c0_i32_19 c1_i32 k0_t1
  let c2_i32_52 : BitVec 32 := 2#32
  let v96 : BitVec 32 := Scalar.muli arg16 c2_i32_52
  let v97 : BitVec 32 := Scalar.addi v96 c0_i32_53
  let v98 : Index := Scalar.indexCast v97
  let c2 : Index := 2#32
  ![v98.toNat, 2]
def k0_off7 (k0_t1 : Fin k0_t1_loop.trips) (c0_i32_55 : BitVec 32) : Fin 2 → Nat :=
  let c256_56 : Index := 256#32
  let c0_i32_19 : BitVec 32 := 0#32
  let c1_i32 : BitVec 32 := 1#32
  let arg16 : BitVec 32 := Scf.iv c0_i32_19 c1_i32 k0_t1
  let c256_i32_54 : BitVec 32 := 256#32
  let v106 : BitVec 32 := Scalar.muli arg16 c256_i32_54
  let v107 : BitVec 32 := Scalar.addi v106 c0_i32_55
  let v108 : Index := Scalar.indexCast v107
  ![256, v108.toNat]
def k0_off8 (k0_t1 : Fin k0_t1_loop.trips) (c0_i32_67 : BitVec 32) : Fin 2 → Nat :=
  let c0_i32_19 : BitVec 32 := 0#32
  let c1_i32 : BitVec 32 := 1#32
  let arg16 : BitVec 32 := Scf.iv c0_i32_19 c1_i32 k0_t1
  let c2_i32_66 : BitVec 32 := 2#32
  let v130 : BitVec 32 := Scalar.muli arg16 c2_i32_66
  let v131 : BitVec 32 := Scalar.addi v130 c0_i32_67
  let v132 : Index := Scalar.indexCast v131
  let c3 : Index := 3#32
  ![v132.toNat, 3]
def k0_off9 (k0_t1 : Fin k0_t1_loop.trips) (c0_i32_69 : BitVec 32) : Fin 2 → Nat :=
  let c384_70 : Index := 384#32
  let c0_i32_19 : BitVec 32 := 0#32
  let c1_i32 : BitVec 32 := 1#32
  let arg16 : BitVec 32 := Scf.iv c0_i32_19 c1_i32 k0_t1
  let c256_i32_68 : BitVec 32 := 256#32
  let v140 : BitVec 32 := Scalar.muli arg16 c256_i32_68
  let v141 : BitVec 32 := Scalar.addi v140 c0_i32_69
  let v142 : Index := Scalar.indexCast v141
  ![384, v142.toNat]
def k0_off10 (k0_t1 : Fin k0_t1_loop.trips) (c0_i32_81 : BitVec 32) : Fin 2 → Nat :=
  let c0_i32_19 : BitVec 32 := 0#32
  let c1_i32 : BitVec 32 := 1#32
  let arg16 : BitVec 32 := Scf.iv c0_i32_19 c1_i32 k0_t1
  let c2_i32_80 : BitVec 32 := 2#32
  let v164 : BitVec 32 := Scalar.muli arg16 c2_i32_80
  let v165 : BitVec 32 := Scalar.addi v164 c0_i32_81
  let v166 : Index := Scalar.indexCast v165
  let c4 : Index := 4#32
  ![v166.toNat, 4]
def k0_off11 (k0_t1 : Fin k0_t1_loop.trips) (c0_i32_83 : BitVec 32) : Fin 2 → Nat :=
  let c512_84 : Index := 512#32
  let c0_i32_19 : BitVec 32 := 0#32
  let c1_i32 : BitVec 32 := 1#32
  let arg16 : BitVec 32 := Scf.iv c0_i32_19 c1_i32 k0_t1
  let c256_i32_82 : BitVec 32 := 256#32
  let v174 : BitVec 32 := Scalar.muli arg16 c256_i32_82
  let v175 : BitVec 32 := Scalar.addi v174 c0_i32_83
  let v176 : Index := Scalar.indexCast v175
  ![512, v176.toNat]
def k0_off12 (k0_t1 : Fin k0_t1_loop.trips) (c0_i32_95 : BitVec 32) : Fin 2 → Nat :=
  let c0_i32_19 : BitVec 32 := 0#32
  let c1_i32 : BitVec 32 := 1#32
  let arg16 : BitVec 32 := Scf.iv c0_i32_19 c1_i32 k0_t1
  let c2_i32_94 : BitVec 32 := 2#32
  let v198 : BitVec 32 := Scalar.muli arg16 c2_i32_94
  let v199 : BitVec 32 := Scalar.addi v198 c0_i32_95
  let v200 : Index := Scalar.indexCast v199
  let c5 : Index := 5#32
  ![v200.toNat, 5]
def k0_off13 (k0_t1 : Fin k0_t1_loop.trips) (c0_i32_97 : BitVec 32) : Fin 2 → Nat :=
  let c640_98 : Index := 640#32
  let c0_i32_19 : BitVec 32 := 0#32
  let c1_i32 : BitVec 32 := 1#32
  let arg16 : BitVec 32 := Scf.iv c0_i32_19 c1_i32 k0_t1
  let c256_i32_96 : BitVec 32 := 256#32
  let v208 : BitVec 32 := Scalar.muli arg16 c256_i32_96
  let v209 : BitVec 32 := Scalar.addi v208 c0_i32_97
  let v210 : Index := Scalar.indexCast v209
  ![640, v210.toNat]
def k0_off14 (k0_t1 : Fin k0_t1_loop.trips) (c0_i32_109 : BitVec 32) : Fin 2 → Nat :=
  let c0_i32_19 : BitVec 32 := 0#32
  let c1_i32 : BitVec 32 := 1#32
  let arg16 : BitVec 32 := Scf.iv c0_i32_19 c1_i32 k0_t1
  let c2_i32_108 : BitVec 32 := 2#32
  let v232 : BitVec 32 := Scalar.muli arg16 c2_i32_108
  let v233 : BitVec 32 := Scalar.addi v232 c0_i32_109
  let v234 : Index := Scalar.indexCast v233
  let c6 : Index := 6#32
  ![v234.toNat, 6]
def k0_off15 (k0_t1 : Fin k0_t1_loop.trips) (c0_i32_111 : BitVec 32) : Fin 2 → Nat :=
  let c768_112 : Index := 768#32
  let c0_i32_19 : BitVec 32 := 0#32
  let c1_i32 : BitVec 32 := 1#32
  let arg16 : BitVec 32 := Scf.iv c0_i32_19 c1_i32 k0_t1
  let c256_i32_110 : BitVec 32 := 256#32
  let v242 : BitVec 32 := Scalar.muli arg16 c256_i32_110
  let v243 : BitVec 32 := Scalar.addi v242 c0_i32_111
  let v244 : Index := Scalar.indexCast v243
  ![768, v244.toNat]
def k0_off16 (k0_t1 : Fin k0_t1_loop.trips) (c0_i32_123 : BitVec 32) : Fin 2 → Nat :=
  let c0_i32_19 : BitVec 32 := 0#32
  let c1_i32 : BitVec 32 := 1#32
  let arg16 : BitVec 32 := Scf.iv c0_i32_19 c1_i32 k0_t1
  let c2_i32_122 : BitVec 32 := 2#32
  let v266 : BitVec 32 := Scalar.muli arg16 c2_i32_122
  let v267 : BitVec 32 := Scalar.addi v266 c0_i32_123
  let v268 : Index := Scalar.indexCast v267
  let c7 : Index := 7#32
  ![v268.toNat, 7]
def k0_off17 (k0_t1 : Fin k0_t1_loop.trips) (c0_i32_125 : BitVec 32) : Fin 2 → Nat :=
  let c896_126 : Index := 896#32
  let c0_i32_19 : BitVec 32 := 0#32
  let c1_i32 : BitVec 32 := 1#32
  let arg16 : BitVec 32 := Scf.iv c0_i32_19 c1_i32 k0_t1
  let c256_i32_124 : BitVec 32 := 256#32
  let v276 : BitVec 32 := Scalar.muli arg16 c256_i32_124
  let v277 : BitVec 32 := Scalar.addi v276 c0_i32_125
  let v278 : Index := Scalar.indexCast v277
  ![896, v278.toNat]
def k0_off18 (k0_t1 : Fin k0_t1_loop.trips) (c0_i32_137 : BitVec 32) : Fin 2 → Nat :=
  let c0_i32_19 : BitVec 32 := 0#32
  let c1_i32 : BitVec 32 := 1#32
  let arg16 : BitVec 32 := Scf.iv c0_i32_19 c1_i32 k0_t1
  let c2_i32_136 : BitVec 32 := 2#32
  let v300 : BitVec 32 := Scalar.muli arg16 c2_i32_136
  let v301 : BitVec 32 := Scalar.addi v300 c0_i32_137
  let v302 : Index := Scalar.indexCast v301
  let c8 : Index := 8#32
  ![v302.toNat, 8]
def k0_off19 (k0_t1 : Fin k0_t1_loop.trips) (c0_i32_139 : BitVec 32) : Fin 2 → Nat :=
  let c1024_140 : Index := 1024#32
  let c0_i32_19 : BitVec 32 := 0#32
  let c1_i32 : BitVec 32 := 1#32
  let arg16 : BitVec 32 := Scf.iv c0_i32_19 c1_i32 k0_t1
  let c256_i32_138 : BitVec 32 := 256#32
  let v310 : BitVec 32 := Scalar.muli arg16 c256_i32_138
  let v311 : BitVec 32 := Scalar.addi v310 c0_i32_139
  let v312 : Index := Scalar.indexCast v311
  ![1024, v312.toNat]
def k0_off20 (k0_t1 : Fin k0_t1_loop.trips) (c0_i32_151 : BitVec 32) : Fin 2 → Nat :=
  let c0_i32_19 : BitVec 32 := 0#32
  let c1_i32 : BitVec 32 := 1#32
  let arg16 : BitVec 32 := Scf.iv c0_i32_19 c1_i32 k0_t1
  let c2_i32_150 : BitVec 32 := 2#32
  let v334 : BitVec 32 := Scalar.muli arg16 c2_i32_150
  let v335 : BitVec 32 := Scalar.addi v334 c0_i32_151
  let v336 : Index := Scalar.indexCast v335
  let c9 : Index := 9#32
  ![v336.toNat, 9]
def k0_off21 (k0_t1 : Fin k0_t1_loop.trips) (c0_i32_153 : BitVec 32) : Fin 2 → Nat :=
  let c1152_154 : Index := 1152#32
  let c0_i32_19 : BitVec 32 := 0#32
  let c1_i32 : BitVec 32 := 1#32
  let arg16 : BitVec 32 := Scf.iv c0_i32_19 c1_i32 k0_t1
  let c256_i32_152 : BitVec 32 := 256#32
  let v344 : BitVec 32 := Scalar.muli arg16 c256_i32_152
  let v345 : BitVec 32 := Scalar.addi v344 c0_i32_153
  let v346 : Index := Scalar.indexCast v345
  ![1152, v346.toNat]
def k0_off22 (k0_t1 : Fin k0_t1_loop.trips) (c0_i32_165 : BitVec 32) : Fin 2 → Nat :=
  let c0_i32_19 : BitVec 32 := 0#32
  let c1_i32 : BitVec 32 := 1#32
  let arg16 : BitVec 32 := Scf.iv c0_i32_19 c1_i32 k0_t1
  let c2_i32_164 : BitVec 32 := 2#32
  let v368 : BitVec 32 := Scalar.muli arg16 c2_i32_164
  let v369 : BitVec 32 := Scalar.addi v368 c0_i32_165
  let v370 : Index := Scalar.indexCast v369
  let c10 : Index := 10#32
  ![v370.toNat, 10]
def k0_off23 (k0_t1 : Fin k0_t1_loop.trips) (c0_i32_167 : BitVec 32) : Fin 2 → Nat :=
  let c1280_168 : Index := 1280#32
  let c0_i32_19 : BitVec 32 := 0#32
  let c1_i32 : BitVec 32 := 1#32
  let arg16 : BitVec 32 := Scf.iv c0_i32_19 c1_i32 k0_t1
  let c256_i32_166 : BitVec 32 := 256#32
  let v378 : BitVec 32 := Scalar.muli arg16 c256_i32_166
  let v379 : BitVec 32 := Scalar.addi v378 c0_i32_167
  let v380 : Index := Scalar.indexCast v379
  ![1280, v380.toNat]
def k0_off24 (k0_t1 : Fin k0_t1_loop.trips) (c0_i32_179 : BitVec 32) : Fin 2 → Nat :=
  let c0_i32_19 : BitVec 32 := 0#32
  let c1_i32 : BitVec 32 := 1#32
  let arg16 : BitVec 32 := Scf.iv c0_i32_19 c1_i32 k0_t1
  let c2_i32_178 : BitVec 32 := 2#32
  let v402 : BitVec 32 := Scalar.muli arg16 c2_i32_178
  let v403 : BitVec 32 := Scalar.addi v402 c0_i32_179
  let v404 : Index := Scalar.indexCast v403
  let c11 : Index := 11#32
  ![v404.toNat, 11]
def k0_off25 (k0_t1 : Fin k0_t1_loop.trips) (c0_i32_181 : BitVec 32) : Fin 2 → Nat :=
  let c1408_182 : Index := 1408#32
  let c0_i32_19 : BitVec 32 := 0#32
  let c1_i32 : BitVec 32 := 1#32
  let arg16 : BitVec 32 := Scf.iv c0_i32_19 c1_i32 k0_t1
  let c256_i32_180 : BitVec 32 := 256#32
  let v412 : BitVec 32 := Scalar.muli arg16 c256_i32_180
  let v413 : BitVec 32 := Scalar.addi v412 c0_i32_181
  let v414 : Index := Scalar.indexCast v413
  ![1408, v414.toNat]
def k0_off26 (k0_t1 : Fin k0_t1_loop.trips) (c0_i32_193 : BitVec 32) : Fin 2 → Nat :=
  let c0_i32_19 : BitVec 32 := 0#32
  let c1_i32 : BitVec 32 := 1#32
  let arg16 : BitVec 32 := Scf.iv c0_i32_19 c1_i32 k0_t1
  let c2_i32_192 : BitVec 32 := 2#32
  let v436 : BitVec 32 := Scalar.muli arg16 c2_i32_192
  let v437 : BitVec 32 := Scalar.addi v436 c0_i32_193
  let v438 : Index := Scalar.indexCast v437
  let c12 : Index := 12#32
  ![v438.toNat, 12]
def k0_off27 (k0_t1 : Fin k0_t1_loop.trips) (c0_i32_195 : BitVec 32) : Fin 2 → Nat :=
  let c1536_196 : Index := 1536#32
  let c0_i32_19 : BitVec 32 := 0#32
  let c1_i32 : BitVec 32 := 1#32
  let arg16 : BitVec 32 := Scf.iv c0_i32_19 c1_i32 k0_t1
  let c256_i32_194 : BitVec 32 := 256#32
  let v446 : BitVec 32 := Scalar.muli arg16 c256_i32_194
  let v447 : BitVec 32 := Scalar.addi v446 c0_i32_195
  let v448 : Index := Scalar.indexCast v447
  ![1536, v448.toNat]
def k0_off28 (k0_t1 : Fin k0_t1_loop.trips) (c0_i32_207 : BitVec 32) : Fin 2 → Nat :=
  let c0_i32_19 : BitVec 32 := 0#32
  let c1_i32 : BitVec 32 := 1#32
  let arg16 : BitVec 32 := Scf.iv c0_i32_19 c1_i32 k0_t1
  let c2_i32_206 : BitVec 32 := 2#32
  let v470 : BitVec 32 := Scalar.muli arg16 c2_i32_206
  let v471 : BitVec 32 := Scalar.addi v470 c0_i32_207
  let v472 : Index := Scalar.indexCast v471
  let c13 : Index := 13#32
  ![v472.toNat, 13]
def k0_off29 (k0_t1 : Fin k0_t1_loop.trips) (c0_i32_209 : BitVec 32) : Fin 2 → Nat :=
  let c1664_210 : Index := 1664#32
  let c0_i32_19 : BitVec 32 := 0#32
  let c1_i32 : BitVec 32 := 1#32
  let arg16 : BitVec 32 := Scf.iv c0_i32_19 c1_i32 k0_t1
  let c256_i32_208 : BitVec 32 := 256#32
  let v480 : BitVec 32 := Scalar.muli arg16 c256_i32_208
  let v481 : BitVec 32 := Scalar.addi v480 c0_i32_209
  let v482 : Index := Scalar.indexCast v481
  ![1664, v482.toNat]
def k0_off30 (k0_t1 : Fin k0_t1_loop.trips) (c0_i32_221 : BitVec 32) : Fin 2 → Nat :=
  let c0_i32_19 : BitVec 32 := 0#32
  let c1_i32 : BitVec 32 := 1#32
  let arg16 : BitVec 32 := Scf.iv c0_i32_19 c1_i32 k0_t1
  let c2_i32_220 : BitVec 32 := 2#32
  let v504 : BitVec 32 := Scalar.muli arg16 c2_i32_220
  let v505 : BitVec 32 := Scalar.addi v504 c0_i32_221
  let v506 : Index := Scalar.indexCast v505
  let c14 : Index := 14#32
  ![v506.toNat, 14]
def k0_off31 (k0_t1 : Fin k0_t1_loop.trips) (c0_i32_223 : BitVec 32) : Fin 2 → Nat :=
  let c1792_224 : Index := 1792#32
  let c0_i32_19 : BitVec 32 := 0#32
  let c1_i32 : BitVec 32 := 1#32
  let arg16 : BitVec 32 := Scf.iv c0_i32_19 c1_i32 k0_t1
  let c256_i32_222 : BitVec 32 := 256#32
  let v514 : BitVec 32 := Scalar.muli arg16 c256_i32_222
  let v515 : BitVec 32 := Scalar.addi v514 c0_i32_223
  let v516 : Index := Scalar.indexCast v515
  ![1792, v516.toNat]
def k0_off32 (k0_t1 : Fin k0_t1_loop.trips) (c0_i32_235 : BitVec 32) : Fin 2 → Nat :=
  let c0_i32_19 : BitVec 32 := 0#32
  let c1_i32 : BitVec 32 := 1#32
  let arg16 : BitVec 32 := Scf.iv c0_i32_19 c1_i32 k0_t1
  let c2_i32_234 : BitVec 32 := 2#32
  let v538 : BitVec 32 := Scalar.muli arg16 c2_i32_234
  let v539 : BitVec 32 := Scalar.addi v538 c0_i32_235
  let v540 : Index := Scalar.indexCast v539
  let c15 : Index := 15#32
  ![v540.toNat, 15]
def k0_off33 (k0_t1 : Fin k0_t1_loop.trips) (c0_i32_237 : BitVec 32) : Fin 2 → Nat :=
  let c1920_238 : Index := 1920#32
  let c0_i32_19 : BitVec 32 := 0#32
  let c1_i32 : BitVec 32 := 1#32
  let arg16 : BitVec 32 := Scf.iv c0_i32_19 c1_i32 k0_t1
  let c256_i32_236 : BitVec 32 := 256#32
  let v548 : BitVec 32 := Scalar.muli arg16 c256_i32_236
  let v549 : BitVec 32 := Scalar.addi v548 c0_i32_237
  let v550 : Index := Scalar.indexCast v549
  ![1920, v550.toNat]
def k0_off34 (k0_t1 : Fin k0_t1_loop.trips) (c0_i32_249 : BitVec 32) : Fin 2 → Nat :=
  let c0_i32_19 : BitVec 32 := 0#32
  let c1_i32 : BitVec 32 := 1#32
  let arg16 : BitVec 32 := Scf.iv c0_i32_19 c1_i32 k0_t1
  let c2_i32_248 : BitVec 32 := 2#32
  let v572 : BitVec 32 := Scalar.muli arg16 c2_i32_248
  let v573 : BitVec 32 := Scalar.addi v572 c0_i32_249
  let v574 : Index := Scalar.indexCast v573
  let c16 : Index := 16#32
  ![v574.toNat, 16]
def k0_off35 (k0_t1 : Fin k0_t1_loop.trips) (c0_i32_251 : BitVec 32) : Fin 2 → Nat :=
  let c2048_252 : Index := 2048#32
  let c0_i32_19 : BitVec 32 := 0#32
  let c1_i32 : BitVec 32 := 1#32
  let arg16 : BitVec 32 := Scf.iv c0_i32_19 c1_i32 k0_t1
  let c256_i32_250 : BitVec 32 := 256#32
  let v582 : BitVec 32 := Scalar.muli arg16 c256_i32_250
  let v583 : BitVec 32 := Scalar.addi v582 c0_i32_251
  let v584 : Index := Scalar.indexCast v583
  ![2048, v584.toNat]
def k0_off36 (k0_t1 : Fin k0_t1_loop.trips) (c0_i32_263 : BitVec 32) : Fin 2 → Nat :=
  let c0_i32_19 : BitVec 32 := 0#32
  let c1_i32 : BitVec 32 := 1#32
  let arg16 : BitVec 32 := Scf.iv c0_i32_19 c1_i32 k0_t1
  let c2_i32_262 : BitVec 32 := 2#32
  let v606 : BitVec 32 := Scalar.muli arg16 c2_i32_262
  let v607 : BitVec 32 := Scalar.addi v606 c0_i32_263
  let v608 : Index := Scalar.indexCast v607
  let c17 : Index := 17#32
  ![v608.toNat, 17]
def k0_off37 (k0_t1 : Fin k0_t1_loop.trips) (c0_i32_265 : BitVec 32) : Fin 2 → Nat :=
  let c2176_266 : Index := 2176#32
  let c0_i32_19 : BitVec 32 := 0#32
  let c1_i32 : BitVec 32 := 1#32
  let arg16 : BitVec 32 := Scf.iv c0_i32_19 c1_i32 k0_t1
  let c256_i32_264 : BitVec 32 := 256#32
  let v616 : BitVec 32 := Scalar.muli arg16 c256_i32_264
  let v617 : BitVec 32 := Scalar.addi v616 c0_i32_265
  let v618 : Index := Scalar.indexCast v617
  ![2176, v618.toNat]
def k0_off38 (k0_t1 : Fin k0_t1_loop.trips) (c0_i32_277 : BitVec 32) : Fin 2 → Nat :=
  let c0_i32_19 : BitVec 32 := 0#32
  let c1_i32 : BitVec 32 := 1#32
  let arg16 : BitVec 32 := Scf.iv c0_i32_19 c1_i32 k0_t1
  let c2_i32_276 : BitVec 32 := 2#32
  let v640 : BitVec 32 := Scalar.muli arg16 c2_i32_276
  let v641 : BitVec 32 := Scalar.addi v640 c0_i32_277
  let v642 : Index := Scalar.indexCast v641
  let c18 : Index := 18#32
  ![v642.toNat, 18]
def k0_off39 (k0_t1 : Fin k0_t1_loop.trips) (c0_i32_279 : BitVec 32) : Fin 2 → Nat :=
  let c2304_280 : Index := 2304#32
  let c0_i32_19 : BitVec 32 := 0#32
  let c1_i32 : BitVec 32 := 1#32
  let arg16 : BitVec 32 := Scf.iv c0_i32_19 c1_i32 k0_t1
  let c256_i32_278 : BitVec 32 := 256#32
  let v650 : BitVec 32 := Scalar.muli arg16 c256_i32_278
  let v651 : BitVec 32 := Scalar.addi v650 c0_i32_279
  let v652 : Index := Scalar.indexCast v651
  ![2304, v652.toNat]
def k0_off40 (k0_t1 : Fin k0_t1_loop.trips) (c0_i32_291 : BitVec 32) : Fin 2 → Nat :=
  let c0_i32_19 : BitVec 32 := 0#32
  let c1_i32 : BitVec 32 := 1#32
  let arg16 : BitVec 32 := Scf.iv c0_i32_19 c1_i32 k0_t1
  let c2_i32_290 : BitVec 32 := 2#32
  let v674 : BitVec 32 := Scalar.muli arg16 c2_i32_290
  let v675 : BitVec 32 := Scalar.addi v674 c0_i32_291
  let v676 : Index := Scalar.indexCast v675
  let c19 : Index := 19#32
  ![v676.toNat, 19]
def k0_off41 (k0_t1 : Fin k0_t1_loop.trips) (c0_i32_293 : BitVec 32) : Fin 2 → Nat :=
  let c2432_294 : Index := 2432#32
  let c0_i32_19 : BitVec 32 := 0#32
  let c1_i32 : BitVec 32 := 1#32
  let arg16 : BitVec 32 := Scf.iv c0_i32_19 c1_i32 k0_t1
  let c256_i32_292 : BitVec 32 := 256#32
  let v684 : BitVec 32 := Scalar.muli arg16 c256_i32_292
  let v685 : BitVec 32 := Scalar.addi v684 c0_i32_293
  let v686 : Index := Scalar.indexCast v685
  ![2432, v686.toNat]
def k0_off42 (k0_t1 : Fin k0_t1_loop.trips) (c0_i32_305 : BitVec 32) : Fin 2 → Nat :=
  let c0_i32_19 : BitVec 32 := 0#32
  let c1_i32 : BitVec 32 := 1#32
  let arg16 : BitVec 32 := Scf.iv c0_i32_19 c1_i32 k0_t1
  let c2_i32_304 : BitVec 32 := 2#32
  let v708 : BitVec 32 := Scalar.muli arg16 c2_i32_304
  let v709 : BitVec 32 := Scalar.addi v708 c0_i32_305
  let v710 : Index := Scalar.indexCast v709
  let c20 : Index := 20#32
  ![v710.toNat, 20]
def k0_off43 (k0_t1 : Fin k0_t1_loop.trips) (c0_i32_307 : BitVec 32) : Fin 2 → Nat :=
  let c2560_308 : Index := 2560#32
  let c0_i32_19 : BitVec 32 := 0#32
  let c1_i32 : BitVec 32 := 1#32
  let arg16 : BitVec 32 := Scf.iv c0_i32_19 c1_i32 k0_t1
  let c256_i32_306 : BitVec 32 := 256#32
  let v718 : BitVec 32 := Scalar.muli arg16 c256_i32_306
  let v719 : BitVec 32 := Scalar.addi v718 c0_i32_307
  let v720 : Index := Scalar.indexCast v719
  ![2560, v720.toNat]
def k0_off44 (k0_t1 : Fin k0_t1_loop.trips) (c0_i32_319 : BitVec 32) : Fin 2 → Nat :=
  let c0_i32_19 : BitVec 32 := 0#32
  let c1_i32 : BitVec 32 := 1#32
  let arg16 : BitVec 32 := Scf.iv c0_i32_19 c1_i32 k0_t1
  let c2_i32_318 : BitVec 32 := 2#32
  let v742 : BitVec 32 := Scalar.muli arg16 c2_i32_318
  let v743 : BitVec 32 := Scalar.addi v742 c0_i32_319
  let v744 : Index := Scalar.indexCast v743
  let c21 : Index := 21#32
  ![v744.toNat, 21]
def k0_off45 (k0_t1 : Fin k0_t1_loop.trips) (c0_i32_321 : BitVec 32) : Fin 2 → Nat :=
  let c2688_322 : Index := 2688#32
  let c0_i32_19 : BitVec 32 := 0#32
  let c1_i32 : BitVec 32 := 1#32
  let arg16 : BitVec 32 := Scf.iv c0_i32_19 c1_i32 k0_t1
  let c256_i32_320 : BitVec 32 := 256#32
  let v752 : BitVec 32 := Scalar.muli arg16 c256_i32_320
  let v753 : BitVec 32 := Scalar.addi v752 c0_i32_321
  let v754 : Index := Scalar.indexCast v753
  ![2688, v754.toNat]
def k0_off46 (k0_t1 : Fin k0_t1_loop.trips) (c0_i32_333 : BitVec 32) : Fin 2 → Nat :=
  let c0_i32_19 : BitVec 32 := 0#32
  let c1_i32 : BitVec 32 := 1#32
  let arg16 : BitVec 32 := Scf.iv c0_i32_19 c1_i32 k0_t1
  let c2_i32_332 : BitVec 32 := 2#32
  let v776 : BitVec 32 := Scalar.muli arg16 c2_i32_332
  let v777 : BitVec 32 := Scalar.addi v776 c0_i32_333
  let v778 : Index := Scalar.indexCast v777
  let c22 : Index := 22#32
  ![v778.toNat, 22]
def k0_off47 (k0_t1 : Fin k0_t1_loop.trips) (c0_i32_335 : BitVec 32) : Fin 2 → Nat :=
  let c2816_336 : Index := 2816#32
  let c0_i32_19 : BitVec 32 := 0#32
  let c1_i32 : BitVec 32 := 1#32
  let arg16 : BitVec 32 := Scf.iv c0_i32_19 c1_i32 k0_t1
  let c256_i32_334 : BitVec 32 := 256#32
  let v786 : BitVec 32 := Scalar.muli arg16 c256_i32_334
  let v787 : BitVec 32 := Scalar.addi v786 c0_i32_335
  let v788 : Index := Scalar.indexCast v787
  ![2816, v788.toNat]
def k0_off48 (k0_t1 : Fin k0_t1_loop.trips) (c0_i32_347 : BitVec 32) : Fin 2 → Nat :=
  let c0_i32_19 : BitVec 32 := 0#32
  let c1_i32 : BitVec 32 := 1#32
  let arg16 : BitVec 32 := Scf.iv c0_i32_19 c1_i32 k0_t1
  let c2_i32_346 : BitVec 32 := 2#32
  let v810 : BitVec 32 := Scalar.muli arg16 c2_i32_346
  let v811 : BitVec 32 := Scalar.addi v810 c0_i32_347
  let v812 : Index := Scalar.indexCast v811
  let c23 : Index := 23#32
  ![v812.toNat, 23]
def k0_off49 (k0_t1 : Fin k0_t1_loop.trips) (c0_i32_349 : BitVec 32) : Fin 2 → Nat :=
  let c2944_350 : Index := 2944#32
  let c0_i32_19 : BitVec 32 := 0#32
  let c1_i32 : BitVec 32 := 1#32
  let arg16 : BitVec 32 := Scf.iv c0_i32_19 c1_i32 k0_t1
  let c256_i32_348 : BitVec 32 := 256#32
  let v820 : BitVec 32 := Scalar.muli arg16 c256_i32_348
  let v821 : BitVec 32 := Scalar.addi v820 c0_i32_349
  let v822 : Index := Scalar.indexCast v821
  ![2944, v822.toNat]
def k0_off50 (k0_t1 : Fin k0_t1_loop.trips) (c0_i32_361 : BitVec 32) : Fin 2 → Nat :=
  let c0_i32_19 : BitVec 32 := 0#32
  let c1_i32 : BitVec 32 := 1#32
  let arg16 : BitVec 32 := Scf.iv c0_i32_19 c1_i32 k0_t1
  let c2_i32_360 : BitVec 32 := 2#32
  let v844 : BitVec 32 := Scalar.muli arg16 c2_i32_360
  let v845 : BitVec 32 := Scalar.addi v844 c0_i32_361
  let v846 : Index := Scalar.indexCast v845
  let c24 : Index := 24#32
  ![v846.toNat, 24]
def k0_off51 (k0_t1 : Fin k0_t1_loop.trips) (c0_i32_363 : BitVec 32) : Fin 2 → Nat :=
  let c3072_364 : Index := 3072#32
  let c0_i32_19 : BitVec 32 := 0#32
  let c1_i32 : BitVec 32 := 1#32
  let arg16 : BitVec 32 := Scf.iv c0_i32_19 c1_i32 k0_t1
  let c256_i32_362 : BitVec 32 := 256#32
  let v854 : BitVec 32 := Scalar.muli arg16 c256_i32_362
  let v855 : BitVec 32 := Scalar.addi v854 c0_i32_363
  let v856 : Index := Scalar.indexCast v855
  ![3072, v856.toNat]
def k0_off52 (k0_t1 : Fin k0_t1_loop.trips) (c0_i32_375 : BitVec 32) : Fin 2 → Nat :=
  let c0_i32_19 : BitVec 32 := 0#32
  let c1_i32 : BitVec 32 := 1#32
  let arg16 : BitVec 32 := Scf.iv c0_i32_19 c1_i32 k0_t1
  let c2_i32_374 : BitVec 32 := 2#32
  let v878 : BitVec 32 := Scalar.muli arg16 c2_i32_374
  let v879 : BitVec 32 := Scalar.addi v878 c0_i32_375
  let v880 : Index := Scalar.indexCast v879
  let c25 : Index := 25#32
  ![v880.toNat, 25]
def k0_off53 (k0_t1 : Fin k0_t1_loop.trips) (c0_i32_377 : BitVec 32) : Fin 2 → Nat :=
  let c3200_378 : Index := 3200#32
  let c0_i32_19 : BitVec 32 := 0#32
  let c1_i32 : BitVec 32 := 1#32
  let arg16 : BitVec 32 := Scf.iv c0_i32_19 c1_i32 k0_t1
  let c256_i32_376 : BitVec 32 := 256#32
  let v888 : BitVec 32 := Scalar.muli arg16 c256_i32_376
  let v889 : BitVec 32 := Scalar.addi v888 c0_i32_377
  let v890 : Index := Scalar.indexCast v889
  ![3200, v890.toNat]
def k0_off54 (k0_t1 : Fin k0_t1_loop.trips) (c0_i32_389 : BitVec 32) : Fin 2 → Nat :=
  let c0_i32_19 : BitVec 32 := 0#32
  let c1_i32 : BitVec 32 := 1#32
  let arg16 : BitVec 32 := Scf.iv c0_i32_19 c1_i32 k0_t1
  let c2_i32_388 : BitVec 32 := 2#32
  let v912 : BitVec 32 := Scalar.muli arg16 c2_i32_388
  let v913 : BitVec 32 := Scalar.addi v912 c0_i32_389
  let v914 : Index := Scalar.indexCast v913
  let c26 : Index := 26#32
  ![v914.toNat, 26]
def k0_off55 (k0_t1 : Fin k0_t1_loop.trips) (c0_i32_391 : BitVec 32) : Fin 2 → Nat :=
  let c3328_392 : Index := 3328#32
  let c0_i32_19 : BitVec 32 := 0#32
  let c1_i32 : BitVec 32 := 1#32
  let arg16 : BitVec 32 := Scf.iv c0_i32_19 c1_i32 k0_t1
  let c256_i32_390 : BitVec 32 := 256#32
  let v922 : BitVec 32 := Scalar.muli arg16 c256_i32_390
  let v923 : BitVec 32 := Scalar.addi v922 c0_i32_391
  let v924 : Index := Scalar.indexCast v923
  ![3328, v924.toNat]
def k0_off56 (k0_t1 : Fin k0_t1_loop.trips) (c0_i32_403 : BitVec 32) : Fin 2 → Nat :=
  let c0_i32_19 : BitVec 32 := 0#32
  let c1_i32 : BitVec 32 := 1#32
  let arg16 : BitVec 32 := Scf.iv c0_i32_19 c1_i32 k0_t1
  let c2_i32_402 : BitVec 32 := 2#32
  let v946 : BitVec 32 := Scalar.muli arg16 c2_i32_402
  let v947 : BitVec 32 := Scalar.addi v946 c0_i32_403
  let v948 : Index := Scalar.indexCast v947
  let c27 : Index := 27#32
  ![v948.toNat, 27]
def k0_off57 (k0_t1 : Fin k0_t1_loop.trips) (c0_i32_405 : BitVec 32) : Fin 2 → Nat :=
  let c3456_406 : Index := 3456#32
  let c0_i32_19 : BitVec 32 := 0#32
  let c1_i32 : BitVec 32 := 1#32
  let arg16 : BitVec 32 := Scf.iv c0_i32_19 c1_i32 k0_t1
  let c256_i32_404 : BitVec 32 := 256#32
  let v956 : BitVec 32 := Scalar.muli arg16 c256_i32_404
  let v957 : BitVec 32 := Scalar.addi v956 c0_i32_405
  let v958 : Index := Scalar.indexCast v957
  ![3456, v958.toNat]
def k0_cond2 (i : grid0.Coords) : BitVec 1 :=
  let arg1 : BitVec 32 := BitVec.ofNat 32 (i 1).val
  let c0_i32_2 : BitVec 32 := 0#32
  let v5 : BitVec 1 := Scalar.cmpi .eq arg1 c0_i32_2
  let v6 : BitVec 32 := Scalar.extui v5
  let c0_i32_3 : BitVec 32 := 0#32
  let v7 : BitVec 1 := Scalar.cmpi .ne v6 c0_i32_3
  v7

@[reducible] def k0_t2_loop : Scf.Loop 32 :=
  let c0_i32_19 : BitVec 32 := 0#32
  let c32_i32 : BitVec 32 := 32#32
  let v24 : BitVec 32 := Scalar.addi c0_i32_19 c32_i32
  let c1_i32 : BitVec 32 := 1#32
  ⟨c0_i32_19, v24, c1_i32⟩
def k0_off58 (k0_t2 : Fin k0_t2_loop.trips) : Fin 2 → Nat :=
  let c0_i32_19 : BitVec 32 := 0#32
  let c1_i32 : BitVec 32 := 1#32
  let arg16 : BitVec 32 := Scf.iv c0_i32_19 c1_i32 k0_t2
  let c128_i32 : BitVec 32 := 128#32
  let v25 : BitVec 32 := Scalar.muli arg16 c128_i32
  let v28 : Index := Scalar.indexCast v25
  let c0_23 : Index := 0#32
  ![v28.toNat, 0]
def k0_off59 (k0_t2 : Fin k0_t2_loop.trips) : Fin 2 → Nat :=
  let c0_i32_19 : BitVec 32 := 0#32
  let c1_i32 : BitVec 32 := 1#32
  let arg16 : BitVec 32 := Scf.iv c0_i32_19 c1_i32 k0_t2
  let c128_i32 : BitVec 32 := 128#32
  let v25 : BitVec 32 := Scalar.muli arg16 c128_i32
  let v144 : Index := Scalar.indexCast v25
  let c128 : Index := 128#32
  ![v144.toNat, 128]
def k0_off60 (k0_t2 : Fin k0_t2_loop.trips) : Fin 3 → Nat :=
  let c0_92 : Index := 0#32
  let c0_i32_19 : BitVec 32 := 0#32
  let c1_i32 : BitVec 32 := 1#32
  let arg16 : BitVec 32 := Scf.iv c0_i32_19 c1_i32 k0_t2
  let v260 : Index := Scalar.indexCast arg16
  let c0_93 : Index := 0#32
  ![0, v260.toNat, 0]
def k0_off61 (i : grid0.Coords) : Fin 2 → Nat :=
  let arg1 : BitVec 32 := BitVec.ofNat 32 (i 1).val
  let c896_i32 : BitVec 32 := 896#32
  let v8 : BitVec 32 := Scalar.muli arg1 c896_i32
  let v9 : Index := Scalar.indexCast v8
  let c0 : Index := 0#32
  ![v9.toNat, 0]
def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .smem S32x28 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S4096x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S896x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S896x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S4096x256 .fp8e5m2 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x32x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S4096x256 .fp8e4m3 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x32x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]
-- ==== ReferenceIdeal.lean ====
abbrev S2x2048x3584 : Shape := ⟨3, ![2, 2048, 3584]⟩
abbrev S2x16x28 : Shape := ⟨3, ![2, 16, 28]⟩
abbrev S2x2048x18944 : Shape := ⟨3, ![2, 2048, 18944]⟩
abbrev S3584x18944 : Shape := ⟨2, ![3584, 18944]⟩
abbrev S2x16x148 : Shape := ⟨3, ![2, 16, 148]⟩
abbrev S2x16x128x148x128 : Shape := ⟨5, ![2, 16, 128, 148, 128]⟩
abbrev S2x16x1x148x1 : Shape := ⟨5, ![2, 16, 1, 148, 1]⟩
abbrev S2x16x128x28x128 : Shape := ⟨5, ![2, 16, 128, 28, 128]⟩
abbrev S2x16x1x28x1 : Shape := ⟨5, ![2, 16, 1, 28, 1]⟩
abbrev S4096x3584 : Shape := ⟨2, ![4096, 3584]⟩
abbrev S4096x18944 : Shape := ⟨2, ![4096, 18944]⟩

abbrev nBuf : Space → Nat
  | .hbm => 9
  | .vmem => 9
  | .smem => 0
  | _ => 0

abbrev bufTy : (tb : Table) → Fin (tcTables nBuf tb) → BufTy
  | .hbm, ⟨0, _⟩ => ⟨S2x2048x3584, .fp8e4m3⟩
  | .hbm, ⟨1, _⟩ => ⟨S2x16x28, .f32⟩
  | .hbm, ⟨2, _⟩ => ⟨S2x2048x18944, .f32⟩
  | .hbm, ⟨3, _⟩ => ⟨S3584x18944, .f32⟩
  | .hbm, ⟨4, _⟩ => ⟨S3584x18944, .f32⟩
  | .hbm, ⟨5, _⟩ => ⟨S2x2048x18944, .fp8e5m2⟩
  | .hbm, ⟨6, _⟩ => ⟨S2x16x148, .f32⟩
  | .hbm, ⟨7, _⟩ => ⟨S2x2048x18944, .fp8e4m3⟩
  | .hbm, ⟨8, _⟩ => ⟨S2x16x148, .f32⟩
  | .local _ .vmem, ⟨0, _⟩ => ⟨S2x2048x3584, .fp8e4m3⟩
  | .local _ .vmem, ⟨1, _⟩ => ⟨S2x16x28, .f32⟩
  | .local _ .vmem, ⟨2, _⟩ => ⟨S2x2048x18944, .f32⟩
  | .local _ .vmem, ⟨3, _⟩ => ⟨S3584x18944, .f32⟩
  | .local _ .vmem, ⟨4, _⟩ => ⟨S3584x18944, .f32⟩
  | .local _ .vmem, ⟨5, _⟩ => ⟨S2x2048x18944, .fp8e5m2⟩
  | .local _ .vmem, ⟨6, _⟩ => ⟨S2x16x148, .f32⟩
  | .local _ .vmem, ⟨7, _⟩ => ⟨S2x2048x18944, .fp8e4m3⟩
  | .local _ .vmem, ⟨8, _⟩ => ⟨S2x16x148, .f32⟩
  | _, _ => ⟨S2x2048x3584, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev main_v0_3 : Ref sig .tc := ⟨.hbm, 6, rfl⟩
abbrev main_v0_4 : Ref sig .tc := ⟨.hbm, 7, rfl⟩
abbrev main_v0_5 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := .none

abbrev stage0_0 : Fin 1 → Memref sig .tc .vmem S2x2048x3584 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2x16x28 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x2048x18944 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S3584x18944 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S3584x18944 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2x2048x18944 .fp8e5m2 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S2x16x148 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S2x2048x18944 .fp8e4m3 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S2x16x148 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
-- ==== Proof.Base.lean ====
/- What the value proof of `KernelIdeal` is stated over: @main around the pipelined call, the arguments kept, the inputs' blocks
   at every point, the body's two branch conditions in closed form, the memrefs the body runs on, its own transfer's cell and the
   operand it copies itself. -/
module

public import proofs.«01_k».proof.Proof.Gen.KernelIdeal.Frame
public import proofs.«01_k».proof.Proof.Gen.KernelIdeal.Launch
public import proofs.«01_k».proof.Proof.Gen.KernelIdeal.Skeleton
public import proofs.«01_k».proof.Proof.Gen.KernelIdeal.Loops
public import proofs.«01_k».proof.Proof.Gen.KernelIdeal.Points
public import Idealize.ShloMosaic.Lib.Pipeline.FrameBody
public import Idealize.ShloMosaic.Lib.Pipeline.FrameSuffixR
public import Idealize.ShloMosaic.Lib.Ring
public import Idealize.ShloMosaic.Lib.Tactic
public import Idealize.ShloMosaic.Lib.WordCmp

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

set_option maxHeartbeats 800000 in
/-- @main around the region, at the certificate's variants `𝒱₀`: the host lines before it, the region, the host lines
    after it (`Pipeline.hmain_around`, off `main_chain`): it reduces to the region CONTINUED BY the later lines. -/
theorem hmain (𝒱₀ : Variants) : Pipeline.HMainK (Ix := Unit) (Name := ℕ) (U := Pipeline.UD sig nD τ) (Lvl := ℕ) cfgs 0 defs₀ 𝒱₀ m (main (F := F)) (V m)
      (fun _ => Pipeline.chain ([hostOps1].map StableHlo.seq)) :=
  Pipeline.hmain_around cfgs 0 defs₀ 𝒱₀ m main [hostOps0] [hostOps1] (by simp only [List.Forall]; exact hostOps0_sub)
    (by simp only [List.Forall]; exact hostOps0_fresh) main_chain

/-- No host operation after the region writes `main_arg0`: it ends as launched. -/
theorem W_main_arg0 (dats : (p : Fin _) → (c : Dev nD) → Dat τ (Elt F) Unit ℕ (Pipeline.UD sig nD τ) ℕ (cfgs p) c) (c : Dev nD) :
    Pipeline.afterTail₀ cfgs dats 0 (V0 m) [hostOps1] c main_arg0 = m ((c : Thread nD τ).loc main_arg0) := by
  unfold Pipeline.afterTail₀
  rw [StableHlo.after_of_forall_not_mem (b := Proc.devRef .tc main_arg0) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg0 (by exact (by decide : ∀ w, Pipeline.arrRef spec0 w ≠ main_arg0))]
  exact V_main_arg0 m c
/-- No host operation after the region writes `main_arg1`: it ends as launched. -/
theorem W_main_arg1 (dats : (p : Fin _) → (c : Dev nD) → Dat τ (Elt F) Unit ℕ (Pipeline.UD sig nD τ) ℕ (cfgs p) c) (c : Dev nD) :
    Pipeline.afterTail₀ cfgs dats 0 (V0 m) [hostOps1] c main_arg1 = m ((c : Thread nD τ).loc main_arg1) := by
  unfold Pipeline.afterTail₀
  rw [StableHlo.after_of_forall_not_mem (b := Proc.devRef .tc main_arg1) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg1 (by exact (by decide : ∀ w, Pipeline.arrRef spec0 w ≠ main_arg1))]
  exact V_main_arg1 m c
/-- No host operation after the region writes `main_arg2`: it ends as launched. -/
theorem W_main_arg2 (dats : (p : Fin _) → (c : Dev nD) → Dat τ (Elt F) Unit ℕ (Pipeline.UD sig nD τ) ℕ (cfgs p) c) (c : Dev nD) :
    Pipeline.afterTail₀ cfgs dats 0 (V0 m) [hostOps1] c main_arg2 = m ((c : Thread nD τ).loc main_arg2) := by
  unfold Pipeline.afterTail₀
  rw [StableHlo.after_of_forall_not_mem (b := Proc.devRef .tc main_arg2) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg2 (by exact (by decide : ∀ w, Pipeline.arrRef spec0 w ≠ main_arg2))]
  exact V_main_arg2 m c
/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (Pipeline.UD sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of {c : Dev nD} (dat : Dat τ (Elt F) Unit ℕ (Pipeline.UD sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The body's branch conditions -/

/-- The condition of the body's `scf.if` 0 (`k0_h1`), from the grid coordinates (the skeleton's scalar
    chain substituted). -/
abbrev cond0_0 (i : grid0.Coords) : Prop := k0_cond1 i = 1#1
/-- It holds at the first point only — by arithmetic of the point. -/
theorem hcond0_0 : ∀ t : Fin cfg0.N, cond0_0 (grid0.coords t) ↔ t.val % 296 = 0 :=
  (fun t => by
    have ht : t.val < 296 := Nat.lt_of_lt_of_eq t.isLt N_0
    have e0 : (grid0.coords t 0).val = t.val / 4 % 74 := Pipeline.Grid.coords_val t 0 (by decide) rfl
    have e1 : (grid0.coords t 1).val = t.val / 1 % 4 := Pipeline.Grid.coords_val t 1 (by decide) rfl
    simp only [cond0_0, k0_cond1, e0, e1]
    word_cmp
   : ∀ t : Fin grid0.N, cond0_0 (grid0.coords t) ↔ t.val % 296 = 0)

/-- The condition of the body's `scf.if` 1 (`k0_h2`), from the grid coordinates (the skeleton's scalar
    chain substituted). -/
abbrev cond0_1 (i : grid0.Coords) : Prop := k0_cond2 i = 1#1
/-- It holds at the points ≡ 0 (mod 4) — by arithmetic of the point. -/
theorem hcond0_1 : ∀ t : Fin cfg0.N, cond0_1 (grid0.coords t) ↔ t.val % 4 = 0 :=
  (fun t => by
    have ht : t.val < 296 := Nat.lt_of_lt_of_eq t.isLt N_0
    have e0 : (grid0.coords t 0).val = t.val / 4 % 74 := Pipeline.Grid.coords_val t 0 (by decide) rfl
    have e1 : (grid0.coords t 1).val = t.val / 1 % 4 := Pipeline.Grid.coords_val t 1 (by decide) rfl
    simp only [cond0_1, k0_cond2, e0, e1]
    word_cmp
   : ∀ t : Fin grid0.N, cond0_1 (grid0.coords t) ↔ t.val % 4 = 0)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-! ## The kernel body on any staging memrefs: a subtype the run finds -/

/-- Each window's current staging memref at point `t`, spelled as the pipeline passes it (`bodyAt0`), and its wholeness. -/
abbrev ms0_0 (t : Fin cfg0.N) : Memref sig .tc .smem S32x28 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S4096x256 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S896x256 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S896x256 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S4096x256 .fp8e5m2 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x32x128 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S4096x256 .fp8e4m3 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x32x128 .f32 := win0_7.stage (cfg0.slots t 7)
abbrev hs0_7 (t : Fin cfg0.N) : (ms0_7 t).IsWhole := hstage0_7 ((cfg0.slots t 7).cast nbuf0_7)
/-- The scratch operands: whole scoped buffers of the kernel's own, passed beside the windows. -/
abbrev scM0_0 : Memref sig .tc .vmem S3584x4096 .bf16 := Memref.whole cc0_scratch0
abbrev scM0_1 : Memref sig .tc .vmem S4096x256 .bf16 := Memref.whole cc0_scratch1
abbrev scM0_2 : Memref sig .tc .vmem S4096x256 .bf16 := Memref.whole cc0_scratch2
abbrev scM0_3 : Memref sig .tc .vmem S256x3584 .fp8e4m3 := Memref.whole cc0_scratch3
/-- The operands left in HBM that the body copies into scratch itself, whole. -/
abbrev hbM0_0 : Memref sig .tc .hbm S4096x3584 .fp8e4m3 := Memref.whole main_v0
/-- Memref `M`'s buffer on core `c`: its contents type, and it held whole at `f` — behind this abbreviation, so that the
    run's rewriting of the goal leaves `Memref.view` intact (the form the executor reads a held buffer in). -/
abbrev HbBuf0 (c : Dev nD) {sp : Space} {S : Shape} {e : EltTy} (M : Memref sig .tc sp S e) : Type := Buf (Elt F) (M.view.loc (c : Thread nD τ))
abbrev hbPt0 (c : Dev nD) {sp : Space} {S : Shape} {e : EltTy} (M : Memref sig .tc sp S e) (f : HbBuf0 (F := F) c M) : sProp 𝕄 :=
  M.view.loc (c : Thread nD τ) ↦{fullShare} f

/-- The body's own DMA semaphores, cell by cell (their numbers in the pool): the kernel's own semaphores for the launch
    (`Pipeline.OwnSemFacts`: none is a window's). -/
abbrev osem0 : Fin 1 → SemLoc sig := fun j => (![SemLoc.dma 15] : Fin 1 → SemLoc sig) j
theorem ownSemFacts0 : Pipeline.OwnSemFacts spec0 osem0 := by decide
/-- The cells at zero, listed. -/
theorem ownSems00_eq (c : Dev nD) :
    (Pipeline.ownSems0 (Ix := Unit) (Name := ℕ) (U := Pipeline.UD sig nD τ) (Lvl := ℕ) (Val := Elt F) (τ := τ) osem0 c : sProp 𝕄)
      = iprop(semVal ((c : Thread nD τ), SemLoc.dma 15) 0) := by
  rw [Pipeline.ownSems0_eq_of_list c osem0 [0] (by decide) (by decide)]; rfl
/-- The HBM operands the body moves, as references: unscoped, no window's array (`Pipeline.restRefs`). -/
def H0 : Finset (Ref sig .tc) := {main_v0}
theorem H0_sub : H0 ⊆ Pipeline.restRefs sig spec0 := by decide
/-- The lines after the region touch none of the operands the body moves: each operation's buffers are unscoped
    TensorCore references, none of them in `H0` (`Pipeline.sub_tailRefsBut`). -/
theorem sfx_but : ∀ ops ∈ ([hostOps1] : List (List (HloOp τ sig (Elt F)))), ∀ op ∈ ops,
    op.bufs ⊆ Pipeline.tailRefsBut sig Pipeline.Prefetch.none spec0 H0 := by
  intro ops hops op hop
  simp only [List.mem_cons, List.mem_nil_iff, or_false] at hops
  rcases hops with rfl
  · refine Pipeline.sub_tailRefsBut Pipeline.Prefetch.none spec0 H0 op ((List.forall_iff_forall_mem.mp hostOps1_sub) op hop) (fun j => j.elim0) ?_
    simp only [hostOps1, List.mem_cons, List.mem_nil_iff, or_false] at hop
    rcases hop with rfl | rfl | rfl | rfl | rfl | rfl | rfl | rfl
    all_goals intro b hb; simp only [H0, Finset.mem_insert, Finset.mem_singleton] at hb
    all_goals rcases hb with rfl <;>
      simp only [StableHlo.nullary_bufs, StableHlo.unary_bufs, StableHlo.binary_bufs, StableHlo.ternary_bufs, StableHlo.quaternary_bufs, StableHlo.reshape_bufs, Finset.mem_insert, Finset.mem_singleton, not_or] <;> and_intros <;> exact StableHlo.devRef_ne_of_ne (by decide)
/-- Their points-tos at the launch contents, listed. -/
theorem hbmPts0_eq (c : Dev nD) :
    (bigSep H0 (fun b => ((c : Thread nD τ).loc b) ↦{fullShare} V m c b) : sProp 𝕄) = iprop(hbPt0 c hbM0_0 (V m c main_v0)) := by
  rw [BI.bigSep_eq_bigSepL_of_eq [main_v0] (by decide) (by decide)]; rfl

/-- The invariant of a body with transfers of its own, `Pipeline.ΦD`, conjunct by conjunct: the scratch operands owned at
    some contents, the generator register at some state, the own cells at zero, the HBM operands at their launch
    contents — what the body obligation hands the run and takes back. -/
theorem PhiD0_eq (c : Dev nD) :
    (Pipeline.ΦD osem0 spec0 H0 (V m) c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d)) ∗ (∃ r, prngReg c r) ∗ iprop(semVal ((c : Thread nD τ), SemLoc.dma 15) 0) ∗ iprop(hbPt0 c hbM0_0 (V m c main_v0))) := by
  rw [Pipeline.ΦD_eq, scopedRest0_eq, ownSems00_eq, hbmPts0_eq]; simp only [scM0_0, scM0_1, scM0_2, scM0_3, owns_whole]; try rfl

end Cert.KernelIdeal.Hand

end
-- ==== Proof.Products.lean ====
/- The two products of a grid step, as what the body stores and reads back comes to. -/
module

public import Idealize.ShloMosaic.Lib.VecWindow
public import proofs.«01_k».proof.Proof.Base
@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (Pipeline.UD sig nD τ) ℕ

/-- The 896 rows of the transposed activations a grid step multiplies. -/
def xblk (X : Vec F S3584x4096 .bf16) (i : grid0.Coords) : Vec F S896x4096 .bf16 :=
  fun y => X ((Rect.unit (s := S3584x4096) (k0_off61 i) S896x4096.size (k0_off61_inb i)).emb y)

/-- The residual's part of the weight gradient, -/
def dwrV (X : Vec F S3584x4096 .bf16) (r : Vec F S4096x256 .bf16) (i : grid0.Coords) : Vec F S896x256 .f32 := k0_pay6 (xblk X i) r

/-- and the whole of it. -/
def dwV (X : Vec F S3584x4096 .bf16) (h r : Vec F S4096x256 .bf16) (i : grid0.Coords) : Vec F S896x256 .f32 :=
  k0_pay7 (k0_pay5 (xblk X i) h) (k0_pay6 (xblk X i) r)

/-- A load of a grid step's rows reads `xblk`. -/
theorem load_xblk (arg11 : Memref sig .tc .vmem S3584x4096 .bf16) (i : grid0.Coords) (inb : ∀ a, k0_off61 i a + S896x4096.size a ≤ S3584x4096.size a)
    (f : BufTy.Contents (Elt F) arg11.view.ty) :
    arg11.view.readAt (Elt F) (Rect.unit (s := S3584x4096) (k0_off61 i) S896x4096.size inb).toLoadRect f = xblk (arg11.view.read (Elt F) f) i := rfl

/-- What is stored of the residual's product. -/
theorem dwr_of (arg6 : Memref sig .tc .vmem S896x256 .f32) (arg11 : Memref sig .tc .vmem S3584x4096 .bf16) (arg13 : Memref sig .tc .vmem S4096x256 .bf16)
    (i : grid0.Coords) (f6 : BufTy.Contents (Elt F) arg6.view.ty) (f11 : BufTy.Contents (Elt F) arg11.view.ty) (f13 : BufTy.Contents (Elt F) arg13.view.ty)
    (ia) (ib) (ic) (L : List (View.Piece (Elt F) S896x256 .f32)) :
    arg6.view.read (Elt F) (arg6.view.writes (Elt F) f6 (⟨Rect.unit (s := S896x256) ![0, 0] S896x256.size ia,
      k0_pay6 (arg11.view.readAt (Elt F) (Rect.unit (s := S3584x4096) (k0_off61 i) S896x4096.size ib).toLoadRect f11)
        (arg13.view.readAt (Elt F) (Rect.unit (s := S4096x256) ![0, 0] S4096x256.size ic).toLoadRect f13)⟩ :: L))
      = dwrV (arg11.view.read (Elt F) f11) (arg13.view.read (Elt F) f13) i := by
  rw [View.read_writes_full, View.readAt_full]
  rfl

/-- What is stored of the sum: the two products read back and added. -/
theorem dw_of (arg5 arg6 : Memref sig .tc .vmem S896x256 .f32) (arg11 : Memref sig .tc .vmem S3584x4096 .bf16)
    (arg12 arg13 : Memref sig .tc .vmem S4096x256 .bf16) (i : grid0.Coords) (f5 : BufTy.Contents (Elt F) arg5.view.ty)
    (f11 : BufTy.Contents (Elt F) arg11.view.ty) (f12 : BufTy.Contents (Elt F) arg12.view.ty) (f13 : BufTy.Contents (Elt F) arg13.view.ty)
    (ia ia' ia'') (ib ib') (ic ic' id id' : _) (L L' L'' : List (View.Piece (Elt F) S896x256 .f32)) :
    arg5.view.read (Elt F) (arg5.view.writes (Elt F) f5 (⟨Rect.unit (s := S896x256) ![0, 0] S896x256.size ia,
      k0_pay7
        (arg5.view.readCov (Val := Elt F) (⟨Rect.unit (s := S896x256) ![0, 0] S896x256.size ia',
          k0_pay5 (arg11.view.readAt (Elt F) (Rect.unit (s := S3584x4096) (k0_off61 i) S896x4096.size ib).toLoadRect f11)
            (arg12.view.readAt (Elt F) (Rect.unit (s := S4096x256) ![0, 0] S4096x256.size ic).toLoadRect f12)⟩ :: L')
          (Rect.unit (s := S896x256) ![0, 0] S896x256.size id).toLoadRect)
        (arg6.view.readCov (Val := Elt F) (⟨Rect.unit (s := S896x256) ![0, 0] S896x256.size ia'',
          k0_pay6 (arg11.view.readAt (Elt F) (Rect.unit (s := S3584x4096) (k0_off61 i) S896x4096.size ib').toLoadRect f11)
            (arg13.view.readAt (Elt F) (Rect.unit (s := S4096x256) ![0, 0] S4096x256.size ic').toLoadRect f13)⟩ :: L'')
          (Rect.unit (s := S896x256) ![0, 0] S896x256.size id').toLoadRect)⟩ :: L))
      = dwV (arg11.view.read (Elt F) f11) (arg12.view.read (Elt F) f12) (arg13.view.read (Elt F) f13) i := by
  rw [View.read_writes_full, View.readCov_full, View.readCov_full, View.readAt_full, View.readAt_full]
  rfl

/-- Equal scratch gives equal products: the sum, -/
theorem dw_eq {X X' : Vec F S3584x4096 .bf16} {h h' r r' : Vec F S4096x256 .bf16} (i : grid0.Coords) (eX : X = X') (eh : h = h') (er : r = r') :
    dwV X h r i = dwV X' h' r' i := by rw [eX, eh, er]

/-- and the residual's part. -/
theorem dwr_eq {X X' : Vec F S3584x4096 .bf16} {r r' : Vec F S4096x256 .bf16} (i : grid0.Coords) (eX : X = X') (er : r = r') :
    dwrV X r i = dwrV X' r' i := by rw [eX, er]

end Cert.KernelIdeal.Hand

end
-- ==== Proof.GLoop.lean ====
/- The loop that quantises one column block of the gradient, at the algebra of a kernel with transfers of its own
   (the generated module `Loops` has it at the plain one): one trip, the pieces it writes, and the loop's invariant. -/
module

public import proofs.«01_k».proof.Proof.Gen.KernelIdeal.Frame
public import proofs.«01_k».proof.Proof.Gen.KernelIdeal.Loops
public import Idealize.ShloMosaic.Lib.Ring
public import Idealize.ShloMosaic.Lib.Tactic

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (Pipeline.UD sig nD τ) ℕ

/-- One trip's resources: what the region reads (arg4) at its contents, what it writes (arg7, arg8,
   arg9, arg10, arg12, arg13) at any. -/
abbrev Trip_k0_t2 (c : Dev nD) (arg4 : Memref sig .tc .vmem S4096x256 .f32) (arg7 : Memref sig .tc .vmem S4096x256 .fp8e5m2) (arg8 : Memref sig .tc .vmem S1x32x128 .f32) (arg9 : Memref sig .tc .vmem S4096x256 .fp8e4m3) (arg10 : Memref sig .tc .vmem S1x32x128 .f32) (arg12 : Memref sig .tc .vmem S4096x256 .bf16) (arg13 : Memref sig .tc .vmem S4096x256 .bf16) (X_arg4 : BufTy.Contents (Elt F) arg4.view.ty) (f_arg7 : BufTy.Contents (Elt F) arg7.view.ty) (f_arg8 : BufTy.Contents (Elt F) arg8.view.ty) (f_arg9 : BufTy.Contents (Elt F) arg9.view.ty) (f_arg10 : BufTy.Contents (Elt F) arg10.view.ty) (f_arg12 : BufTy.Contents (Elt F) arg12.view.ty) (f_arg13 : BufTy.Contents (Elt F) arg13.view.ty) : sProp 𝕄 :=
  iprop((arg4.view.loc (c : Thread nD τ) ↦[arg4.view.set]{fullShare} X_arg4) ∗ (arg7.view.loc (c : Thread nD τ) ↦[arg7.view.set]{fullShare} f_arg7) ∗ (arg8.view.loc (c : Thread nD τ) ↦[arg8.view.set]{fullShare} f_arg8) ∗ (arg9.view.loc (c : Thread nD τ) ↦[arg9.view.set]{fullShare} f_arg9) ∗ (arg10.view.loc (c : Thread nD τ) ↦[arg10.view.set]{fullShare} f_arg10) ∗ (arg12.view.loc (c : Thread nD τ) ↦[arg12.view.set]{fullShare} f_arg12) ∗ (arg13.view.loc (c : Thread nD τ) ↦[arg13.view.set]{fullShare} f_arg13))

/-- One trip at a symbolic `k`. The pieces it writes are found by running it. -/
@[irreducible] def trip_k0_t2 (𝒱 : Variants) (c : Dev nD) (bd : Option 𝒱.V) (i : grid0.Coords) (arg2 : Memref sig .tc .hbm S4096x3584 .fp8e4m3) (harg2 : arg2.IsWhole) (arg3 : Memref sig .tc .smem S32x28 .f32) (harg3 : arg3.IsWhole) (arg4 : Memref sig .tc .vmem S4096x256 .f32) (harg4 : arg4.IsWhole) (arg5 : Memref sig .tc .vmem S896x256 .f32) (harg5 : arg5.IsWhole) (arg6 : Memref sig .tc .vmem S896x256 .f32) (harg6 : arg6.IsWhole) (arg7 : Memref sig .tc .vmem S4096x256 .fp8e5m2) (harg7 : arg7.IsWhole) (arg8 : Memref sig .tc .vmem S1x32x128 .f32) (harg8 : arg8.IsWhole) (arg9 : Memref sig .tc .vmem S4096x256 .fp8e4m3) (harg9 : arg9.IsWhole) (arg10 : Memref sig .tc .vmem S1x32x128 .f32) (harg10 : arg10.IsWhole) (arg11 : Memref sig .tc .vmem S3584x4096 .bf16) (harg11 : arg11.IsWhole) (arg12 : Memref sig .tc .vmem S4096x256 .bf16) (harg12 : arg12.IsWhole) (arg13 : Memref sig .tc .vmem S4096x256 .bf16) (harg13 : arg13.IsWhole) (arg14 : Memref sig .tc .vmem S256x3584 .fp8e4m3) (harg14 : arg14.IsWhole) (arg15 : DmaSems sig S_) (k0_h2 : k0_cond2 i = 1#1) (v23 : IVec S1x128 32) (X_arg4 : BufTy.Contents (Elt F) arg4.view.ty) (k : Fin k0_t2_loop.trips) :
    Σ' (L_arg7 : List (View.Piece (Elt F) S4096x256 .fp8e5m2)) (L_arg8 : List (View.Piece (Elt F) S1x32x128 .f32)) (L_arg9 : List (View.Piece (Elt F) S4096x256 .fp8e4m3)) (L_arg10 : List (View.Piece (Elt F) S1x32x128 .f32)) (L_arg12 : List (View.Piece (Elt F) S4096x256 .bf16)) , { L_arg13 : List (View.Piece (Elt F) S4096x256 .bf16) // ∀ (E : Set ℕ) (f_arg7 : BufTy.Contents (Elt F) arg7.view.ty) (f_arg8 : BufTy.Contents (Elt F) arg8.view.ty) (f_arg9 : BufTy.Contents (Elt F) arg9.view.ty) (f_arg10 : BufTy.Contents (Elt F) arg10.view.ty) (f_arg12 : BufTy.Contents (Elt F) arg12.view.ty) (f_arg13 : BufTy.Contents (Elt F) arg13.view.ty),
      Trip_k0_t2 (F := F) c arg4 arg7 arg8 arg9 arg10 arg12 arg13 X_arg4 f_arg7 f_arg8 f_arg9 f_arg10 f_arg12 f_arg13
      ⊢ wp frame (wpE (defs₀ (F := F)) 𝒱 (c : Thread nD τ) bd) E (k0_t2_body (F := F) i arg2 harg2 arg3 harg3 arg4 harg4 arg5 harg5 arg6 harg6 arg7 harg7 arg8 harg8 arg9 harg9 arg10 harg10 arg11 harg11 arg12 harg12 arg13 harg13 arg14 harg14 arg15 k0_h2 v23 k PUnit.unit)
          (fun _ => Trip_k0_t2 (F := F) c arg4 arg7 arg8 arg9 arg10 arg12 arg13 X_arg4 (arg7.view.writes (Elt F) f_arg7 L_arg7) (arg8.view.writes (Elt F) f_arg8 L_arg8) (arg9.view.writes (Elt F) f_arg9 L_arg9) (arg10.view.writes (Elt F) f_arg10 L_arg10) (arg12.view.writes (Elt F) f_arg12 L_arg12) (arg13.view.writes (Elt F) f_arg13 L_arg13)) } := by
  have hk : k.val < 32 := Nat.lt_of_lt_of_le k.isLt k0_t2_abs.2.1
  refine ⟨?_, ?_, ?_, ?_, ?_, ?_, fun E f_arg7 f_arg8 f_arg9 f_arg10 f_arg12 f_arg13 => ?run⟩
  case run =>
    unfold k0_t2_body
    iintro ⟨HR_arg4, HW_arg7, HW_arg8, HW_arg9, HW_arg10, HW_arg12, HW_arg13⟩
    sl_exec
    sl_step
    sl_close

/-- The piece lists of a trip. -/
abbrev tripL_k0_t2 (𝒱 : Variants) (c : Dev nD) (bd : Option 𝒱.V) (i : grid0.Coords) (arg2 : Memref sig .tc .hbm S4096x3584 .fp8e4m3) (harg2 : arg2.IsWhole) (arg3 : Memref sig .tc .smem S32x28 .f32) (harg3 : arg3.IsWhole) (arg4 : Memref sig .tc .vmem S4096x256 .f32) (harg4 : arg4.IsWhole) (arg5 : Memref sig .tc .vmem S896x256 .f32) (harg5 : arg5.IsWhole) (arg6 : Memref sig .tc .vmem S896x256 .f32) (harg6 : arg6.IsWhole) (arg7 : Memref sig .tc .vmem S4096x256 .fp8e5m2) (harg7 : arg7.IsWhole) (arg8 : Memref sig .tc .vmem S1x32x128 .f32) (harg8 : arg8.IsWhole) (arg9 : Memref sig .tc .vmem S4096x256 .fp8e4m3) (harg9 : arg9.IsWhole) (arg10 : Memref sig .tc .vmem S1x32x128 .f32) (harg10 : arg10.IsWhole) (arg11 : Memref sig .tc .vmem S3584x4096 .bf16) (harg11 : arg11.IsWhole) (arg12 : Memref sig .tc .vmem S4096x256 .bf16) (harg12 : arg12.IsWhole) (arg13 : Memref sig .tc .vmem S4096x256 .bf16) (harg13 : arg13.IsWhole) (arg14 : Memref sig .tc .vmem S256x3584 .fp8e4m3) (harg14 : arg14.IsWhole) (arg15 : DmaSems sig S_) (k0_h2 : k0_cond2 i = 1#1) (v23 : IVec S1x128 32) (X_arg4 : BufTy.Contents (Elt F) arg4.view.ty) (k : Fin k0_t2_loop.trips) : List (View.Piece (Elt F) S4096x256 .fp8e5m2) × List (View.Piece (Elt F) S1x32x128 .f32) × List (View.Piece (Elt F) S4096x256 .fp8e4m3) × List (View.Piece (Elt F) S1x32x128 .f32) × List (View.Piece (Elt F) S4096x256 .bf16) × List (View.Piece (Elt F) S4096x256 .bf16) :=
  ((trip_k0_t2 (F := F) 𝒱 c bd i arg2 harg2 arg3 harg3 arg4 harg4 arg5 harg5 arg6 harg6 arg7 harg7 arg8 harg8 arg9 harg9 arg10 harg10 arg11 harg11 arg12 harg12 arg13 harg13 arg14 harg14 arg15 k0_h2 v23 X_arg4 k).1, (trip_k0_t2 (F := F) 𝒱 c bd i arg2 harg2 arg3 harg3 arg4 harg4 arg5 harg5 arg6 harg6 arg7 harg7 arg8 harg8 arg9 harg9 arg10 harg10 arg11 harg11 arg12 harg12 arg13 harg13 arg14 harg14 arg15 k0_h2 v23 X_arg4 k).2.1, (trip_k0_t2 (F := F) 𝒱 c bd i arg2 harg2 arg3 harg3 arg4 harg4 arg5 harg5 arg6 harg6 arg7 harg7 arg8 harg8 arg9 harg9 arg10 harg10 arg11 harg11 arg12 harg12 arg13 harg13 arg14 harg14 arg15 k0_h2 v23 X_arg4 k).2.2.1, (trip_k0_t2 (F := F) 𝒱 c bd i arg2 harg2 arg3 harg3 arg4 harg4 arg5 harg5 arg6 harg6 arg7 harg7 arg8 harg8 arg9 harg9 arg10 harg10 arg11 harg11 arg12 harg12 arg13 harg13 arg14 harg14 arg15 k0_h2 v23 X_arg4 k).2.2.2.1, (trip_k0_t2 (F := F) 𝒱 c bd i arg2 harg2 arg3 harg3 arg4 harg4 arg5 harg5 arg6 harg6 arg7 harg7 arg8 harg8 arg9 harg9 arg10 harg10 arg11 harg11 arg12 harg12 arg13 harg13 arg14 harg14 arg15 k0_h2 v23 X_arg4 k).2.2.2.2.1, (trip_k0_t2 (F := F) 𝒱 c bd i arg2 harg2 arg3 harg3 arg4 harg4 arg5 harg5 arg6 harg6 arg7 harg7 arg8 harg8 arg9 harg9 arg10 harg10 arg11 harg11 arg12 harg12 arg13 harg13 arg14 harg14 arg15 k0_h2 v23 X_arg4 k).2.2.2.2.2.1)

/-- The pieces of trip `k` in front of those before it. -/
@[irreducible] def pb_k0_t2Step (𝒱 : Variants) (c : Dev nD) (bd : Option 𝒱.V) (i : grid0.Coords) (arg2 : Memref sig .tc .hbm S4096x3584 .fp8e4m3) (harg2 : arg2.IsWhole) (arg3 : Memref sig .tc .smem S32x28 .f32) (harg3 : arg3.IsWhole) (arg4 : Memref sig .tc .vmem S4096x256 .f32) (harg4 : arg4.IsWhole) (arg5 : Memref sig .tc .vmem S896x256 .f32) (harg5 : arg5.IsWhole) (arg6 : Memref sig .tc .vmem S896x256 .f32) (harg6 : arg6.IsWhole) (arg7 : Memref sig .tc .vmem S4096x256 .fp8e5m2) (harg7 : arg7.IsWhole) (arg8 : Memref sig .tc .vmem S1x32x128 .f32) (harg8 : arg8.IsWhole) (arg9 : Memref sig .tc .vmem S4096x256 .fp8e4m3) (harg9 : arg9.IsWhole) (arg10 : Memref sig .tc .vmem S1x32x128 .f32) (harg10 : arg10.IsWhole) (arg11 : Memref sig .tc .vmem S3584x4096 .bf16) (harg11 : arg11.IsWhole) (arg12 : Memref sig .tc .vmem S4096x256 .bf16) (harg12 : arg12.IsWhole) (arg13 : Memref sig .tc .vmem S4096x256 .bf16) (harg13 : arg13.IsWhole) (arg14 : Memref sig .tc .vmem S256x3584 .fp8e4m3) (harg14 : arg14.IsWhole) (arg15 : DmaSems sig S_) (k0_h2 : k0_cond2 i = 1#1) (v23 : IVec S1x128 32) (X_arg4 : BufTy.Contents (Elt F) arg4.view.ty) (k : ℕ) (prev : List (View.Piece (Elt F) S4096x256 .fp8e5m2) × List (View.Piece (Elt F) S1x32x128 .f32) × List (View.Piece (Elt F) S4096x256 .fp8e4m3) × List (View.Piece (Elt F) S1x32x128 .f32) × List (View.Piece (Elt F) S4096x256 .bf16) × List (View.Piece (Elt F) S4096x256 .bf16)) : List (View.Piece (Elt F) S4096x256 .fp8e5m2) × List (View.Piece (Elt F) S1x32x128 .f32) × List (View.Piece (Elt F) S4096x256 .fp8e4m3) × List (View.Piece (Elt F) S1x32x128 .f32) × List (View.Piece (Elt F) S4096x256 .bf16) × List (View.Piece (Elt F) S4096x256 .bf16) :=
  if h : k < k0_t2_loop.trips then
    ((tripL_k0_t2 (F := F) 𝒱 c bd i arg2 harg2 arg3 harg3 arg4 harg4 arg5 harg5 arg6 harg6 arg7 harg7 arg8 harg8 arg9 harg9 arg10 harg10 arg11 harg11 arg12 harg12 arg13 harg13 arg14 harg14 arg15 k0_h2 v23 X_arg4 ⟨k, h⟩).1 ++ prev.1, (tripL_k0_t2 (F := F) 𝒱 c bd i arg2 harg2 arg3 harg3 arg4 harg4 arg5 harg5 arg6 harg6 arg7 harg7 arg8 harg8 arg9 harg9 arg10 harg10 arg11 harg11 arg12 harg12 arg13 harg13 arg14 harg14 arg15 k0_h2 v23 X_arg4 ⟨k, h⟩).2.1 ++ prev.2.1, (tripL_k0_t2 (F := F) 𝒱 c bd i arg2 harg2 arg3 harg3 arg4 harg4 arg5 harg5 arg6 harg6 arg7 harg7 arg8 harg8 arg9 harg9 arg10 harg10 arg11 harg11 arg12 harg12 arg13 harg13 arg14 harg14 arg15 k0_h2 v23 X_arg4 ⟨k, h⟩).2.2.1 ++ prev.2.2.1, (tripL_k0_t2 (F := F) 𝒱 c bd i arg2 harg2 arg3 harg3 arg4 harg4 arg5 harg5 arg6 harg6 arg7 harg7 arg8 harg8 arg9 harg9 arg10 harg10 arg11 harg11 arg12 harg12 arg13 harg13 arg14 harg14 arg15 k0_h2 v23 X_arg4 ⟨k, h⟩).2.2.2.1 ++ prev.2.2.2.1, (tripL_k0_t2 (F := F) 𝒱 c bd i arg2 harg2 arg3 harg3 arg4 harg4 arg5 harg5 arg6 harg6 arg7 harg7 arg8 harg8 arg9 harg9 arg10 harg10 arg11 harg11 arg12 harg12 arg13 harg13 arg14 harg14 arg15 k0_h2 v23 X_arg4 ⟨k, h⟩).2.2.2.2.1 ++ prev.2.2.2.2.1, (tripL_k0_t2 (F := F) 𝒱 c bd i arg2 harg2 arg3 harg3 arg4 harg4 arg5 harg5 arg6 harg6 arg7 harg7 arg8 harg8 arg9 harg9 arg10 harg10 arg11 harg11 arg12 harg12 arg13 harg13 arg14 harg14 arg15 k0_h2 v23 X_arg4 ⟨k, h⟩).2.2.2.2.2 ++ prev.2.2.2.2.2)
  else prev

/-- The pieces of the trips before `k` (last first), per written memref. -/
def pb_k0_t2 (𝒱 : Variants) (c : Dev nD) (bd : Option 𝒱.V) (i : grid0.Coords) (arg2 : Memref sig .tc .hbm S4096x3584 .fp8e4m3) (harg2 : arg2.IsWhole) (arg3 : Memref sig .tc .smem S32x28 .f32) (harg3 : arg3.IsWhole) (arg4 : Memref sig .tc .vmem S4096x256 .f32) (harg4 : arg4.IsWhole) (arg5 : Memref sig .tc .vmem S896x256 .f32) (harg5 : arg5.IsWhole) (arg6 : Memref sig .tc .vmem S896x256 .f32) (harg6 : arg6.IsWhole) (arg7 : Memref sig .tc .vmem S4096x256 .fp8e5m2) (harg7 : arg7.IsWhole) (arg8 : Memref sig .tc .vmem S1x32x128 .f32) (harg8 : arg8.IsWhole) (arg9 : Memref sig .tc .vmem S4096x256 .fp8e4m3) (harg9 : arg9.IsWhole) (arg10 : Memref sig .tc .vmem S1x32x128 .f32) (harg10 : arg10.IsWhole) (arg11 : Memref sig .tc .vmem S3584x4096 .bf16) (harg11 : arg11.IsWhole) (arg12 : Memref sig .tc .vmem S4096x256 .bf16) (harg12 : arg12.IsWhole) (arg13 : Memref sig .tc .vmem S4096x256 .bf16) (harg13 : arg13.IsWhole) (arg14 : Memref sig .tc .vmem S256x3584 .fp8e4m3) (harg14 : arg14.IsWhole) (arg15 : DmaSems sig S_) (k0_h2 : k0_cond2 i = 1#1) (v23 : IVec S1x128 32) (X_arg4 : BufTy.Contents (Elt F) arg4.view.ty) : ℕ → List (View.Piece (Elt F) S4096x256 .fp8e5m2) × List (View.Piece (Elt F) S1x32x128 .f32) × List (View.Piece (Elt F) S4096x256 .fp8e4m3) × List (View.Piece (Elt F) S1x32x128 .f32) × List (View.Piece (Elt F) S4096x256 .bf16) × List (View.Piece (Elt F) S4096x256 .bf16)
  | 0 => ([], [], [], [], [], [])
  | k + 1 => pb_k0_t2Step 𝒱 c bd i arg2 harg2 arg3 harg3 arg4 harg4 arg5 harg5 arg6 harg6 arg7 harg7 arg8 harg8 arg9 harg9 arg10 harg10 arg11 harg11 arg12 harg12 arg13 harg13 arg14 harg14 arg15 k0_h2 v23 X_arg4 k (pb_k0_t2 𝒱 c bd i arg2 harg2 arg3 harg3 arg4 harg4 arg5 harg5 arg6 harg6 arg7 harg7 arg8 harg8 arg9 harg9 arg10 harg10 arg11 harg11 arg12 harg12 arg13 harg13 arg14 harg14 arg15 k0_h2 v23 X_arg4 k)

theorem pb_k0_t2_succ (𝒱 : Variants) (c : Dev nD) (bd : Option 𝒱.V) (i : grid0.Coords) (arg2 : Memref sig .tc .hbm S4096x3584 .fp8e4m3) (harg2 : arg2.IsWhole) (arg3 : Memref sig .tc .smem S32x28 .f32) (harg3 : arg3.IsWhole) (arg4 : Memref sig .tc .vmem S4096x256 .f32) (harg4 : arg4.IsWhole) (arg5 : Memref sig .tc .vmem S896x256 .f32) (harg5 : arg5.IsWhole) (arg6 : Memref sig .tc .vmem S896x256 .f32) (harg6 : arg6.IsWhole) (arg7 : Memref sig .tc .vmem S4096x256 .fp8e5m2) (harg7 : arg7.IsWhole) (arg8 : Memref sig .tc .vmem S1x32x128 .f32) (harg8 : arg8.IsWhole) (arg9 : Memref sig .tc .vmem S4096x256 .fp8e4m3) (harg9 : arg9.IsWhole) (arg10 : Memref sig .tc .vmem S1x32x128 .f32) (harg10 : arg10.IsWhole) (arg11 : Memref sig .tc .vmem S3584x4096 .bf16) (harg11 : arg11.IsWhole) (arg12 : Memref sig .tc .vmem S4096x256 .bf16) (harg12 : arg12.IsWhole) (arg13 : Memref sig .tc .vmem S4096x256 .bf16) (harg13 : arg13.IsWhole) (arg14 : Memref sig .tc .vmem S256x3584 .fp8e4m3) (harg14 : arg14.IsWhole) (arg15 : DmaSems sig S_) (k0_h2 : k0_cond2 i = 1#1) (v23 : IVec S1x128 32) (X_arg4 : BufTy.Contents (Elt F) arg4.view.ty) (k : Fin k0_t2_loop.trips) :
    pb_k0_t2 (F := F) 𝒱 c bd i arg2 harg2 arg3 harg3 arg4 harg4 arg5 harg5 arg6 harg6 arg7 harg7 arg8 harg8 arg9 harg9 arg10 harg10 arg11 harg11 arg12 harg12 arg13 harg13 arg14 harg14 arg15 k0_h2 v23 X_arg4 (k.val + 1)
      = ((tripL_k0_t2 (F := F) 𝒱 c bd i arg2 harg2 arg3 harg3 arg4 harg4 arg5 harg5 arg6 harg6 arg7 harg7 arg8 harg8 arg9 harg9 arg10 harg10 arg11 harg11 arg12 harg12 arg13 harg13 arg14 harg14 arg15 k0_h2 v23 X_arg4 k).1 ++ (pb_k0_t2 (F := F) 𝒱 c bd i arg2 harg2 arg3 harg3 arg4 harg4 arg5 harg5 arg6 harg6 arg7 harg7 arg8 harg8 arg9 harg9 arg10 harg10 arg11 harg11 arg12 harg12 arg13 harg13 arg14 harg14 arg15 k0_h2 v23 X_arg4 k.val).1, (tripL_k0_t2 (F := F) 𝒱 c bd i arg2 harg2 arg3 harg3 arg4 harg4 arg5 harg5 arg6 harg6 arg7 harg7 arg8 harg8 arg9 harg9 arg10 harg10 arg11 harg11 arg12 harg12 arg13 harg13 arg14 harg14 arg15 k0_h2 v23 X_arg4 k).2.1 ++ (pb_k0_t2 (F := F) 𝒱 c bd i arg2 harg2 arg3 harg3 arg4 harg4 arg5 harg5 arg6 harg6 arg7 harg7 arg8 harg8 arg9 harg9 arg10 harg10 arg11 harg11 arg12 harg12 arg13 harg13 arg14 harg14 arg15 k0_h2 v23 X_arg4 k.val).2.1, (tripL_k0_t2 (F := F) 𝒱 c bd i arg2 harg2 arg3 harg3 arg4 harg4 arg5 harg5 arg6 harg6 arg7 harg7 arg8 harg8 arg9 harg9 arg10 harg10 arg11 harg11 arg12 harg12 arg13 harg13 arg14 harg14 arg15 k0_h2 v23 X_arg4 k).2.2.1 ++ (pb_k0_t2 (F := F) 𝒱 c bd i arg2 harg2 arg3 harg3 arg4 harg4 arg5 harg5 arg6 harg6 arg7 harg7 arg8 harg8 arg9 harg9 arg10 harg10 arg11 harg11 arg12 harg12 arg13 harg13 arg14 harg14 arg15 k0_h2 v23 X_arg4 k.val).2.2.1, (tripL_k0_t2 (F := F) 𝒱 c bd i arg2 harg2 arg3 harg3 arg4 harg4 arg5 harg5 arg6 harg6 arg7 harg7 arg8 harg8 arg9 harg9 arg10 harg10 arg11 harg11 arg12 harg12 arg13 harg13 arg14 harg14 arg15 k0_h2 v23 X_arg4 k).2.2.2.1 ++ (pb_k0_t2 (F := F) 𝒱 c bd i arg2 harg2 arg3 harg3 arg4 harg4 arg5 harg5 arg6 harg6 arg7 harg7 arg8 harg8 arg9 harg9 arg10 harg10 arg11 harg11 arg12 harg12 arg13 harg13 arg14 harg14 arg15 k0_h2 v23 X_arg4 k.val).2.2.2.1, (tripL_k0_t2 (F := F) 𝒱 c bd i arg2 harg2 arg3 harg3 arg4 harg4 arg5 harg5 arg6 harg6 arg7 harg7 arg8 harg8 arg9 harg9 arg10 harg10 arg11 harg11 arg12 harg12 arg13 harg13 arg14 harg14 arg15 k0_h2 v23 X_arg4 k).2.2.2.2.1 ++ (pb_k0_t2 (F := F) 𝒱 c bd i arg2 harg2 arg3 harg3 arg4 harg4 arg5 harg5 arg6 harg6 arg7 harg7 arg8 harg8 arg9 harg9 arg10 harg10 arg11 harg11 arg12 harg12 arg13 harg13 arg14 harg14 arg15 k0_h2 v23 X_arg4 k.val).2.2.2.2.1, (tripL_k0_t2 (F := F) 𝒱 c bd i arg2 harg2 arg3 harg3 arg4 harg4 arg5 harg5 arg6 harg6 arg7 harg7 arg8 harg8 arg9 harg9 arg10 harg10 arg11 harg11 arg12 harg12 arg13 harg13 arg14 harg14 arg15 k0_h2 v23 X_arg4 k).2.2.2.2.2 ++ (pb_k0_t2 (F := F) 𝒱 c bd i arg2 harg2 arg3 harg3 arg4 harg4 arg5 harg5 arg6 harg6 arg7 harg7 arg8 harg8 arg9 harg9 arg10 harg10 arg11 harg11 arg12 harg12 arg13 harg13 arg14 harg14 arg15 k0_h2 v23 X_arg4 k.val).2.2.2.2.2) := by
  rw [pb_k0_t2.eq_2]; unfold pb_k0_t2Step; exact dif_pos k.isLt

/-- Before trip `k`: the gradient block as it was, each written buffer holding the pieces of the trips before `k`. -/
abbrev inv_k0_t2 (𝒱 : Variants) (c : Dev nD) (bd : Option 𝒱.V) (i : grid0.Coords) (arg2 : Memref sig .tc .hbm S4096x3584 .fp8e4m3) (harg2 : arg2.IsWhole) (arg3 : Memref sig .tc .smem S32x28 .f32) (harg3 : arg3.IsWhole) (arg4 : Memref sig .tc .vmem S4096x256 .f32) (harg4 : arg4.IsWhole) (arg5 : Memref sig .tc .vmem S896x256 .f32) (harg5 : arg5.IsWhole) (arg6 : Memref sig .tc .vmem S896x256 .f32) (harg6 : arg6.IsWhole) (arg7 : Memref sig .tc .vmem S4096x256 .fp8e5m2) (harg7 : arg7.IsWhole) (arg8 : Memref sig .tc .vmem S1x32x128 .f32) (harg8 : arg8.IsWhole) (arg9 : Memref sig .tc .vmem S4096x256 .fp8e4m3) (harg9 : arg9.IsWhole) (arg10 : Memref sig .tc .vmem S1x32x128 .f32) (harg10 : arg10.IsWhole) (arg11 : Memref sig .tc .vmem S3584x4096 .bf16) (harg11 : arg11.IsWhole) (arg12 : Memref sig .tc .vmem S4096x256 .bf16) (harg12 : arg12.IsWhole) (arg13 : Memref sig .tc .vmem S4096x256 .bf16) (harg13 : arg13.IsWhole) (arg14 : Memref sig .tc .vmem S256x3584 .fp8e4m3) (harg14 : arg14.IsWhole) (arg15 : DmaSems sig S_) (k0_h2 : k0_cond2 i = 1#1) (v23 : IVec S1x128 32) (X_arg4 : BufTy.Contents (Elt F) arg4.view.ty) (G_arg7 : BufTy.Contents (Elt F) arg7.view.ty) (G_arg8 : BufTy.Contents (Elt F) arg8.view.ty) (G_arg9 : BufTy.Contents (Elt F) arg9.view.ty) (G_arg10 : BufTy.Contents (Elt F) arg10.view.ty) (G_arg12 : BufTy.Contents (Elt F) arg12.view.ty) (G_arg13 : BufTy.Contents (Elt F) arg13.view.ty) (k : ℕ) (_u : PUnit) : sProp 𝕄 :=
  iprop((arg4.view.loc (c : Thread nD τ) ↦[arg4.view.set]{fullShare} X_arg4) ∗ (∃ f, (arg7.view.loc (c : Thread nD τ) ↦[arg7.view.set]{fullShare} f) ∗ ⌜f = arg7.view.writes (Elt F) G_arg7 (pb_k0_t2 (F := F) 𝒱 c bd i arg2 harg2 arg3 harg3 arg4 harg4 arg5 harg5 arg6 harg6 arg7 harg7 arg8 harg8 arg9 harg9 arg10 harg10 arg11 harg11 arg12 harg12 arg13 harg13 arg14 harg14 arg15 k0_h2 v23 X_arg4 k).1⌝) ∗ (∃ f, (arg8.view.loc (c : Thread nD τ) ↦[arg8.view.set]{fullShare} f) ∗ ⌜f = arg8.view.writes (Elt F) G_arg8 (pb_k0_t2 (F := F) 𝒱 c bd i arg2 harg2 arg3 harg3 arg4 harg4 arg5 harg5 arg6 harg6 arg7 harg7 arg8 harg8 arg9 harg9 arg10 harg10 arg11 harg11 arg12 harg12 arg13 harg13 arg14 harg14 arg15 k0_h2 v23 X_arg4 k).2.1⌝) ∗ (∃ f, (arg9.view.loc (c : Thread nD τ) ↦[arg9.view.set]{fullShare} f) ∗ ⌜f = arg9.view.writes (Elt F) G_arg9 (pb_k0_t2 (F := F) 𝒱 c bd i arg2 harg2 arg3 harg3 arg4 harg4 arg5 harg5 arg6 harg6 arg7 harg7 arg8 harg8 arg9 harg9 arg10 harg10 arg11 harg11 arg12 harg12 arg13 harg13 arg14 harg14 arg15 k0_h2 v23 X_arg4 k).2.2.1⌝) ∗ (∃ f, (arg10.view.loc (c : Thread nD τ) ↦[arg10.view.set]{fullShare} f) ∗ ⌜f = arg10.view.writes (Elt F) G_arg10 (pb_k0_t2 (F := F) 𝒱 c bd i arg2 harg2 arg3 harg3 arg4 harg4 arg5 harg5 arg6 harg6 arg7 harg7 arg8 harg8 arg9 harg9 arg10 harg10 arg11 harg11 arg12 harg12 arg13 harg13 arg14 harg14 arg15 k0_h2 v23 X_arg4 k).2.2.2.1⌝) ∗ (∃ f, (arg12.view.loc (c : Thread nD τ) ↦[arg12.view.set]{fullShare} f) ∗ ⌜f = arg12.view.writes (Elt F) G_arg12 (pb_k0_t2 (F := F) 𝒱 c bd i arg2 harg2 arg3 harg3 arg4 harg4 arg5 harg5 arg6 harg6 arg7 harg7 arg8 harg8 arg9 harg9 arg10 harg10 arg11 harg11 arg12 harg12 arg13 harg13 arg14 harg14 arg15 k0_h2 v23 X_arg4 k).2.2.2.2.1⌝) ∗ (∃ f, (arg13.view.loc (c : Thread nD τ) ↦[arg13.view.set]{fullShare} f) ∗ ⌜f = arg13.view.writes (Elt F) G_arg13 (pb_k0_t2 (F := F) 𝒱 c bd i arg2 harg2 arg3 harg3 arg4 harg4 arg5 harg5 arg6 harg6 arg7 harg7 arg8 harg8 arg9 harg9 arg10 harg10 arg11 harg11 arg12 harg12 arg13 harg13 arg14 harg14 arg15 k0_h2 v23 X_arg4 k).2.2.2.2.2⌝))

set_option warn.classDefReducibility false in
/-- The loop by that invariant. -/
@[sl_loop] def loopInv_k0_t2 (𝒱 : Variants) (c : Dev nD) (bd : Option 𝒱.V) (E : Set ℕ) (i : grid0.Coords) (arg2 : Memref sig .tc .hbm S4096x3584 .fp8e4m3) (harg2 : arg2.IsWhole) (arg3 : Memref sig .tc .smem S32x28 .f32) (harg3 : arg3.IsWhole) (arg4 : Memref sig .tc .vmem S4096x256 .f32) (harg4 : arg4.IsWhole) (arg5 : Memref sig .tc .vmem S896x256 .f32) (harg5 : arg5.IsWhole) (arg6 : Memref sig .tc .vmem S896x256 .f32) (harg6 : arg6.IsWhole) (arg7 : Memref sig .tc .vmem S4096x256 .fp8e5m2) (harg7 : arg7.IsWhole) (arg8 : Memref sig .tc .vmem S1x32x128 .f32) (harg8 : arg8.IsWhole) (arg9 : Memref sig .tc .vmem S4096x256 .fp8e4m3) (harg9 : arg9.IsWhole) (arg10 : Memref sig .tc .vmem S1x32x128 .f32) (harg10 : arg10.IsWhole) (arg11 : Memref sig .tc .vmem S3584x4096 .bf16) (harg11 : arg11.IsWhole) (arg12 : Memref sig .tc .vmem S4096x256 .bf16) (harg12 : arg12.IsWhole) (arg13 : Memref sig .tc .vmem S4096x256 .bf16) (harg13 : arg13.IsWhole) (arg14 : Memref sig .tc .vmem S256x3584 .fp8e4m3) (harg14 : arg14.IsWhole) (arg15 : DmaSems sig S_) (k0_h2 : k0_cond2 i = 1#1) (v23 : IVec S1x128 32) (X_arg4 : BufTy.Contents (Elt F) arg4.view.ty) (G_arg7 : BufTy.Contents (Elt F) arg7.view.ty) (G_arg8 : BufTy.Contents (Elt F) arg8.view.ty) (G_arg9 : BufTy.Contents (Elt F) arg9.view.ty) (G_arg10 : BufTy.Contents (Elt F) arg10.view.ty) (G_arg12 : BufTy.Contents (Elt F) arg12.view.ty) (G_arg13 : BufTy.Contents (Elt F) arg13.view.ty) :
    LoopInvTy_k0_t2 (F := F) Unit ℕ (Pipeline.UD sig nD τ) ℕ 𝒱 c bd E i arg2 harg2 arg3 harg3 arg4 harg4 arg5 harg5 arg6 harg6 arg7 harg7 arg8 harg8 arg9 harg9 arg10 harg10 arg11 harg11 arg12 harg12 arg13 harg13 arg14 harg14 arg15 k0_h2 v23 where
  inv := inv_k0_t2 (F := F) 𝒱 c bd i arg2 harg2 arg3 harg3 arg4 harg4 arg5 harg5 arg6 harg6 arg7 harg7 arg8 harg8 arg9 harg9 arg10 harg10 arg11 harg11 arg12 harg12 arg13 harg13 arg14 harg14 arg15 k0_h2 v23 X_arg4 G_arg7 G_arg8 G_arg9 G_arg10 G_arg12 G_arg13
  step k acc := by
    iintro ⟨HR_arg4, ⟨%f_arg7, HW_arg7, %h_arg7⟩, ⟨%f_arg8, HW_arg8, %h_arg8⟩, ⟨%f_arg9, HW_arg9, %h_arg9⟩, ⟨%f_arg10, HW_arg10, %h_arg10⟩, ⟨%f_arg12, HW_arg12, %h_arg12⟩, ⟨%f_arg13, HW_arg13, %h_arg13⟩⟩
    iapply (wp_wand_r Idealize.ShloMosaic.frame (wpE (defs₀ (F := F)) 𝒱 (c : Thread nD τ) bd) E)
    isplitl [HR_arg4 HW_arg7 HW_arg8 HW_arg9 HW_arg10 HW_arg12 HW_arg13]
    · iapply ((trip_k0_t2 (F := F) 𝒱 c bd i arg2 harg2 arg3 harg3 arg4 harg4 arg5 harg5 arg6 harg6 arg7 harg7 arg8 harg8 arg9 harg9 arg10 harg10 arg11 harg11 arg12 harg12 arg13 harg13 arg14 harg14 arg15 k0_h2 v23 X_arg4 k).2.2.2.2.2.2 E f_arg7 f_arg8 f_arg9 f_arg10 f_arg12 f_arg13)
      isplitl [HR_arg4]; · iexact HR_arg4
      isplitl [HW_arg7]; · iexact HW_arg7
      isplitl [HW_arg8]; · iexact HW_arg8
      isplitl [HW_arg9]; · iexact HW_arg9
      isplitl [HW_arg10]; · iexact HW_arg10
      isplitl [HW_arg12]; · iexact HW_arg12
      iexact HW_arg13
    · iintro %_ ⟨HR_arg4, HW_arg7, HW_arg8, HW_arg9, HW_arg10, HW_arg12, HW_arg13⟩
      isplitl [HR_arg4]; · iexact HR_arg4
      rw [pb_k0_t2_succ]
      isplitl [HW_arg7]
      · iexists _; isplitl [HW_arg7]; · iexact HW_arg7
        ipureintro; rw [h_arg7, ← View.writes_append]
      isplitl [HW_arg8]
      · iexists _; isplitl [HW_arg8]; · iexact HW_arg8
        ipureintro; rw [h_arg8, ← View.writes_append]
      isplitl [HW_arg9]
      · iexists _; isplitl [HW_arg9]; · iexact HW_arg9
        ipureintro; rw [h_arg9, ← View.writes_append]
      isplitl [HW_arg10]
      · iexists _; isplitl [HW_arg10]; · iexact HW_arg10
        ipureintro; rw [h_arg10, ← View.writes_append]
      isplitl [HW_arg12]
      · iexists _; isplitl [HW_arg12]; · iexact HW_arg12
        ipureintro; rw [h_arg12, ← View.writes_append]
      iexists _; isplitl [HW_arg13]; · iexact HW_arg13
      ipureintro; rw [h_arg13, ← View.writes_append]

end Cert.KernelIdeal.Hand

end
-- ==== Proof.XTile.lean ====
/- What the first grid step leaves in the transposed activations: every 128 × 128 block of codes widened by its own scale and
   transposed. `XT` names the whole buffer; the pieces the copying loop writes are blocks of it (`xpiece`) and cover it. -/
module

public import proofs.«01_k».proof.Proof.Gen.KernelIdeal.Loops
public import Idealize.ShloMosaic.Lib.Writes

@[expose] public section

set_option maxRecDepth 16384

noncomputable section

namespace Cert.KernelIdeal.Hand

open Idealize.ShloMosaic Idealize.ShloMosaic.TcCoe
open Cert.KernelIdeal Cert.KernelIdeal.Gen

variable {F : FTy → Type} [FloatOps F]

/-- The index at row `a` and column `b`. -/
def at2 {M N : ℕ} (a : ℕ) (b : ℕ) (ha : a < M) (hb : b < N) : (⟨2, ![M, N]⟩ : Shape).Idx := fun
  | ⟨0, _⟩ => ⟨a, ha⟩
  | ⟨1, _⟩ => ⟨b, hb⟩

theorem eq_at2 {M N : ℕ} (y : (⟨2, ![M, N]⟩ : Shape).Idx) {a b : ℕ} (ha : a < M) (hb : b < N) (h0 : (y 0).val = a)
    (h1 : (y 1).val = b) : y = at2 a b ha hb := by
  funext i
  fin_cases i
  · exact Fin.ext h0
  · exact Fin.ext h1

theorem lt0 {M N : ℕ} (y : (⟨2, ![M, N]⟩ : Shape).Idx) : (y 0).val < M := (y 0).isLt
theorem lt1 {M N : ℕ} (y : (⟨2, ![M, N]⟩ : Shape).Idx) : (y 1).val < N := (y 1).isLt

/-- The 128 × 128 block `(b, c)` of an array of `128 B` rows and `128 C` columns. -/
def tile (B C : ℕ) {α : Type} (g : (⟨2, ![128 * B, 128 * C]⟩ : Shape).Idx → α) (b : Fin B) (c : Fin C) (y : S128x128.Idx) : α :=
  g (at2 (128 * b.val + (y 0).val) (128 * c.val + (y 1).val) (by have := b.isLt; have := lt0 y; omega)
    (by have := c.isLt; have := lt1 y; omega))

/-- An array of `128 B` rows and `128 C` columns given block by block. -/
def blocks (B C : ℕ) {α : Type} (f : Fin B → Fin C → S128x128.Idx → α) (y : (⟨2, ![128 * B, 128 * C]⟩ : Shape).Idx) : α :=
  f ⟨(y 0).val / 128, by have := lt0 y; omega⟩ ⟨(y 1).val / 128, by have := lt1 y; omega⟩
    (at2 ((y 0).val % 128) ((y 1).val % 128) (Nat.mod_lt _ (by omega)) (Nat.mod_lt _ (by omega)))

theorem blocks_apply (B C : ℕ) {α : Type} (f : Fin B → Fin C → S128x128.Idx → α) (y : (⟨2, ![128 * B, 128 * C]⟩ : Shape).Idx)
    (b : Fin B) (c : Fin C) (z : S128x128.Idx) (h0 : (y 0).val = 128 * b.val + (z 0).val)
    (h1 : (y 1).val = 128 * c.val + (z 1).val) : blocks B C f y = f b c z := by
  have l0 : (z 0).val < 128 := lt0 z
  have l1 : (z 1).val < 128 := lt1 z
  have e0 : (⟨(y 0).val / 128, by have := lt0 y; omega⟩ : Fin B) = b := Fin.ext (by show (y 0).val / 128 = _; omega)
  have e1 : (⟨(y 1).val / 128, by have := lt1 y; omega⟩ : Fin C) = c := Fin.ext (by show (y 1).val / 128 = _; omega)
  have e2 : z = at2 ((y 0).val % 128) ((y 1).val % 128) (Nat.mod_lt _ (by omega)) (Nat.mod_lt _ (by omega)) :=
    eq_at2 z _ _ (by omega) (by omega)
  unfold blocks
  rw [e0, e1, ← e2]

/-- A block read through the rectangle it is stored by. -/
theorem blocks_emb (B C : ℕ) {α : Type} (f : Fin B → Fin C → S128x128.Idx → α) (b : Fin B) (c : Fin C) (off : Fin 2 → ℕ)
    (h0 : off 0 = 128 * b.val) (h1 : off 1 = 128 * c.val)
    (inb : ∀ a, off a + S128x128.size a ≤ (⟨2, ![128 * B, 128 * C]⟩ : Shape).size a) (y : S128x128.Idx) :
    blocks B C f ((Rect.unit (s := ⟨2, ![128 * B, 128 * C]⟩) off S128x128.size inb).emb y) = f b c y :=
  blocks_apply B C f _ b c y (by rw [Rect.emb_apply]; simp [h0]) (by rw [Rect.emb_apply]; simp [h1])

/-- The transposed activations: at row `128 c + i` and column `128 b + j`, block `(b, c)` of the codes times its scale, transposed. -/
def XT (x : Vec F S4096x3584 .fp8e4m3) (xs : Vec F S32x28 .f32) : Vec F S3584x4096 .bf16 :=
  blocks 28 32 fun c b => k0_pay1 (tile 32 28 x b c) (xs (at2 b.val c.val b.isLt c.isLt))

/-- The words the loop's offsets come to. -/
theorem trips1 : k0_t1_loop.trips = 16 := by decide
theorem iv_val (k : ℕ) (h : k < 32) : Scf.iv 0#32 1#32 k = BitVec.ofNat 32 k := by
  have : ∀ k : Fin 32, Scf.iv 0#32 1#32 k.val = BitVec.ofNat 32 k.val := by decide
  exact this ⟨k, h⟩
theorem off_r (k : ℕ) (h : k < 16) (r : ℕ) (hr : r < 2) :
    (Scalar.indexCast (Scalar.addi (Scalar.muli (Scf.iv 0#32 1#32 k) 2#32) (BitVec.ofNat 32 r))).toNat = 2 * k + r := by
  have : ∀ (k : Fin 16) (r : Fin 2),
      (Scalar.indexCast (Scalar.addi (Scalar.muli (Scf.iv 0#32 1#32 k.val) 2#32) (BitVec.ofNat 32 r.val))).toNat = 2 * k.val + r.val := by
    decide
  exact this ⟨k, h⟩ ⟨r, hr⟩
theorem off_c (k : ℕ) (h : k < 16) (r : ℕ) (hr : r < 2) :
    (Scalar.indexCast (Scalar.addi (Scalar.muli (Scf.iv 0#32 1#32 k) 256#32) (BitVec.ofNat 32 (128 * r)))).toNat = 128 * (2 * k + r) := by
  have : ∀ (k : Fin 16) (r : Fin 2),
      (Scalar.indexCast (Scalar.addi (Scalar.muli (Scf.iv 0#32 1#32 k.val) 256#32) (BitVec.ofNat 32 (128 * r.val)))).toNat
        = 128 * (2 * k.val + r.val) := by decide
  exact this ⟨k, h⟩ ⟨r, hr⟩

theorem off_k (k : ℕ) (h : k < 16) : (Scalar.muli (Scf.iv 0#32 1#32 k) 256#32).toNat = 256 * k := by
  have : ∀ k : Fin 16, (Scalar.muli (Scf.iv 0#32 1#32 k.val) 256#32).toNat = 256 * k.val := by decide
  exact this ⟨k, h⟩

/-- One block of the 256 rows a trip copies, read back from where it copied them. -/
theorem copied (arg2 : Memref sig .tc .hbm S4096x3584 .fp8e4m3) (arg14 : Memref sig .tc .vmem S256x3584 .fp8e4m3)
    (X2 : BufTy.Contents (Elt F) arg2.view.ty) (k : ℕ) (hk : k < 16) (r : ℕ) (hr : r < 2) (c : Fin 28) (offk : Fin 2 → ℕ)
    (hk0 : offk 0 = 256 * k) (hk1 : offk 1 = 0) (inbk : ∀ a, offk a + S256x3584.size a ≤ S4096x3584.size a)
    (off : Fin 2 → ℕ) (h0 : off 0 = 128 * r) (h1 : off 1 = 128 * c.val)
    (inb : ∀ a, off a + S128x128.size a ≤ S256x3584.size a) (hu) :
    arg14.view.readCov (Val := Elt F) [⟨Rect.whole S256x3584, ReadAs.same.apply (View.read (Elt F)
        (arg2.slice (Rect.unit (s := S4096x3584) offk S256x3584.size inbk) hu).view X2)⟩]
      (Rect.unit (s := S256x3584) off S128x128.size inb).toLoadRect
      = tile 32 28 (arg2.view.read (Elt F) X2) ⟨2 * k + r, by omega⟩ c := by
  funext y
  unfold View.readCov
  rw [View.readAt_apply, View.read_writes_whole]
  refine congrArg (arg2.view.read (Elt F) X2) (eq_at2 _ _ _ ?_ ?_)
  · show offk 0 + 1 * (off 0 + 1 * (y 0).val) = 128 * (2 * k + r) + (y 0).val
    omega
  · show offk 1 + 1 * (off 1 + 1 * (y 1).val) = 128 * c.val + (y 1).val
    omega

/-- The contents a view and some word of a one-word rectangle give. -/
theorem read1 (arg3 : Memref sig .tc .smem S32x28 .f32) (X3 : BufTy.Contents (Elt F) arg3.view.ty) (off : Fin 2 → ℕ)
    (inb : ∀ a, off a + S1x1.size a ≤ S32x28.size a) (hn) (b : Fin 32) (c : Fin 28) (h0 : off 0 = b.val) (h1 : off 1 = c.val) :
    View.readAt (Elt F) arg3.view (Rect.unit (s := S32x28) off S1x1.size inb).toLoadRect X3 (Shape.Idx.first hn)
      = arg3.view.read (Elt F) X3 (at2 b.val c.val b.isLt c.isLt) := by
  rw [View.readAt_apply]
  refine congrArg (arg3.view.read (Elt F) X3) (eq_at2 _ _ _ ?_ ?_)
  · show off 0 + 1 * (Shape.Idx.first hn (0 : Fin 2)).val = b.val
    have : (Shape.Idx.first hn (0 : Fin 2)).val = 0 := rfl
    omega
  · show off 1 + 1 * (Shape.Idx.first hn (1 : Fin 2)).val = c.val
    have : (Shape.Idx.first hn (1 : Fin 2)).val = 0 := rfl
    omega

/-- A piece trip `k` writes: block `(c, 2 k + r)` of `XT`, stored where it stands in `XT`. -/
def Good (x : Vec F S4096x3584 .fp8e4m3) (xs : Vec F S32x28 .f32) (k : Fin 16) (q : Fin 2 × Fin 28)
    (p : View.Piece (Elt F) S3584x4096 .bf16) : Prop :=
  ∃ (off : Fin 2 → ℕ) (inb : ∀ a, off a + S128x128.size a ≤ S3584x4096.size a), off 0 = 128 * q.2.val ∧
    off 1 = 128 * (2 * k.val + q.1.val) ∧ p = ⟨Rect.unit (s := S3584x4096) off S128x128.size inb,
      k0_pay1 (tile 32 28 x ⟨2 * k.val + q.1.val, by omega⟩ q.2)
        (xs (at2 (2 * k.val + q.1.val) q.2.val (by omega) q.2.isLt))⟩

theorem good_piece (arg2 : Memref sig .tc .hbm S4096x3584 .fp8e4m3) (arg3 : Memref sig .tc .smem S32x28 .f32)
    (arg14 : Memref sig .tc .vmem S256x3584 .fp8e4m3)
    (X2 : BufTy.Contents (Elt F) arg2.view.ty) (X3 : BufTy.Contents (Elt F) arg3.view.ty) (k : Fin 16) (q : Fin 2 × Fin 28)
    (offk : Fin 2 → ℕ) (inbk : ∀ a, offk a + S256x3584.size a ≤ S4096x3584.size a) (hu)
    (off : Fin 2 → ℕ) (inb : ∀ a, off a + S128x128.size a ≤ S256x3584.size a)
    (offs : Fin 2 → ℕ) (inbs : ∀ a, offs a + S1x1.size a ≤ S32x28.size a) (hn)
    (offd : Fin 2 → ℕ) (inbd : ∀ a, offd a + S128x128.size a ≤ S3584x4096.size a)
    (hk0 : offk 0 = 256 * k.val) (hk1 : offk 1 = 0) (h0 : off 0 = 128 * q.1.val) (h1 : off 1 = 128 * q.2.val)
    (hs0 : offs 0 = 2 * k.val + q.1.val) (hs1 : offs 1 = q.2.val)
    (hd0 : offd 0 = 128 * q.2.val) (hd1 : offd 1 = 128 * (2 * k.val + q.1.val)) :
    Good (arg2.view.read (Elt F) X2) (arg3.view.read (Elt F) X3) k q ⟨Rect.unit (s := S3584x4096) offd S128x128.size inbd,
      k0_pay1 (arg14.view.readCov (Val := Elt F) [⟨Rect.whole S256x3584, ReadAs.same.apply (View.read (Elt F)
          (arg2.slice (Rect.unit (s := S4096x3584) offk S256x3584.size inbk) hu).view X2)⟩]
          (Rect.unit (s := S256x3584) off S128x128.size inb).toLoadRect)
        (View.readAt (Elt F) arg3.view (Rect.unit (s := S32x28) offs S1x1.size inbs).toLoadRect X3 (Shape.Idx.first hn))⟩ := by
  refine ⟨offd, inbd, hd0, hd1, ?_⟩
  rw [copied arg2 arg14 X2 k.val k.isLt q.1.val q.1.isLt q.2 offk hk0 hk1 inbk off h0 h1 inb hu,
    read1 arg3 X3 offs inbs hn ⟨2 * k.val + q.1.val, by omega⟩ q.2 hs0 hs1]

/-- The blocks of a trip in the order it writes them, last first. -/
def order : List (Fin 2 × Fin 28) := (List.finRange 28).reverse.flatMap fun c => [(1, c), (0, c)]

theorem mem_order (q : Fin 2 × Fin 28) : q ∈ order := by
  revert q; decide

theorem forall₂_right {α β : Type} {R : α → β → Prop} {l : List α} {l' : List β} (h : List.Forall₂ R l l') (b : β) (hb : b ∈ l') :
    ∃ a ∈ l, R a b := by
  induction h with
  | nil => exact absurd hb List.not_mem_nil
  | cons h _ ih =>
    rcases List.mem_cons.mp hb with rfl | hb
    · exact ⟨_, List.mem_cons_self, h⟩
    · obtain ⟨a, ha, hr⟩ := ih hb
      exact ⟨a, List.mem_cons_of_mem _ ha, hr⟩

theorem forall₂_left {α β : Type} {R : α → β → Prop} {l : List α} {l' : List β} (h : List.Forall₂ R l l') (a : α) (ha : a ∈ l) :
    ∃ b ∈ l', R a b := by
  induction h with
  | nil => exact absurd ha List.not_mem_nil
  | cons h _ ih =>
    rcases List.mem_cons.mp ha with rfl | ha
    · exact ⟨_, List.mem_cons_self, h⟩
    · obtain ⟨b, hb, hr⟩ := ih ha
      exact ⟨b, List.mem_cons_of_mem _ hb, hr⟩

/-- The pieces of trip `k` are the blocks of its 256 rows. -/
theorem trip_pieces (𝒱 : Variants) (c : Dev nD) (bd : Option 𝒱.V) (i : grid0.Coords) (arg2 : Memref sig .tc .hbm S4096x3584 .fp8e4m3) (harg2 : arg2.IsWhole) (arg3 : Memref sig .tc .smem S32x28 .f32) (harg3 : arg3.IsWhole) (arg4 : Memref sig .tc .vmem S4096x256 .f32) (harg4 : arg4.IsWhole) (arg5 : Memref sig .tc .vmem S896x256 .f32) (harg5 : arg5.IsWhole) (arg6 : Memref sig .tc .vmem S896x256 .f32) (harg6 : arg6.IsWhole) (arg7 : Memref sig .tc .vmem S4096x256 .fp8e5m2) (harg7 : arg7.IsWhole) (arg8 : Memref sig .tc .vmem S1x32x128 .f32) (harg8 : arg8.IsWhole) (arg9 : Memref sig .tc .vmem S4096x256 .fp8e4m3) (harg9 : arg9.IsWhole) (arg10 : Memref sig .tc .vmem S1x32x128 .f32) (harg10 : arg10.IsWhole) (arg11 : Memref sig .tc .vmem S3584x4096 .bf16) (harg11 : arg11.IsWhole) (arg12 : Memref sig .tc .vmem S4096x256 .bf16) (harg12 : arg12.IsWhole) (arg13 : Memref sig .tc .vmem S4096x256 .bf16) (harg13 : arg13.IsWhole) (arg14 : Memref sig .tc .vmem S256x3584 .fp8e4m3) (harg14 : arg14.IsWhole) (arg15 : DmaSems sig S_) (k0_h1 : k0_cond1 i = 1#1) (X_arg3 : BufTy.Contents (Elt F) arg3.view.ty) (X_arg2 : BufTy.Contents (Elt F) arg2.view.ty) (k : Fin k0_t1_loop.trips) :
    List.Forall₂ (Good (arg2.view.read (Elt F) X_arg2) (arg3.view.read (Elt F) X_arg3) ⟨k.val, trips1 ▸ k.isLt⟩) order
      (tripL_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 k0_h1 X_arg3 X_arg2 k) := by
  have hk : k.val < 16 := trips1 ▸ k.isLt
  unfold tripL_k0_t1 trip_k0_t1
  repeat
    refine List.Forall₂.cons (good_piece arg2 arg3 arg14 X_arg2 X_arg3 _ _ _ _ _ _ _ _ _ _ _ _ (off_k _ hk) (by rfl) (by rfl) (by rfl)
      (by first | exact off_r _ hk 0 (by decide) | exact off_r _ hk 1 (by decide)) (by rfl) (by rfl)
      (by first | exact off_c _ hk 0 (by decide) | exact off_c _ hk 1 (by decide))) ?_
  exact List.Forall₂.nil

/-- What the pieces of the trips before `n` hold, and that each block of those trips is among them. -/
theorem before_pieces (𝒱 : Variants) (c : Dev nD) (bd : Option 𝒱.V) (i : grid0.Coords) (arg2 : Memref sig .tc .hbm S4096x3584 .fp8e4m3) (harg2 : arg2.IsWhole) (arg3 : Memref sig .tc .smem S32x28 .f32) (harg3 : arg3.IsWhole) (arg4 : Memref sig .tc .vmem S4096x256 .f32) (harg4 : arg4.IsWhole) (arg5 : Memref sig .tc .vmem S896x256 .f32) (harg5 : arg5.IsWhole) (arg6 : Memref sig .tc .vmem S896x256 .f32) (harg6 : arg6.IsWhole) (arg7 : Memref sig .tc .vmem S4096x256 .fp8e5m2) (harg7 : arg7.IsWhole) (arg8 : Memref sig .tc .vmem S1x32x128 .f32) (harg8 : arg8.IsWhole) (arg9 : Memref sig .tc .vmem S4096x256 .fp8e4m3) (harg9 : arg9.IsWhole) (arg10 : Memref sig .tc .vmem S1x32x128 .f32) (harg10 : arg10.IsWhole) (arg11 : Memref sig .tc .vmem S3584x4096 .bf16) (harg11 : arg11.IsWhole) (arg12 : Memref sig .tc .vmem S4096x256 .bf16) (harg12 : arg12.IsWhole) (arg13 : Memref sig .tc .vmem S4096x256 .bf16) (harg13 : arg13.IsWhole) (arg14 : Memref sig .tc .vmem S256x3584 .fp8e4m3) (harg14 : arg14.IsWhole) (arg15 : DmaSems sig S_) (k0_h1 : k0_cond1 i = 1#1) (X_arg3 : BufTy.Contents (Elt F) arg3.view.ty) (X_arg2 : BufTy.Contents (Elt F) arg2.view.ty) (n : ℕ) (hn : n ≤ 16) :
    (∀ p ∈ pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 k0_h1 X_arg3 X_arg2 n, ∃ k q, Good (arg2.view.read (Elt F) X_arg2) (arg3.view.read (Elt F) X_arg3) k q p) ∧
    ∀ (k : Fin 16) (q : Fin 2 × Fin 28), k.val < n → ∃ p ∈ pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 k0_h1 X_arg3 X_arg2 n,
      Good (arg2.view.read (Elt F) X_arg2) (arg3.view.read (Elt F) X_arg3) k q p := by
  induction n with
  | zero => exact ⟨fun p hp => absurd hp List.not_mem_nil, fun k q h => absurd h (Nat.not_lt_zero _)⟩
  | succ n ih =>
    obtain ⟨ih1, ih2⟩ := ih (by omega)
    have e := pb_k0_t1_succ (F := F) 𝒱 c bd i arg2 harg2 arg3 harg3 arg4 harg4 arg5 harg5 arg6 harg6 arg7 harg7 arg8 harg8 arg9 harg9 arg10 harg10 arg11 harg11 arg12 harg12 arg13 harg13 arg14 harg14 arg15 k0_h1 X_arg3 X_arg2 ⟨n, trips1 ▸ (by omega : n < 16)⟩
    have t := trip_pieces (F := F) 𝒱 c bd i arg2 harg2 arg3 harg3 arg4 harg4 arg5 harg5 arg6 harg6 arg7 harg7 arg8 harg8 arg9 harg9 arg10 harg10 arg11 harg11 arg12 harg12 arg13 harg13 arg14 harg14 arg15 k0_h1 X_arg3 X_arg2 ⟨n, trips1 ▸ (by omega : n < 16)⟩
    refine ⟨fun p hp => ?_, fun k q hk => ?_⟩
    · rcases List.mem_append.mp (e ▸ hp) with h | h
      · obtain ⟨q, _, hq⟩ := forall₂_right t p h
        exact ⟨_, q, hq⟩
      · exact ih1 p h
    · rcases Nat.lt_succ_iff_lt_or_eq.mp hk with h | h
      · obtain ⟨p, hp, hg⟩ := ih2 k q h
        exact ⟨p, e ▸ List.mem_append_right _ hp, hg⟩
      · obtain ⟨p, hp, hg⟩ := forall₂_left t q (mem_order q)
        refine ⟨p, e ▸ List.mem_append_left _ hp, ?_⟩
        have : k = ⟨n, by omega⟩ := Fin.ext h
        rw [this]; exact hg

/-- After the loop the buffer of transposed activations reads `XT`, whatever it held before. -/
theorem read_XT (𝒱 : Variants) (c : Dev nD) (bd : Option 𝒱.V) (i : grid0.Coords) (arg2 : Memref sig .tc .hbm S4096x3584 .fp8e4m3) (harg2 : arg2.IsWhole) (arg3 : Memref sig .tc .smem S32x28 .f32) (harg3 : arg3.IsWhole) (arg4 : Memref sig .tc .vmem S4096x256 .f32) (harg4 : arg4.IsWhole) (arg5 : Memref sig .tc .vmem S896x256 .f32) (harg5 : arg5.IsWhole) (arg6 : Memref sig .tc .vmem S896x256 .f32) (harg6 : arg6.IsWhole) (arg7 : Memref sig .tc .vmem S4096x256 .fp8e5m2) (harg7 : arg7.IsWhole) (arg8 : Memref sig .tc .vmem S1x32x128 .f32) (harg8 : arg8.IsWhole) (arg9 : Memref sig .tc .vmem S4096x256 .fp8e4m3) (harg9 : arg9.IsWhole) (arg10 : Memref sig .tc .vmem S1x32x128 .f32) (harg10 : arg10.IsWhole) (arg11 : Memref sig .tc .vmem S3584x4096 .bf16) (harg11 : arg11.IsWhole) (arg12 : Memref sig .tc .vmem S4096x256 .bf16) (harg12 : arg12.IsWhole) (arg13 : Memref sig .tc .vmem S4096x256 .bf16) (harg13 : arg13.IsWhole) (arg14 : Memref sig .tc .vmem S256x3584 .fp8e4m3) (harg14 : arg14.IsWhole) (arg15 : DmaSems sig S_) (k0_h1 : k0_cond1 i = 1#1) (X_arg3 : BufTy.Contents (Elt F) arg3.view.ty) (X_arg2 : BufTy.Contents (Elt F) arg2.view.ty) (f : BufTy.Contents (Elt F) arg11.view.ty) :
    arg11.view.read (Elt F) (arg11.view.writes (Elt F) f (pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 k0_h1 X_arg3 X_arg2 16))
      = XT (arg2.view.read (Elt F) X_arg2) (arg3.view.read (Elt F) X_arg3) := by
  obtain ⟨h1, h2⟩ := before_pieces (F := F) 𝒱 c bd i arg2 harg2 arg3 harg3 arg4 harg4 arg5 harg5 arg6 harg6 arg7 harg7 arg8 harg8 arg9 harg9 arg10 harg10 arg11 harg11 arg12 harg12 arg13 harg13 arg14 harg14 arg15 k0_h1 X_arg3 X_arg2 16 le_rfl
  funext y
  refine View.read_writes_apply_of_pieces arg11.view f (XT (arg2.view.read (Elt F) X_arg2) (arg3.view.read (Elt F) X_arg3)) _ ?_ y ?_
  · intro p hp x
    obtain ⟨k, q, off, inb, e0, e1, rfl⟩ := h1 p hp
    exact (blocks_emb 28 32 (fun c b => k0_pay1 (tile 32 28 (arg2.view.read (Elt F) X_arg2) b c)
      (arg3.view.read (Elt F) X_arg3 (at2 b.val c.val b.isLt c.isLt))) q.2 ⟨2 * k.val + q.1.val, by omega⟩ off e0 e1 inb x).symm
  · have l0 : (y 0).val < 3584 := lt0 y
    have l1 : (y 1).val < 4096 := lt1 y
    obtain ⟨p, hp, off, inb, e0, e1, rfl⟩ := h2 ⟨(y 1).val / 256, by omega⟩
      (⟨(y 1).val / 128 % 2, by omega⟩, ⟨(y 0).val / 128, by omega⟩) (by show (y 1).val / 256 < 16; omega)
    refine ⟨_, hp, ?_⟩
    rw [Rect.mem_set_unit]
    intro a
    fin_cases a
    · show off 0 ≤ (y 0).val ∧ (y 0).val < off 0 + 128
      dsimp only at e0
      omega
    · show off 1 ≤ (y 1).val ∧ (y 1).val < off 1 + 128
      dsimp only at e1
      omega

end Cert.KernelIdeal.Hand
-- ==== Proof.GTile.lean ====
/- What the quantising loop leaves of one column block of the gradient: per 128 × 128 block the five quantities of the two-term
   quantiser (`tS` … `tRB`, the kernel's own formulas at one block), and each written buffer as those blocks side by side. -/
module

public import proofs.«01_k».proof.Proof.GLoop
public import proofs.«01_k».proof.Proof.XTile

@[expose] public section

set_option maxRecDepth 16384

noncomputable section

namespace Cert.KernelIdeal.Hand

open Idealize.ShloMosaic Idealize.ShloMosaic.TcCoe
open Cert.KernelIdeal Cert.KernelIdeal.Gen

variable {F : FTy → Type} [FloatOps F]

/-- The scale of the codes of one block, -/
def tS (q : Vec F S128x128 .f32) : FVec F S1x1 .f32 := k0_pay82 q
/-- the codes, -/
def tC (q : Vec F S128x128 .f32) : FVec F S128x128 .fp8e5m2 := k0_pay84 (k0_pay83 q)
/-- the codes times their scale, narrowed, -/
def tB (q : Vec F S128x128 .f32) : FVec F S128x128 .bf16 := k0_pay91 (k0_pay85 (k0_pay82 q) (k0_pay83 q))
/-- the scale of the residual's codes, -/
def tRS (q : Vec F S128x128 .f32) : FVec F S1x1 .f32 := k0_pay88 (k0_pay80 q) (k0_pay82 q) (k0_pay83 q)
/-- those codes, -/
def tRC (q : Vec F S128x128 .f32) : FVec F S128x128 .fp8e4m3 := k0_pay90 (k0_pay89 (k0_pay80 q) (k0_pay82 q) (k0_pay83 q))
/-- and those codes times their scale. -/
def tRB (q : Vec F S128x128 .f32) : FVec F S128x128 .bf16 :=
  k0_pay92 (k0_pay88 (k0_pay80 q) (k0_pay82 q) (k0_pay83 q)) (k0_pay89 (k0_pay80 q) (k0_pay82 q) (k0_pay83 q))
/-- A row of scales: lane 0 the first block's, lane 1 the second's, the other lanes zero. -/
def row (v23 : IVec S1x128 32) (s0 s1 : FVec F S1x1 .f32) : FVec F S1x1x128 .f32 := k0_pay3 (k0_pay93 v23 k0_pay78 s0) s1

theorem trips2 : k0_t2_loop.trips = 32 := by decide

theorem off58 (k : ℕ) (h : k < 32) : (Scalar.indexCast (Scalar.muli (Scf.iv 0#32 1#32 k) 128#32)).toNat = 128 * k := by
  have : ∀ k : Fin 32, (Scalar.indexCast (Scalar.muli (Scf.iv 0#32 1#32 k.val) 128#32)).toNat = 128 * k.val := by decide
  exact this ⟨k, h⟩

theorem off60 (k : ℕ) (h : k < 32) : (Scalar.indexCast (Scf.iv 0#32 1#32 k)).toNat = k := by
  have : ∀ k : Fin 32, (Scalar.indexCast (Scf.iv 0#32 1#32 k.val)).toNat = k.val := by decide
  exact this ⟨k, h⟩

/-- A block of the gradient as it is loaded. -/
theorem loaded (arg4 : Memref sig .tc .vmem S4096x256 .f32) (X : BufTy.Contents (Elt F) arg4.view.ty) (off : Fin 2 → ℕ)
    (inb : ∀ a, off a + S128x128.size a ≤ S4096x256.size a) (b : Fin 32) (c : Fin 2) (h0 : off 0 = 128 * b.val) (h1 : off 1 = 128 * c.val) :
    View.readAt (Elt F) arg4.view (Rect.unit (s := S4096x256) off S128x128.size inb).toLoadRect X
      = tile 32 2 (arg4.view.read (Elt F) X) b c := by
  funext y
  rw [View.readAt_apply]
  refine congrArg (arg4.view.read (Elt F) X) (eq_at2 _ _ _ ?_ ?_)
  · show off 0 + 1 * (y 0).val = _
    omega
  · show off 1 + 1 * (y 1).val = _
    omega

/-- Two blocks per trip, side by side, fill the buffer. -/
theorem fill {e : EltTy} (M : Memref sig .tc .vmem S4096x256 e) (G : BufTy.Contents (Elt F) M.view.ty)
    (f : Fin 32 → Fin 2 → S128x128.Idx → Elt F e) (L : ℕ → List (View.Piece (Elt F) S4096x256 e))
    (T : ∀ k, k < 32 → List (View.Piece (Elt F) S4096x256 e)) (h0 : L 0 = [])
    (hs : ∀ k (hk : k < 32), L (k + 1) = T k hk ++ L k)
    (hT : ∀ k (hk : k < 32), ∃ (o o' : Fin 2 → ℕ) (i : ∀ a, o a + S128x128.size a ≤ S4096x256.size a)
      (i' : ∀ a, o' a + S128x128.size a ≤ S4096x256.size a), (o 0 = 128 * k ∧ o 1 = 128) ∧ (o' 0 = 128 * k ∧ o' 1 = 0) ∧
      T k hk = [⟨Rect.unit (s := S4096x256) o S128x128.size i, f ⟨k, hk⟩ 1⟩, ⟨Rect.unit (s := S4096x256) o' S128x128.size i', f ⟨k, hk⟩ 0⟩]) :
    M.view.read (Elt F) (M.view.writes (Elt F) G (L 32)) = blocks 32 2 f := by
  have key : ∀ n ≤ 32, (∀ p ∈ L n, ∀ x, p.2 x = blocks 32 2 f (p.1.emb x)) ∧
      ∀ (y : S4096x256.Idx), (y 0).val < 128 * n → ∃ p ∈ L n, y ∈ p.1.set := by
    intro n
    induction n with
    | zero => exact fun _ => ⟨fun p hp => absurd (h0 ▸ hp) List.not_mem_nil, fun y h => absurd h (by omega)⟩
    | succ n ih =>
      intro hn
      obtain ⟨ih1, ih2⟩ := ih (by omega)
      obtain ⟨o, o', i, i', ⟨a0, a1⟩, ⟨b0, b1⟩, hT⟩ := hT n (by omega)
      rw [hs n (by omega), hT]
      refine ⟨fun p hp x => ?_, fun y hy => ?_⟩
      · simp only [List.cons_append, List.nil_append, List.mem_cons] at hp
        rcases hp with rfl | rfl | hp
        · exact (blocks_emb 32 2 f ⟨n, by omega⟩ 1 o a0 a1 i x).symm
        · exact (blocks_emb 32 2 f ⟨n, by omega⟩ 0 o' b0 b1 i' x).symm
        · exact ih1 p hp x
      · have l1 : (y 1).val < 256 := lt1 y
        by_cases h : (y 0).val < 128 * n
        · obtain ⟨p, hp, hy⟩ := ih2 y h
          exact ⟨p, by simp only [List.cons_append, List.nil_append, List.mem_cons]; exact .inr (.inr hp), hy⟩
        · by_cases h1 : (y 1).val < 128
          · refine ⟨_, List.mem_cons_of_mem _ List.mem_cons_self, ?_⟩
            rw [Rect.mem_set_unit]
            intro a
            fin_cases a
            · show o' 0 ≤ (y 0).val ∧ (y 0).val < o' 0 + 128
              omega
            · show o' 1 ≤ (y 1).val ∧ (y 1).val < o' 1 + 128
              omega
          · refine ⟨_, List.mem_cons_self, ?_⟩
            rw [Rect.mem_set_unit]
            intro a
            fin_cases a
            · show o 0 ≤ (y 0).val ∧ (y 0).val < o 0 + 128
              omega
            · show o 1 ≤ (y 1).val ∧ (y 1).val < o 1 + 128
              omega
  obtain ⟨k1, k2⟩ := key 32 le_rfl
  funext y
  exact View.read_writes_apply_of_pieces M.view G _ _ k1 y (k2 y (lt0 y))

/-- The index of lane `l` of a row. -/
def lane (l : Fin 128) : S1x1x128.Idx := fun
  | ⟨0, _⟩ => ⟨0, Nat.one_pos⟩
  | ⟨1, _⟩ => ⟨0, Nat.one_pos⟩
  | ⟨2, _⟩ => l

/-- 32 rows under each other. -/
def rows {α : Type} (f : Fin 32 → S1x1x128.Idx → α) (y : S1x32x128.Idx) : α := f (y 1) (lane (y 2))

/-- A row read through the rectangle it is stored by. -/
theorem rows_emb {α : Type} (f : Fin 32 → S1x1x128.Idx → α) (b : Fin 32) (o : Fin 3 → ℕ) (a0 : o 0 = 0) (a1 : o 1 = b.val) (a2 : o 2 = 0)
    (i : ∀ a, o a + S1x1x128.size a ≤ S1x32x128.size a) (x : S1x1x128.Idx) :
    rows f ((Rect.unit (s := S1x32x128) o S1x1x128.size i).emb x) = f b x := by
  have x0 : (x 0).val = 0 := Nat.lt_one_iff.mp (x 0).isLt
  have x1 : (x 1).val = 0 := Nat.lt_one_iff.mp (x 1).isLt
  refine congrArg₂ f (Fin.ext ?_) (funext fun a => Fin.ext ?_)
  · show o 1 + 1 * (x 1).val = b.val
    omega
  · fin_cases a
    · exact x0.symm
    · exact x1.symm
    · show o 2 + 1 * (x 2).val = (x 2).val
      omega

/-- Of a column block of the gradient: the codes, -/
def hcB (g : Vec F S4096x256 .f32) : Vec F S4096x256 .fp8e5m2 := blocks 32 2 fun b c => tC (tile 32 2 g b c)
/-- Of a column block of the gradient: the residual's codes, -/
def rcB (g : Vec F S4096x256 .f32) : Vec F S4096x256 .fp8e4m3 := blocks 32 2 fun b c => tRC (tile 32 2 g b c)
/-- Of a column block of the gradient: the codes times their scales, -/
def hbB (g : Vec F S4096x256 .f32) : Vec F S4096x256 .bf16 := blocks 32 2 fun b c => tB (tile 32 2 g b c)
/-- Of a column block of the gradient: the residual's codes times their scales, -/
def rbB (g : Vec F S4096x256 .f32) : Vec F S4096x256 .bf16 := blocks 32 2 fun b c => tRB (tile 32 2 g b c)
/-- and the scales. -/
def hsB (g : Vec F S4096x256 .f32) : Vec F S1x32x128 .f32 :=
  rows fun b => row (iota .tc S1x128 32 [1] iota_S1x128_d1_w32) (tS (tile 32 2 g b 0)) (tS (tile 32 2 g b 1))
/-- and the residual's scales. -/
def rsB (g : Vec F S4096x256 .f32) : Vec F S1x32x128 .f32 :=
  rows fun b => row (iota .tc S1x128 32 [1] iota_S1x128_d1_w32) (tRS (tile 32 2 g b 0)) (tRS (tile 32 2 g b 1))

/-- One row per trip fills the buffer. -/
theorem fill_rows {e : EltTy} (M : Memref sig .tc .vmem S1x32x128 e) (G : BufTy.Contents (Elt F) M.view.ty)
    (f : Fin 32 → S1x1x128.Idx → Elt F e) (L : ℕ → List (View.Piece (Elt F) S1x32x128 e))
    (T : ∀ k, k < 32 → List (View.Piece (Elt F) S1x32x128 e)) (h0 : L 0 = [])
    (hs : ∀ k (hk : k < 32), L (k + 1) = T k hk ++ L k)
    (hT : ∀ k (hk : k < 32), ∃ (o : Fin 3 → ℕ) (i : ∀ a, o a + S1x1x128.size a ≤ S1x32x128.size a),
      (o 0 = 0 ∧ o 1 = k ∧ o 2 = 0) ∧ T k hk = [⟨Rect.unit (s := S1x32x128) o S1x1x128.size i, f ⟨k, hk⟩⟩]) :
    M.view.read (Elt F) (M.view.writes (Elt F) G (L 32)) = rows f := by
  have key : ∀ n ≤ 32, (∀ p ∈ L n, ∀ x, p.2 x = rows f (p.1.emb x)) ∧
      ∀ (y : S1x32x128.Idx), (y 1).val < n → ∃ p ∈ L n, y ∈ p.1.set := by
    intro n
    induction n with
    | zero => exact fun _ => ⟨fun p hp => absurd (h0 ▸ hp) List.not_mem_nil, fun y h => absurd h (by omega)⟩
    | succ n ih =>
      intro hn
      obtain ⟨ih1, ih2⟩ := ih (by omega)
      obtain ⟨o, i, ⟨a0, a1, a2⟩, hT⟩ := hT n (by omega)
      rw [hs n (by omega), hT]
      refine ⟨fun p hp x => ?_, fun y hy => ?_⟩
      · simp only [List.cons_append, List.nil_append, List.mem_cons] at hp
        rcases hp with rfl | hp
        · exact (rows_emb f ⟨n, by omega⟩ o a0 a1 a2 i x).symm
        · exact ih1 p hp x
      · by_cases h : (y 1).val < n
        · obtain ⟨p, hp, hy⟩ := ih2 y h
          exact ⟨p, by simp only [List.cons_append, List.nil_append, List.mem_cons]; exact .inr hp, hy⟩
        · refine ⟨_, List.mem_cons_self, ?_⟩
          rw [Rect.mem_set_unit]
          intro a
          have y0 : (y 0).val < 1 := (y 0).isLt
          have y2 : (y 2).val < 128 := (y 2).isLt
          fin_cases a
          · show o 0 ≤ (y 0).val ∧ (y 0).val < o 0 + 1
            omega
          · show o 1 ≤ (y 1).val ∧ (y 1).val < o 1 + 1
            omega
          · show o 2 ≤ (y 2).val ∧ (y 2).val < o 2 + 128
            omega
  obtain ⟨k1, k2⟩ := key 32 le_rfl
  funext y
  exact View.read_writes_apply_of_pieces M.view G _ _ k1 y (k2 y (y 1).isLt)

theorem lt2 {k : ℕ} (h : k < 32) : k < k0_t2_loop.trips := by rw [trips2]; exact h

theorem inb2 (o : Fin 2 → ℕ) {k c : ℕ} (hk : k < 32) (hc : c < 2) (h0 : o 0 = 128 * k) (h1 : o 1 = 128 * c) :
    ∀ a, o a + S128x128.size a ≤ S4096x256.size a := by
  intro a
  fin_cases a
  · show o 0 + 128 ≤ 4096
    omega
  · show o 1 + 128 ≤ 256
    omega

theorem inb3 (o : Fin 3 → ℕ) {k : ℕ} (hk : k < 32) (h0 : o 0 = 0) (h1 : o 1 = k) (h2 : o 2 = 0) :
    ∀ a, o a + S1x1x128.size a ≤ S1x32x128.size a := by
  intro a
  fin_cases a
  · show o 0 + 1 ≤ 1
    omega
  · show o 1 + 1 ≤ 32
    omega
  · show o 2 + 128 ≤ 128
    omega

section

variable (𝒱 : Variants) (c : Dev nD) (bd : Option 𝒱.V) (i : grid0.Coords) (arg2 : Memref sig .tc .hbm S4096x3584 .fp8e4m3) (harg2 : arg2.IsWhole) (arg3 : Memref sig .tc .smem S32x28 .f32) (harg3 : arg3.IsWhole) (arg4 : Memref sig .tc .vmem S4096x256 .f32) (harg4 : arg4.IsWhole) (arg5 : Memref sig .tc .vmem S896x256 .f32) (harg5 : arg5.IsWhole) (arg6 : Memref sig .tc .vmem S896x256 .f32) (harg6 : arg6.IsWhole) (arg7 : Memref sig .tc .vmem S4096x256 .fp8e5m2) (harg7 : arg7.IsWhole) (arg8 : Memref sig .tc .vmem S1x32x128 .f32) (harg8 : arg8.IsWhole) (arg9 : Memref sig .tc .vmem S4096x256 .fp8e4m3) (harg9 : arg9.IsWhole) (arg10 : Memref sig .tc .vmem S1x32x128 .f32) (harg10 : arg10.IsWhole) (arg11 : Memref sig .tc .vmem S3584x4096 .bf16) (harg11 : arg11.IsWhole) (arg12 : Memref sig .tc .vmem S4096x256 .bf16) (harg12 : arg12.IsWhole) (arg13 : Memref sig .tc .vmem S4096x256 .bf16) (harg13 : arg13.IsWhole) (arg14 : Memref sig .tc .vmem S256x3584 .fp8e4m3) (harg14 : arg14.IsWhole) (arg15 : DmaSems sig S_) (k0_h2 : k0_cond2 i = 1#1) (v23 : IVec S1x128 32) (X_arg4 : BufTy.Contents (Elt F) arg4.view.ty)

/-- The loop's pieces before trip `n`, with the arguments fixed. -/
abbrev PB (n : ℕ) := pb_k0_t2 (F := F) 𝒱 c bd i arg2 harg2 arg3 harg3 arg4 harg4 arg5 harg5 arg6 harg6 arg7 harg7 arg8 harg8 arg9 harg9 arg10 harg10 arg11 harg11 arg12 harg12 arg13 harg13 arg14 harg14 arg15 k0_h2 v23 X_arg4 n

/-- A trip's pieces. -/
abbrev TL (k : ℕ) (hk : k < 32) := tripL_k0_t2 (F := F) 𝒱 c bd i arg2 harg2 arg3 harg3 arg4 harg4 arg5 harg5 arg6 harg6 arg7 harg7 arg8 harg8 arg9 harg9 arg10 harg10 arg11 harg11 arg12 harg12 arg13 harg13 arg14 harg14 arg15 k0_h2 v23 X_arg4 ⟨k, lt2 hk⟩

/-- The gradient block as the view reads it. -/
abbrev gr : Vec F S4096x256 .f32 := arg4.view.read (Elt F) X_arg4

/-- After the loop `arg7` reads the codes. -/
theorem read_arg7 (G : BufTy.Contents (Elt F) arg7.view.ty) : arg7.view.read (Elt F) (arg7.view.writes (Elt F) G (pb_k0_t2 (F := F) 𝒱 c bd i arg2 harg2 arg3 harg3 arg4 harg4 arg5 harg5 arg6 harg6 arg7 harg7 arg8 harg8 arg9 harg9 arg10 harg10 arg11 harg11 arg12 harg12 arg13 harg13 arg14 harg14 arg15 k0_h2 v23 X_arg4 32).1)
      = blocks 32 2 fun b c => tC (tile 32 2 (gr arg4 X_arg4) b c) := by
  refine fill arg7 G (fun b c => tC (tile 32 2 (gr arg4 X_arg4) b c)) (fun n => (PB 𝒱 c bd i arg2 harg2 arg3 harg3 arg4 harg4 arg5 harg5 arg6 harg6 arg7 harg7 arg8 harg8 arg9 harg9 arg10 harg10 arg11 harg11 arg12 harg12 arg13 harg13 arg14 harg14 arg15 k0_h2 v23 X_arg4 n).1) (fun k hk => (TL 𝒱 c bd i arg2 harg2 arg3 harg3 arg4 harg4 arg5 harg5 arg6 harg6 arg7 harg7 arg8 harg8 arg9 harg9 arg10 harg10 arg11 harg11 arg12 harg12 arg13 harg13 arg14 harg14 arg15 k0_h2 v23 X_arg4 k hk).1) rfl
    (fun k hk => congrArg (fun z => z.1) (pb_k0_t2_succ (F := F) 𝒱 c bd i arg2 harg2 arg3 harg3 arg4 harg4 arg5 harg5 arg6 harg6 arg7 harg7 arg8 harg8 arg9 harg9 arg10 harg10 arg11 harg11 arg12 harg12 arg13 harg13 arg14 harg14 arg15 k0_h2 v23 X_arg4 ⟨k, lt2 hk⟩)) fun k hk => ?_
  have i0 := inb2 (k0_off58 ⟨k, lt2 hk⟩) hk (by decide : 0 < 2) (off58 k hk) rfl
  have i1 := inb2 (k0_off59 ⟨k, lt2 hk⟩) hk (by decide : 1 < 2) (off58 k hk) rfl
  refine ⟨_, _, i1, i0, ⟨off58 k hk, rfl⟩, ⟨off58 k hk, rfl⟩, ?_⟩
  unfold TL tripL_k0_t2 trip_k0_t2
  refine congrArg₂ (fun a b => [(⟨Rect.unit (s := S4096x256) _ S128x128.size i1, a⟩ : View.Piece (Elt F) S4096x256 .fp8e5m2),
    ⟨Rect.unit (s := S4096x256) _ S128x128.size i0, b⟩]) (Eq.trans ?_ (congrArg tC (loaded arg4 X_arg4 _ i1 ⟨k, hk⟩ 1 (off58 k hk) rfl)))
    (Eq.trans ?_ (congrArg tC (loaded arg4 X_arg4 _ i0 ⟨k, hk⟩ 0 (off58 k hk) rfl)))
  · rfl
  · rfl

/-- After the loop `arg8` reads the scales. -/
theorem read_arg8 (G : BufTy.Contents (Elt F) arg8.view.ty) : arg8.view.read (Elt F) (arg8.view.writes (Elt F) G (pb_k0_t2 (F := F) 𝒱 c bd i arg2 harg2 arg3 harg3 arg4 harg4 arg5 harg5 arg6 harg6 arg7 harg7 arg8 harg8 arg9 harg9 arg10 harg10 arg11 harg11 arg12 harg12 arg13 harg13 arg14 harg14 arg15 k0_h2 v23 X_arg4 32).2.1)
      = rows fun b => row v23 (tS (tile 32 2 (gr arg4 X_arg4) b 0)) (tS (tile 32 2 (gr arg4 X_arg4) b 1)) := by
  refine fill_rows arg8 G (fun b => row v23 (tS (tile 32 2 (gr arg4 X_arg4) b 0)) (tS (tile 32 2 (gr arg4 X_arg4) b 1)))
    (fun n => (PB 𝒱 c bd i arg2 harg2 arg3 harg3 arg4 harg4 arg5 harg5 arg6 harg6 arg7 harg7 arg8 harg8 arg9 harg9 arg10 harg10 arg11 harg11 arg12 harg12 arg13 harg13 arg14 harg14 arg15 k0_h2 v23 X_arg4 n).2.1) (fun k hk => (TL 𝒱 c bd i arg2 harg2 arg3 harg3 arg4 harg4 arg5 harg5 arg6 harg6 arg7 harg7 arg8 harg8 arg9 harg9 arg10 harg10 arg11 harg11 arg12 harg12 arg13 harg13 arg14 harg14 arg15 k0_h2 v23 X_arg4 k hk).2.1) rfl
    (fun k hk => congrArg (fun z => z.2.1) (pb_k0_t2_succ (F := F) 𝒱 c bd i arg2 harg2 arg3 harg3 arg4 harg4 arg5 harg5 arg6 harg6 arg7 harg7 arg8 harg8 arg9 harg9 arg10 harg10 arg11 harg11 arg12 harg12 arg13 harg13 arg14 harg14 arg15 k0_h2 v23 X_arg4 ⟨k, lt2 hk⟩)) fun k hk => ?_
  have i0 := inb2 (k0_off58 ⟨k, lt2 hk⟩) hk (by decide : 0 < 2) (off58 k hk) rfl
  have i1 := inb2 (k0_off59 ⟨k, lt2 hk⟩) hk (by decide : 1 < 2) (off58 k hk) rfl
  refine ⟨k0_off60 ⟨k, lt2 hk⟩, inb3 _ hk rfl (off60 k hk) rfl, ⟨rfl, off60 k hk, rfl⟩, ?_⟩
  unfold TL tripL_k0_t2 trip_k0_t2
  refine congrArg (fun a => [(⟨Rect.unit (s := S1x32x128) _ S1x1x128.size _, a⟩ : View.Piece (Elt F) S1x32x128 .f32)])
    (Eq.trans ?_ (congrArg₂ (row v23) (congrArg tS (loaded arg4 X_arg4 _ i0 ⟨k, hk⟩ 0 (off58 k hk) rfl))
      (congrArg tS (loaded arg4 X_arg4 _ i1 ⟨k, hk⟩ 1 (off58 k hk) rfl))))
  rfl

/-- After the loop `arg9` reads the residual's codes. -/
theorem read_arg9 (G : BufTy.Contents (Elt F) arg9.view.ty) : arg9.view.read (Elt F) (arg9.view.writes (Elt F) G (pb_k0_t2 (F := F) 𝒱 c bd i arg2 harg2 arg3 harg3 arg4 harg4 arg5 harg5 arg6 harg6 arg7 harg7 arg8 harg8 arg9 harg9 arg10 harg10 arg11 harg11 arg12 harg12 arg13 harg13 arg14 harg14 arg15 k0_h2 v23 X_arg4 32).2.2.1)
      = blocks 32 2 fun b c => tRC (tile 32 2 (gr arg4 X_arg4) b c) := by
  refine fill arg9 G (fun b c => tRC (tile 32 2 (gr arg4 X_arg4) b c)) (fun n => (PB 𝒱 c bd i arg2 harg2 arg3 harg3 arg4 harg4 arg5 harg5 arg6 harg6 arg7 harg7 arg8 harg8 arg9 harg9 arg10 harg10 arg11 harg11 arg12 harg12 arg13 harg13 arg14 harg14 arg15 k0_h2 v23 X_arg4 n).2.2.1) (fun k hk => (TL 𝒱 c bd i arg2 harg2 arg3 harg3 arg4 harg4 arg5 harg5 arg6 harg6 arg7 harg7 arg8 harg8 arg9 harg9 arg10 harg10 arg11 harg11 arg12 harg12 arg13 harg13 arg14 harg14 arg15 k0_h2 v23 X_arg4 k hk).2.2.1) rfl
    (fun k hk => congrArg (fun z => z.2.2.1) (pb_k0_t2_succ (F := F) 𝒱 c bd i arg2 harg2 arg3 harg3 arg4 harg4 arg5 harg5 arg6 harg6 arg7 harg7 arg8 harg8 arg9 harg9 arg10 harg10 arg11 harg11 arg12 harg12 arg13 harg13 arg14 harg14 arg15 k0_h2 v23 X_arg4 ⟨k, lt2 hk⟩)) fun k hk => ?_
  have i0 := inb2 (k0_off58 ⟨k, lt2 hk⟩) hk (by decide : 0 < 2) (off58 k hk) rfl
  have i1 := inb2 (k0_off59 ⟨k, lt2 hk⟩) hk (by decide : 1 < 2) (off58 k hk) rfl
  refine ⟨_, _, i1, i0, ⟨off58 k hk, rfl⟩, ⟨off58 k hk, rfl⟩, ?_⟩
  unfold TL tripL_k0_t2 trip_k0_t2
  refine congrArg₂ (fun a b => [(⟨Rect.unit (s := S4096x256) _ S128x128.size i1, a⟩ : View.Piece (Elt F) S4096x256 .fp8e4m3),
    ⟨Rect.unit (s := S4096x256) _ S128x128.size i0, b⟩]) (Eq.trans ?_ (congrArg tRC (loaded arg4 X_arg4 _ i1 ⟨k, hk⟩ 1 (off58 k hk) rfl)))
    (Eq.trans ?_ (congrArg tRC (loaded arg4 X_arg4 _ i0 ⟨k, hk⟩ 0 (off58 k hk) rfl)))
  · rfl
  · rfl

/-- After the loop `arg10` reads the residual's scales. -/
theorem read_arg10 (G : BufTy.Contents (Elt F) arg10.view.ty) : arg10.view.read (Elt F) (arg10.view.writes (Elt F) G (pb_k0_t2 (F := F) 𝒱 c bd i arg2 harg2 arg3 harg3 arg4 harg4 arg5 harg5 arg6 harg6 arg7 harg7 arg8 harg8 arg9 harg9 arg10 harg10 arg11 harg11 arg12 harg12 arg13 harg13 arg14 harg14 arg15 k0_h2 v23 X_arg4 32).2.2.2.1)
      = rows fun b => row v23 (tRS (tile 32 2 (gr arg4 X_arg4) b 0)) (tRS (tile 32 2 (gr arg4 X_arg4) b 1)) := by
  refine fill_rows arg10 G (fun b => row v23 (tRS (tile 32 2 (gr arg4 X_arg4) b 0)) (tRS (tile 32 2 (gr arg4 X_arg4) b 1)))
    (fun n => (PB 𝒱 c bd i arg2 harg2 arg3 harg3 arg4 harg4 arg5 harg5 arg6 harg6 arg7 harg7 arg8 harg8 arg9 harg9 arg10 harg10 arg11 harg11 arg12 harg12 arg13 harg13 arg14 harg14 arg15 k0_h2 v23 X_arg4 n).2.2.2.1) (fun k hk => (TL 𝒱 c bd i arg2 harg2 arg3 harg3 arg4 harg4 arg5 harg5 arg6 harg6 arg7 harg7 arg8 harg8 arg9 harg9 arg10 harg10 arg11 harg11 arg12 harg12 arg13 harg13 arg14 harg14 arg15 k0_h2 v23 X_arg4 k hk).2.2.2.1) rfl
    (fun k hk => congrArg (fun z => z.2.2.2.1) (pb_k0_t2_succ (F := F) 𝒱 c bd i arg2 harg2 arg3 harg3 arg4 harg4 arg5 harg5 arg6 harg6 arg7 harg7 arg8 harg8 arg9 harg9 arg10 harg10 arg11 harg11 arg12 harg12 arg13 harg13 arg14 harg14 arg15 k0_h2 v23 X_arg4 ⟨k, lt2 hk⟩)) fun k hk => ?_
  have i0 := inb2 (k0_off58 ⟨k, lt2 hk⟩) hk (by decide : 0 < 2) (off58 k hk) rfl
  have i1 := inb2 (k0_off59 ⟨k, lt2 hk⟩) hk (by decide : 1 < 2) (off58 k hk) rfl
  refine ⟨k0_off60 ⟨k, lt2 hk⟩, inb3 _ hk rfl (off60 k hk) rfl, ⟨rfl, off60 k hk, rfl⟩, ?_⟩
  unfold TL tripL_k0_t2 trip_k0_t2
  refine congrArg (fun a => [(⟨Rect.unit (s := S1x32x128) _ S1x1x128.size _, a⟩ : View.Piece (Elt F) S1x32x128 .f32)])
    (Eq.trans ?_ (congrArg₂ (row v23) (congrArg tRS (loaded arg4 X_arg4 _ i0 ⟨k, hk⟩ 0 (off58 k hk) rfl))
      (congrArg tRS (loaded arg4 X_arg4 _ i1 ⟨k, hk⟩ 1 (off58 k hk) rfl))))
  rfl

/-- After the loop `arg12` reads the codes times their scales. -/
theorem read_arg12 (G : BufTy.Contents (Elt F) arg12.view.ty) : arg12.view.read (Elt F) (arg12.view.writes (Elt F) G (pb_k0_t2 (F := F) 𝒱 c bd i arg2 harg2 arg3 harg3 arg4 harg4 arg5 harg5 arg6 harg6 arg7 harg7 arg8 harg8 arg9 harg9 arg10 harg10 arg11 harg11 arg12 harg12 arg13 harg13 arg14 harg14 arg15 k0_h2 v23 X_arg4 32).2.2.2.2.1)
      = blocks 32 2 fun b c => tB (tile 32 2 (gr arg4 X_arg4) b c) := by
  refine fill arg12 G (fun b c => tB (tile 32 2 (gr arg4 X_arg4) b c)) (fun n => (PB 𝒱 c bd i arg2 harg2 arg3 harg3 arg4 harg4 arg5 harg5 arg6 harg6 arg7 harg7 arg8 harg8 arg9 harg9 arg10 harg10 arg11 harg11 arg12 harg12 arg13 harg13 arg14 harg14 arg15 k0_h2 v23 X_arg4 n).2.2.2.2.1) (fun k hk => (TL 𝒱 c bd i arg2 harg2 arg3 harg3 arg4 harg4 arg5 harg5 arg6 harg6 arg7 harg7 arg8 harg8 arg9 harg9 arg10 harg10 arg11 harg11 arg12 harg12 arg13 harg13 arg14 harg14 arg15 k0_h2 v23 X_arg4 k hk).2.2.2.2.1) rfl
    (fun k hk => congrArg (fun z => z.2.2.2.2.1) (pb_k0_t2_succ (F := F) 𝒱 c bd i arg2 harg2 arg3 harg3 arg4 harg4 arg5 harg5 arg6 harg6 arg7 harg7 arg8 harg8 arg9 harg9 arg10 harg10 arg11 harg11 arg12 harg12 arg13 harg13 arg14 harg14 arg15 k0_h2 v23 X_arg4 ⟨k, lt2 hk⟩)) fun k hk => ?_
  have i0 := inb2 (k0_off58 ⟨k, lt2 hk⟩) hk (by decide : 0 < 2) (off58 k hk) rfl
  have i1 := inb2 (k0_off59 ⟨k, lt2 hk⟩) hk (by decide : 1 < 2) (off58 k hk) rfl
  refine ⟨_, _, i1, i0, ⟨off58 k hk, rfl⟩, ⟨off58 k hk, rfl⟩, ?_⟩
  unfold TL tripL_k0_t2 trip_k0_t2
  refine congrArg₂ (fun a b => [(⟨Rect.unit (s := S4096x256) _ S128x128.size i1, a⟩ : View.Piece (Elt F) S4096x256 .bf16),
    ⟨Rect.unit (s := S4096x256) _ S128x128.size i0, b⟩]) (Eq.trans ?_ (congrArg tB (loaded arg4 X_arg4 _ i1 ⟨k, hk⟩ 1 (off58 k hk) rfl)))
    (Eq.trans ?_ (congrArg tB (loaded arg4 X_arg4 _ i0 ⟨k, hk⟩ 0 (off58 k hk) rfl)))
  · rfl
  · rfl

/-- After the loop `arg13` reads the residual's codes times their scales. -/
theorem read_arg13 (G : BufTy.Contents (Elt F) arg13.view.ty) : arg13.view.read (Elt F) (arg13.view.writes (Elt F) G (pb_k0_t2 (F := F) 𝒱 c bd i arg2 harg2 arg3 harg3 arg4 harg4 arg5 harg5 arg6 harg6 arg7 harg7 arg8 harg8 arg9 harg9 arg10 harg10 arg11 harg11 arg12 harg12 arg13 harg13 arg14 harg14 arg15 k0_h2 v23 X_arg4 32).2.2.2.2.2)
      = blocks 32 2 fun b c => tRB (tile 32 2 (gr arg4 X_arg4) b c) := by
  refine fill arg13 G (fun b c => tRB (tile 32 2 (gr arg4 X_arg4) b c)) (fun n => (PB 𝒱 c bd i arg2 harg2 arg3 harg3 arg4 harg4 arg5 harg5 arg6 harg6 arg7 harg7 arg8 harg8 arg9 harg9 arg10 harg10 arg11 harg11 arg12 harg12 arg13 harg13 arg14 harg14 arg15 k0_h2 v23 X_arg4 n).2.2.2.2.2) (fun k hk => (TL 𝒱 c bd i arg2 harg2 arg3 harg3 arg4 harg4 arg5 harg5 arg6 harg6 arg7 harg7 arg8 harg8 arg9 harg9 arg10 harg10 arg11 harg11 arg12 harg12 arg13 harg13 arg14 harg14 arg15 k0_h2 v23 X_arg4 k hk).2.2.2.2.2) rfl
    (fun k hk => congrArg (fun z => z.2.2.2.2.2) (pb_k0_t2_succ (F := F) 𝒱 c bd i arg2 harg2 arg3 harg3 arg4 harg4 arg5 harg5 arg6 harg6 arg7 harg7 arg8 harg8 arg9 harg9 arg10 harg10 arg11 harg11 arg12 harg12 arg13 harg13 arg14 harg14 arg15 k0_h2 v23 X_arg4 ⟨k, lt2 hk⟩)) fun k hk => ?_
  have i0 := inb2 (k0_off58 ⟨k, lt2 hk⟩) hk (by decide : 0 < 2) (off58 k hk) rfl
  have i1 := inb2 (k0_off59 ⟨k, lt2 hk⟩) hk (by decide : 1 < 2) (off58 k hk) rfl
  refine ⟨_, _, i1, i0, ⟨off58 k hk, rfl⟩, ⟨off58 k hk, rfl⟩, ?_⟩
  unfold TL tripL_k0_t2 trip_k0_t2
  refine congrArg₂ (fun a b => [(⟨Rect.unit (s := S4096x256) _ S128x128.size i1, a⟩ : View.Piece (Elt F) S4096x256 .bf16),
    ⟨Rect.unit (s := S4096x256) _ S128x128.size i0, b⟩]) (Eq.trans ?_ (congrArg tRB (loaded arg4 X_arg4 _ i1 ⟨k, hk⟩ 1 (off58 k hk) rfl)))
    (Eq.trans ?_ (congrArg tRB (loaded arg4 X_arg4 _ i0 ⟨k, hk⟩ 0 (off58 k hk) rfl)))
  · rfl
  · rfl

end

end Cert.KernelIdeal.Hand

end
-- ==== Proof.Left.lean ====
/- What the loop over a column block leaves in each buffer, of a gradient block it reads. -/
module

public import proofs.«01_k».proof.Proof.GTile
public import proofs.«01_k».proof.Proof.XTile
@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (Pipeline.UD sig nD τ) ℕ

variable {𝒱 : Variants} {c : Dev nD} {bd : Option 𝒱.V} {i : grid0.Coords} {arg2 : Memref sig .tc .hbm S4096x3584 .fp8e4m3} {harg2 : arg2.IsWhole} {arg3 : Memref sig .tc .smem S32x28 .f32} {harg3 : arg3.IsWhole} {arg4 : Memref sig .tc .vmem S4096x256 .f32} {harg4 : arg4.IsWhole} {arg5 : Memref sig .tc .vmem S896x256 .f32} {harg5 : arg5.IsWhole} {arg6 : Memref sig .tc .vmem S896x256 .f32} {harg6 : arg6.IsWhole} {arg7 : Memref sig .tc .vmem S4096x256 .fp8e5m2} {harg7 : arg7.IsWhole} {arg8 : Memref sig .tc .vmem S1x32x128 .f32} {harg8 : arg8.IsWhole} {arg9 : Memref sig .tc .vmem S4096x256 .fp8e4m3} {harg9 : arg9.IsWhole} {arg10 : Memref sig .tc .vmem S1x32x128 .f32} {harg10 : arg10.IsWhole} {arg11 : Memref sig .tc .vmem S3584x4096 .bf16} {harg11 : arg11.IsWhole} {arg12 : Memref sig .tc .vmem S4096x256 .bf16} {harg12 : arg12.IsWhole} {arg13 : Memref sig .tc .vmem S4096x256 .bf16} {harg13 : arg13.IsWhole} {arg14 : Memref sig .tc .vmem S256x3584 .fp8e4m3} {harg14 : arg14.IsWhole} {arg15 : DmaSems sig S_} {k0_h2 : k0_cond2 i = 1#1}
  {x1 : Vec F S4096x256 .f32} {v : IVec S1x128 32} {n : ℕ}

/-- What the loop leaves in `arg7`. -/
theorem left7 (hv : v = iota .tc S1x128 32 [1] iota_S1x128_d1_w32) (hn : n = 32) (G : BufTy.Contents (Elt F) arg7.view.ty) :
    arg7.view.read (Elt F) (arg7.view.writes (Elt F) G (pb_k0_t2 (F := F) 𝒱 c bd i arg2 harg2 arg3 harg3 arg4 harg4 arg5 harg5 arg6 harg6 arg7 harg7 arg8 harg8 arg9 harg9 arg10 harg10 arg11 harg11 arg12 harg12 arg13 harg13 arg14 harg14 arg15 k0_h2 v (harg4.unread x1) n).1) = hcB x1 := by
  subst hv; subst hn
  refine (read_arg7 𝒱 c bd i arg2 harg2 arg3 harg3 arg4 harg4 arg5 harg5 arg6 harg6 arg7 harg7 arg8 harg8 arg9 harg9 arg10 harg10 arg11 harg11 arg12 harg12 arg13 harg13 arg14 harg14 arg15 k0_h2 _ (harg4.unread x1) G).trans ?_
  rw [show gr arg4 (harg4.unread x1) = x1 from harg4.read_unread x1]
  rfl

/-- What the loop leaves in `arg8`. -/
theorem left8 (hv : v = iota .tc S1x128 32 [1] iota_S1x128_d1_w32) (hn : n = 32) (G : BufTy.Contents (Elt F) arg8.view.ty) :
    arg8.view.read (Elt F) (arg8.view.writes (Elt F) G (pb_k0_t2 (F := F) 𝒱 c bd i arg2 harg2 arg3 harg3 arg4 harg4 arg5 harg5 arg6 harg6 arg7 harg7 arg8 harg8 arg9 harg9 arg10 harg10 arg11 harg11 arg12 harg12 arg13 harg13 arg14 harg14 arg15 k0_h2 v (harg4.unread x1) n).2.1) = hsB x1 := by
  subst hv; subst hn
  refine (read_arg8 𝒱 c bd i arg2 harg2 arg3 harg3 arg4 harg4 arg5 harg5 arg6 harg6 arg7 harg7 arg8 harg8 arg9 harg9 arg10 harg10 arg11 harg11 arg12 harg12 arg13 harg13 arg14 harg14 arg15 k0_h2 _ (harg4.unread x1) G).trans ?_
  rw [show gr arg4 (harg4.unread x1) = x1 from harg4.read_unread x1]
  rfl

/-- What the loop leaves in `arg9`. -/
theorem left9 (hv : v = iota .tc S1x128 32 [1] iota_S1x128_d1_w32) (hn : n = 32) (G : BufTy.Contents (Elt F) arg9.view.ty) :
    arg9.view.read (Elt F) (arg9.view.writes (Elt F) G (pb_k0_t2 (F := F) 𝒱 c bd i arg2 harg2 arg3 harg3 arg4 harg4 arg5 harg5 arg6 harg6 arg7 harg7 arg8 harg8 arg9 harg9 arg10 harg10 arg11 harg11 arg12 harg12 arg13 harg13 arg14 harg14 arg15 k0_h2 v (harg4.unread x1) n).2.2.1) = rcB x1 := by
  subst hv; subst hn
  refine (read_arg9 𝒱 c bd i arg2 harg2 arg3 harg3 arg4 harg4 arg5 harg5 arg6 harg6 arg7 harg7 arg8 harg8 arg9 harg9 arg10 harg10 arg11 harg11 arg12 harg12 arg13 harg13 arg14 harg14 arg15 k0_h2 _ (harg4.unread x1) G).trans ?_
  rw [show gr arg4 (harg4.unread x1) = x1 from harg4.read_unread x1]
  rfl

/-- What the loop leaves in `arg10`. -/
theorem left10 (hv : v = iota .tc S1x128 32 [1] iota_S1x128_d1_w32) (hn : n = 32) (G : BufTy.Contents (Elt F) arg10.view.ty) :
    arg10.view.read (Elt F) (arg10.view.writes (Elt F) G (pb_k0_t2 (F := F) 𝒱 c bd i arg2 harg2 arg3 harg3 arg4 harg4 arg5 harg5 arg6 harg6 arg7 harg7 arg8 harg8 arg9 harg9 arg10 harg10 arg11 harg11 arg12 harg12 arg13 harg13 arg14 harg14 arg15 k0_h2 v (harg4.unread x1) n).2.2.2.1) = rsB x1 := by
  subst hv; subst hn
  refine (read_arg10 𝒱 c bd i arg2 harg2 arg3 harg3 arg4 harg4 arg5 harg5 arg6 harg6 arg7 harg7 arg8 harg8 arg9 harg9 arg10 harg10 arg11 harg11 arg12 harg12 arg13 harg13 arg14 harg14 arg15 k0_h2 _ (harg4.unread x1) G).trans ?_
  rw [show gr arg4 (harg4.unread x1) = x1 from harg4.read_unread x1]
  rfl

/-- What the loop leaves in `arg12`. -/
theorem left12 (hv : v = iota .tc S1x128 32 [1] iota_S1x128_d1_w32) (hn : n = 32) (G : BufTy.Contents (Elt F) arg12.view.ty) :
    arg12.view.read (Elt F) (arg12.view.writes (Elt F) G (pb_k0_t2 (F := F) 𝒱 c bd i arg2 harg2 arg3 harg3 arg4 harg4 arg5 harg5 arg6 harg6 arg7 harg7 arg8 harg8 arg9 harg9 arg10 harg10 arg11 harg11 arg12 harg12 arg13 harg13 arg14 harg14 arg15 k0_h2 v (harg4.unread x1) n).2.2.2.2.1) = hbB x1 := by
  subst hv; subst hn
  refine (read_arg12 𝒱 c bd i arg2 harg2 arg3 harg3 arg4 harg4 arg5 harg5 arg6 harg6 arg7 harg7 arg8 harg8 arg9 harg9 arg10 harg10 arg11 harg11 arg12 harg12 arg13 harg13 arg14 harg14 arg15 k0_h2 _ (harg4.unread x1) G).trans ?_
  rw [show gr arg4 (harg4.unread x1) = x1 from harg4.read_unread x1]
  rfl

/-- What the loop leaves in `arg13`. -/
theorem left13 (hv : v = iota .tc S1x128 32 [1] iota_S1x128_d1_w32) (hn : n = 32) (G : BufTy.Contents (Elt F) arg13.view.ty) :
    arg13.view.read (Elt F) (arg13.view.writes (Elt F) G (pb_k0_t2 (F := F) 𝒱 c bd i arg2 harg2 arg3 harg3 arg4 harg4 arg5 harg5 arg6 harg6 arg7 harg7 arg8 harg8 arg9 harg9 arg10 harg10 arg11 harg11 arg12 harg12 arg13 harg13 arg14 harg14 arg15 k0_h2 v (harg4.unread x1) n).2.2.2.2.2) = rbB x1 := by
  subst hv; subst hn
  refine (read_arg13 𝒱 c bd i arg2 harg2 arg3 harg3 arg4 harg4 arg5 harg5 arg6 harg6 arg7 harg7 arg8 harg8 arg9 harg9 arg10 harg10 arg11 harg11 arg12 harg12 arg13 harg13 arg14 harg14 arg15 k0_h2 _ (harg4.unread x1) G).trans ?_
  rw [show gr arg4 (harg4.unread x1) = x1 from harg4.read_unread x1]
  rfl

/-- What the loop over the activations leaves. -/
theorem trans_left {𝒱 : Variants} {c : Dev nD} {bd : Option 𝒱.V} {i : grid0.Coords} {arg2 : Memref sig .tc .hbm S4096x3584 .fp8e4m3} {harg2 : arg2.IsWhole} {arg3 : Memref sig .tc .smem S32x28 .f32} {harg3 : arg3.IsWhole} {arg4 : Memref sig .tc .vmem S4096x256 .f32} {harg4 : arg4.IsWhole} {arg5 : Memref sig .tc .vmem S896x256 .f32} {harg5 : arg5.IsWhole} {arg6 : Memref sig .tc .vmem S896x256 .f32} {harg6 : arg6.IsWhole} {arg7 : Memref sig .tc .vmem S4096x256 .fp8e5m2} {harg7 : arg7.IsWhole} {arg8 : Memref sig .tc .vmem S1x32x128 .f32} {harg8 : arg8.IsWhole} {arg9 : Memref sig .tc .vmem S4096x256 .fp8e4m3} {harg9 : arg9.IsWhole} {arg10 : Memref sig .tc .vmem S1x32x128 .f32} {harg10 : arg10.IsWhole} {arg11 : Memref sig .tc .vmem S3584x4096 .bf16} {harg11 : arg11.IsWhole} {arg12 : Memref sig .tc .vmem S4096x256 .bf16} {harg12 : arg12.IsWhole} {arg13 : Memref sig .tc .vmem S4096x256 .bf16} {harg13 : arg13.IsWhole} {arg14 : Memref sig .tc .vmem S256x3584 .fp8e4m3} {harg14 : arg14.IsWhole} {arg15 : DmaSems sig S_} {k0_h1 : k0_cond1 i = 1#1} {X2 : BufTy.Contents (Elt F) arg2.view.ty} {Y : Vec F S4096x3584 .fp8e4m3} {x0 : Vec F S32x28 .f32} {n : ℕ}
    (hY : arg2.view.read (Elt F) X2 = Y) (hn : n = 16) (f : BufTy.Contents (Elt F) arg11.view.ty) :
    arg11.view.read (Elt F) (arg11.view.writes (Elt F) f (pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 k0_h1 (harg3.unread x0) X2 n)) = XT Y x0 := by
  subst hY; subst hn
  refine (read_XT 𝒱 c bd i arg2 harg2 arg3 harg3 arg4 harg4 arg5 harg5 arg6 harg6 arg7 harg7 arg8 harg8 arg9 harg9 arg10 harg10 arg11 harg11 arg12 harg12 arg13 harg13 arg14 harg14 arg15 k0_h1 (harg3.unread x0) X2 f).trans ?_
  rw [harg3.read_unread]

end Cert.KernelIdeal.Hand

end
-- ==== Proof.RunA.lean ====
/- The first grid step: it also fills the scratch with the activations. -/
module

public import proofs.«01_k».proof.Proof.Products
public import proofs.«01_k».proof.Proof.Left
public import proofs.«01_k».proof.Proof.XTile
@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (Pipeline.UD sig nD τ) ℕ

set_option maxHeartbeats 1000000 in
/-- The first step: the activations are put back together, then a column block is quantised. -/
theorem runA (c : Dev nD) (i : grid0.Coords) (arg3 : Memref sig .tc .smem S32x28 .f32) (harg3 : arg3.IsWhole) (arg4 : Memref sig .tc .vmem S4096x256 .f32) (harg4 : arg4.IsWhole) (arg5 : Memref sig .tc .vmem S896x256 .f32) (harg5 : arg5.IsWhole) (arg6 : Memref sig .tc .vmem S896x256 .f32) (harg6 : arg6.IsWhole) (arg7 : Memref sig .tc .vmem S4096x256 .fp8e5m2) (harg7 : arg7.IsWhole) (arg8 : Memref sig .tc .vmem S1x32x128 .f32) (harg8 : arg8.IsWhole) (arg9 : Memref sig .tc .vmem S4096x256 .fp8e4m3) (harg9 : arg9.IsWhole) (arg10 : Memref sig .tc .vmem S1x32x128 .f32) (harg10 : arg10.IsWhole) (arg11 : Memref sig .tc .vmem S3584x4096 .bf16) (harg11 : arg11.IsWhole) (arg12 : Memref sig .tc .vmem S4096x256 .bf16) (harg12 : arg12.IsWhole) (arg13 : Memref sig .tc .vmem S4096x256 .bf16) (harg13 : arg13.IsWhole) (arg14 : Memref sig .tc .vmem S256x3584 .fp8e4m3) (harg14 : arg14.IsWhole)  (hc0 : cond0_0 i) (hc1 : cond0_1 i)
    (x0 : Vec F S32x28 .f32) (x1 : Vec F S4096x256 .f32) (fh0 : HbBuf0 (F := F) c hbM0_0) :
      ∀ (W : Waits sig Unit) (K : PUnit → sProp 𝕄),
        iprop(owns (c : Thread nD τ) arg3 fullShare x0 ∗ owns (c : Thread nD τ) arg4 fullShare x1 ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ semVal ((c : Thread nD τ), SemLoc.dma 15) 0 ∗ hbPt0 c hbM0_0 fh0 ∗ owes (c : Thread nD τ) 0 W
            ∗ (iprop(owns (c : Thread nD τ) arg3 fullShare x0 ∗ owns (c : Thread nD τ) arg4 fullShare x1 ∗ owns (c : Thread nD τ) arg5 fullShare (dwV (XT (hbM0_0.view.read (Elt F) fh0) x0) (hbB x1) (rbB x1) i) ∗ owns (c : Thread nD τ) arg6 fullShare (dwrV (XT (hbM0_0.view.read (Elt F) fh0) x0) (rbB x1) i) ∗ owns (c : Thread nD τ) arg7 fullShare (hcB x1) ∗ owns (c : Thread nD τ) arg8 fullShare (hsB x1) ∗ owns (c : Thread nD τ) arg9 fullShare (rcB x1) ∗ owns (c : Thread nD τ) arg10 fullShare (rsB x1) ∗ owns (c : Thread nD τ) arg11 fullShare (XT (hbM0_0.view.read (Elt F) fh0) x0) ∗ owns (c : Thread nD τ) arg12 fullShare (hbB x1) ∗ owns (c : Thread nD τ) arg13 fullShare (rbB x1) ∗ (∃ d, owns (c : Thread nD τ) arg14 fullShare d) ∗ semVal ((c : Thread nD τ), SemLoc.dma 15) 0 ∗ hbPt0 c hbM0_0 fh0 ∗ (∃ W', owes (c : Thread nD τ) 0 W')) -∗ K ⟨⟩))
          ⊢ wp frame (wpE (defs₀ (F := F)) Variants.none c none) Set.univ (cc0_split_grad i (Memref.whole main_v0) (Memref.isWhole_whole _) arg3 harg3 arg4 harg4 arg5 harg5 arg6 harg6 arg7 harg7 arg8 harg8 arg9 harg9 arg10 harg10 arg11 harg11 arg12 harg12 arg13 harg13 arg14 harg14 cc0_scratch4) K := by
    intro W K
    simp only [cc0_split_grad_eq_skeleton]; unfold cc0_split_grad_skel
    unfold owns
    iintro ⟨⟨%f3, %hf3, H3⟩, ⟨%f4, %hf4, H4⟩, ⟨%d5, %f5, -, H5⟩, ⟨%d6, %f6, -, H6⟩, ⟨%d7, %f7, -, H7⟩, ⟨%d8, %f8, -, H8⟩, ⟨%d9, %f9, -, H9⟩, ⟨%d10, %f10, -, H10⟩, ⟨%d11, %f11, -, H11⟩, ⟨%d12, %f12, -, H12⟩, ⟨%d13, %f13, -, H13⟩, ⟨%d14, %f14, -, H14⟩, Hq0, Hh0, HW, Hk⟩
    obtain rfl := harg3.eq_unread hf3; obtain rfl := harg4.eq_unread hf4
    sl_exec (disch := first | sl_exact hc0 | sl_exact hc1)
    sl_step
    iapply Hk
    isplitl [H3]
    · iexists _; isplitr; swap; · iexact H3
      ipureintro
      exact harg3.read_unread _
    isplitl [H4]
    · iexists _; isplitr; swap; · iexact H4
      ipureintro
      exact harg4.read_unread _
    isplitl [H5]
    · iexists _; isplitr; swap; · iexact H5
      ipureintro
      exact (dw_of arg5 arg6 arg11 arg12 arg13 i f5 _ _ _ _ _ _ _ _ _ _ _ _ _ _ _).trans (dw_eq i (trans_left rfl trips1 _) (left12 rfl trips2 _) (left13 rfl trips2 _))
    isplitl [H6]
    · iexists _; isplitr; swap; · iexact H6
      ipureintro
      exact (dwr_of arg6 arg11 arg13 i f6 _ _ _ _ _ _).trans (dwr_eq i (trans_left rfl trips1 _) (left13 rfl trips2 _))
    isplitl [H7]
    · iexists _; isplitr; swap; · iexact H7
      ipureintro
      exact left7 rfl trips2 _
    isplitl [H8]
    · iexists _; isplitr; swap; · iexact H8
      ipureintro
      exact left8 rfl trips2 _
    isplitl [H9]
    · iexists _; isplitr; swap; · iexact H9
      ipureintro
      exact left9 rfl trips2 _
    isplitl [H10]
    · iexists _; isplitr; swap; · iexact H10
      ipureintro
      exact left10 rfl trips2 _
    isplitl [H11]
    · iexists _; isplitr; swap; · iexact H11
      ipureintro
      exact trans_left rfl trips1 _
    isplitl [H12]
    · iexists _; isplitr; swap; · iexact H12
      ipureintro
      exact left12 rfl trips2 _
    isplitl [H13]
    · iexists _; isplitr; swap; · iexact H13
      ipureintro
      exact left13 rfl trips2 _
    isplitl [H14]
    · iexists _, _; isplitr; swap; · iexact H14
      ipureintro; rfl
    isplitl [Hq0]; · iexact Hq0
    isplitl [Hh0]; · iexact Hh0
    iexists _; iexact HW

end Cert.KernelIdeal.Hand

end
-- ==== Proof.RunB.lean ====
/- One grid step where neither branch is taken: both products, everything else left alone. -/
module

public import proofs.«01_k».proof.Proof.Products
public import proofs.«01_k».proof.Proof.Left
public import proofs.«01_k».proof.Proof.XTile
@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (Pipeline.UD sig nD τ) ℕ

set_option maxHeartbeats 1000000 in
/-- A step that quantises nothing: the two products of what the scratch holds, all else kept. -/
theorem runB (c : Dev nD) (i : grid0.Coords) (arg3 : Memref sig .tc .smem S32x28 .f32) (harg3 : arg3.IsWhole) (arg4 : Memref sig .tc .vmem S4096x256 .f32) (harg4 : arg4.IsWhole) (arg5 : Memref sig .tc .vmem S896x256 .f32) (harg5 : arg5.IsWhole) (arg6 : Memref sig .tc .vmem S896x256 .f32) (harg6 : arg6.IsWhole) (arg7 : Memref sig .tc .vmem S4096x256 .fp8e5m2) (harg7 : arg7.IsWhole) (arg8 : Memref sig .tc .vmem S1x32x128 .f32) (harg8 : arg8.IsWhole) (arg9 : Memref sig .tc .vmem S4096x256 .fp8e4m3) (harg9 : arg9.IsWhole) (arg10 : Memref sig .tc .vmem S1x32x128 .f32) (harg10 : arg10.IsWhole) (arg11 : Memref sig .tc .vmem S3584x4096 .bf16) (harg11 : arg11.IsWhole) (arg12 : Memref sig .tc .vmem S4096x256 .bf16) (harg12 : arg12.IsWhole) (arg13 : Memref sig .tc .vmem S4096x256 .bf16) (harg13 : arg13.IsWhole) (arg14 : Memref sig .tc .vmem S256x3584 .fp8e4m3) (harg14 : arg14.IsWhole)  (hc0 : ¬ cond0_0 i) (hc1 : ¬ cond0_1 i)
    (x0 : Vec F S32x28 .f32) (x1 : Vec F S4096x256 .f32) (fh0 : HbBuf0 (F := F) c hbM0_0) (y7 : Vec F S4096x256 .fp8e5m2)
    (y8 : Vec F S1x32x128 .f32) (y9 : Vec F S4096x256 .fp8e4m3) (y10 : Vec F S1x32x128 .f32) (X : Vec F S3584x4096 .bf16) (h r : Vec F S4096x256 .bf16) :
      ∀ (W : Waits sig Unit) (K : PUnit → sProp 𝕄),
        iprop(owns (c : Thread nD τ) arg3 fullShare x0 ∗ owns (c : Thread nD τ) arg4 fullShare x1 ∗ (∃ d, owns (c : Thread nD τ) arg5 fullShare d) ∗ (∃ d, owns (c : Thread nD τ) arg6 fullShare d) ∗ owns (c : Thread nD τ) arg7 fullShare y7 ∗ owns (c : Thread nD τ) arg8 fullShare y8 ∗ owns (c : Thread nD τ) arg9 fullShare y9 ∗ owns (c : Thread nD τ) arg10 fullShare y10 ∗ owns (c : Thread nD τ) arg11 fullShare X ∗ owns (c : Thread nD τ) arg12 fullShare h ∗ owns (c : Thread nD τ) arg13 fullShare r ∗ (∃ d, owns (c : Thread nD τ) arg14 fullShare d) ∗ semVal ((c : Thread nD τ), SemLoc.dma 15) 0 ∗ hbPt0 c hbM0_0 fh0 ∗ owes (c : Thread nD τ) 0 W
            ∗ (iprop(owns (c : Thread nD τ) arg3 fullShare x0 ∗ owns (c : Thread nD τ) arg4 fullShare x1 ∗ owns (c : Thread nD τ) arg5 fullShare (dwV X h r i) ∗ owns (c : Thread nD τ) arg6 fullShare (dwrV X r i) ∗ owns (c : Thread nD τ) arg7 fullShare y7 ∗ owns (c : Thread nD τ) arg8 fullShare y8 ∗ owns (c : Thread nD τ) arg9 fullShare y9 ∗ owns (c : Thread nD τ) arg10 fullShare y10 ∗ owns (c : Thread nD τ) arg11 fullShare X ∗ owns (c : Thread nD τ) arg12 fullShare h ∗ owns (c : Thread nD τ) arg13 fullShare r ∗ (∃ d, owns (c : Thread nD τ) arg14 fullShare d) ∗ semVal ((c : Thread nD τ), SemLoc.dma 15) 0 ∗ hbPt0 c hbM0_0 fh0 ∗ (∃ W', owes (c : Thread nD τ) 0 W')) -∗ K ⟨⟩))
          ⊢ wp frame (wpE (defs₀ (F := F)) Variants.none c none) Set.univ (cc0_split_grad i (Memref.whole main_v0) (Memref.isWhole_whole _) arg3 harg3 arg4 harg4 arg5 harg5 arg6 harg6 arg7 harg7 arg8 harg8 arg9 harg9 arg10 harg10 arg11 harg11 arg12 harg12 arg13 harg13 arg14 harg14 cc0_scratch4) K := by
    intro W K
    simp only [cc0_split_grad_eq_skeleton]; unfold cc0_split_grad_skel
    unfold owns
    iintro ⟨⟨%f3, %hf3, H3⟩, ⟨%f4, %hf4, H4⟩, ⟨%d5, %f5, -, H5⟩, ⟨%d6, %f6, -, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%d14, %f14, -, H14⟩, Hq0, Hh0, HW, Hk⟩
    obtain rfl := harg3.eq_unread hf3; obtain rfl := harg4.eq_unread hf4; obtain rfl := harg7.eq_unread hf7; obtain rfl := harg8.eq_unread hf8; obtain rfl := harg9.eq_unread hf9; obtain rfl := harg10.eq_unread hf10; obtain rfl := harg11.eq_unread hf11; obtain rfl := harg12.eq_unread hf12; obtain rfl := harg13.eq_unread hf13
    sl_exec (disch := first | sl_exact hc0 | sl_exact hc1)
    sl_step
    iapply Hk
    isplitl [H3]
    · iexists _; isplitr; swap; · iexact H3
      ipureintro
      exact harg3.read_unread _
    isplitl [H4]
    · iexists _; isplitr; swap; · iexact H4
      ipureintro
      exact harg4.read_unread _
    isplitl [H5]
    · iexists _; isplitr; swap; · iexact H5
      ipureintro
      exact (dw_of arg5 arg6 arg11 arg12 arg13 i f5 (harg11.unread X) (harg12.unread h) (harg13.unread r) _ _ _ _ _ _ _ _ _ _ _ _).trans (by rw [harg11.read_unread, harg12.read_unread, harg13.read_unread])
    isplitl [H6]
    · iexists _; isplitr; swap; · iexact H6
      ipureintro
      exact (dwr_of arg6 arg11 arg13 i f6 (harg11.unread X) (harg13.unread r) _ _ _ _).trans (by rw [harg11.read_unread, harg13.read_unread])
    isplitl [H7]
    · iexists _; isplitr; swap; · iexact H7
      ipureintro
      exact harg7.read_unread _
    isplitl [H8]
    · iexists _; isplitr; swap; · iexact H8
      ipureintro
      exact harg8.read_unread _
    isplitl [H9]
    · iexists _; isplitr; swap; · iexact H9
      ipureintro
      exact harg9.read_unread _
    isplitl [H10]
    · iexists _; isplitr; swap; · iexact H10
      ipureintro
      exact harg10.read_unread _
    isplitl [H11]
    · iexists _; isplitr; swap; · iexact H11
      ipureintro
      exact harg11.read_unread _
    isplitl [H12]
    · iexists _; isplitr; swap; · iexact H12
      ipureintro
      exact harg12.read_unread _
    isplitl [H13]
    · iexists _; isplitr; swap; · iexact H13
      ipureintro
      exact harg13.read_unread _
    isplitl [H14]
    · iexists _, _; isplitr; swap; · iexact H14
      ipureintro; rfl
    isplitl [Hq0]; · iexact Hq0
    isplitl [Hh0]; · iexact Hh0
    iexists _; iexact HW

end Cert.KernelIdeal.Hand

end
-- ==== Proof.RunC.lean ====
/- One grid step where a new column block of the gradient is quantised first. -/
module

public import proofs.«01_k».proof.Proof.Products
public import proofs.«01_k».proof.Proof.Left
public import proofs.«01_k».proof.Proof.XTile
@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (Pipeline.UD sig nD τ) ℕ

set_option maxHeartbeats 1000000 in
/-- A step that quantises a new column block: its codes, scales and scratch, and the products with them. -/
theorem runC (c : Dev nD) (i : grid0.Coords) (arg3 : Memref sig .tc .smem S32x28 .f32) (harg3 : arg3.IsWhole) (arg4 : Memref sig .tc .vmem S4096x256 .f32) (harg4 : arg4.IsWhole) (arg5 : Memref sig .tc .vmem S896x256 .f32) (harg5 : arg5.IsWhole) (arg6 : Memref sig .tc .vmem S896x256 .f32) (harg6 : arg6.IsWhole) (arg7 : Memref sig .tc .vmem S4096x256 .fp8e5m2) (harg7 : arg7.IsWhole) (arg8 : Memref sig .tc .vmem S1x32x128 .f32) (harg8 : arg8.IsWhole) (arg9 : Memref sig .tc .vmem S4096x256 .fp8e4m3) (harg9 : arg9.IsWhole) (arg10 : Memref sig .tc .vmem S1x32x128 .f32) (harg10 : arg10.IsWhole) (arg11 : Memref sig .tc .vmem S3584x4096 .bf16) (harg11 : arg11.IsWhole) (arg12 : Memref sig .tc .vmem S4096x256 .bf16) (harg12 : arg12.IsWhole) (arg13 : Memref sig .tc .vmem S4096x256 .bf16) (harg13 : arg13.IsWhole) (arg14 : Memref sig .tc .vmem S256x3584 .fp8e4m3) (harg14 : arg14.IsWhole)  (hc0 : ¬ cond0_0 i) (hc1 : cond0_1 i)
    (x0 : Vec F S32x28 .f32) (x1 : Vec F S4096x256 .f32) (fh0 : HbBuf0 (F := F) c hbM0_0) (X : Vec F S3584x4096 .bf16) :
      ∀ (W : Waits sig Unit) (K : PUnit → sProp 𝕄),
        iprop(owns (c : Thread nD τ) arg3 fullShare x0 ∗ owns (c : Thread nD τ) arg4 fullShare x1 ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ owns (c : Thread nD τ) arg11 fullShare X ∗ (∃ d, owns (c : Thread nD τ) arg12 fullShare d) ∗ (∃ d, owns (c : Thread nD τ) arg13 fullShare d) ∗ (∃ d, owns (c : Thread nD τ) arg14 fullShare d) ∗ semVal ((c : Thread nD τ), SemLoc.dma 15) 0 ∗ hbPt0 c hbM0_0 fh0 ∗ owes (c : Thread nD τ) 0 W
            ∗ (iprop(owns (c : Thread nD τ) arg3 fullShare x0 ∗ owns (c : Thread nD τ) arg4 fullShare x1 ∗ owns (c : Thread nD τ) arg5 fullShare (dwV X (hbB x1) (rbB x1) i) ∗ owns (c : Thread nD τ) arg6 fullShare (dwrV X (rbB x1) i) ∗ owns (c : Thread nD τ) arg7 fullShare (hcB x1) ∗ owns (c : Thread nD τ) arg8 fullShare (hsB x1) ∗ owns (c : Thread nD τ) arg9 fullShare (rcB x1) ∗ owns (c : Thread nD τ) arg10 fullShare (rsB x1) ∗ owns (c : Thread nD τ) arg11 fullShare X ∗ owns (c : Thread nD τ) arg12 fullShare (hbB x1) ∗ owns (c : Thread nD τ) arg13 fullShare (rbB x1) ∗ (∃ d, owns (c : Thread nD τ) arg14 fullShare d) ∗ semVal ((c : Thread nD τ), SemLoc.dma 15) 0 ∗ hbPt0 c hbM0_0 fh0 ∗ (∃ W', owes (c : Thread nD τ) 0 W')) -∗ K ⟨⟩))
          ⊢ wp frame (wpE (defs₀ (F := F)) Variants.none c none) Set.univ (cc0_split_grad i (Memref.whole main_v0) (Memref.isWhole_whole _) arg3 harg3 arg4 harg4 arg5 harg5 arg6 harg6 arg7 harg7 arg8 harg8 arg9 harg9 arg10 harg10 arg11 harg11 arg12 harg12 arg13 harg13 arg14 harg14 cc0_scratch4) K := by
    intro W K
    simp only [cc0_split_grad_eq_skeleton]; unfold cc0_split_grad_skel
    unfold owns
    iintro ⟨⟨%f3, %hf3, H3⟩, ⟨%f4, %hf4, H4⟩, ⟨%d5, %f5, -, H5⟩, ⟨%d6, %f6, -, H6⟩, ⟨%d7, %f7, -, H7⟩, ⟨%d8, %f8, -, H8⟩, ⟨%d9, %f9, -, H9⟩, ⟨%d10, %f10, -, H10⟩, ⟨%f11, %hf11, H11⟩, ⟨%d12, %f12, -, H12⟩, ⟨%d13, %f13, -, H13⟩, ⟨%d14, %f14, -, H14⟩, Hq0, Hh0, HW, Hk⟩
    obtain rfl := harg3.eq_unread hf3; obtain rfl := harg4.eq_unread hf4; obtain rfl := harg11.eq_unread hf11
    sl_exec (disch := first | sl_exact hc0 | sl_exact hc1)
    sl_step
    iapply Hk
    isplitl [H3]
    · iexists _; isplitr; swap; · iexact H3
      ipureintro
      exact harg3.read_unread _
    isplitl [H4]
    · iexists _; isplitr; swap; · iexact H4
      ipureintro
      exact harg4.read_unread _
    isplitl [H5]
    · iexists _; isplitr; swap; · iexact H5
      ipureintro
      exact (dw_of arg5 arg6 arg11 arg12 arg13 i f5 (harg11.unread X) _ _ _ _ _ _ _ _ _ _ _ _ _ _).trans (dw_eq i (harg11.read_unread X) (left12 rfl trips2 _) (left13 rfl trips2 _))
    isplitl [H6]
    · iexists _; isplitr; swap; · iexact H6
      ipureintro
      exact (dwr_of arg6 arg11 arg13 i f6 (harg11.unread X) _ _ _ _ _).trans (dwr_eq i (harg11.read_unread X) (left13 rfl trips2 _))
    isplitl [H7]
    · iexists _; isplitr; swap; · iexact H7
      ipureintro
      exact left7 rfl trips2 _
    isplitl [H8]
    · iexists _; isplitr; swap; · iexact H8
      ipureintro
      exact left8 rfl trips2 _
    isplitl [H9]
    · iexists _; isplitr; swap; · iexact H9
      ipureintro
      exact left9 rfl trips2 _
    isplitl [H10]
    · iexists _; isplitr; swap; · iexact H10
      ipureintro
      exact left10 rfl trips2 _
    isplitl [H11]
    · iexists _; isplitr; swap; · iexact H11
      ipureintro
      exact harg11.read_unread _
    isplitl [H12]
    · iexists _; isplitr; swap; · iexact H12
      ipureintro
      exact left12 rfl trips2 _
    isplitl [H13]
    · iexists _; isplitr; swap; · iexact H13
      ipureintro
      exact left13 rfl trips2 _
    isplitl [H14]
    · iexists _, _; isplitr; swap; · iexact H14
      ipureintro; rfl
    isplitl [Hq0]; · iexact Hq0
    isplitl [Hh0]; · iexact Hh0
    iexists _; iexact HW

end Cert.KernelIdeal.Hand

end
-- ==== Proof.Where.lean ====
/- Where each window's block lies in its array, and the two input blocks. -/
module

public import proofs.«01_k».proof.Proof.XTile
public import proofs.«01_k».proof.Proof.Base
@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (Pipeline.UD sig nD τ) ℕ

/-! ## Where the windows' blocks lie in their arrays -/

theorem pt_lt (t : Fin cfg0.N) : t.val < 296 := lt_of_lt_of_eq t.isLt N_0
theorem co0 (t : Fin cfg0.N) : (grid0.coords t 0).val = t.val / 4 := by
  have e0 : (grid0.coords t 0).val = t.val / 4 % 74 := Pipeline.Grid.coords_val t 0 (by decide) rfl
  have := pt_lt t
  omega
theorem co1 (t : Fin cfg0.N) : (grid0.coords t 1).val = t.val % 4 := by
  have e1 : (grid0.coords t 1).val = t.val / 1 % 4 := Pipeline.Grid.coords_val t 1 (by decide) rfl
  omega

theorem w0 (t : Fin cfg0.N) : (BitVec.ofNat 32 (grid0.coords t 0).val).toNat = t.val / 4 := by
  rw [co0, BitVec.toNat_ofNat]; have := pt_lt t; omega
theorem w1 (t : Fin cfg0.N) : (BitVec.ofNat 32 (grid0.coords t 1).val).toNat = t.val % 4 := by
  rw [co1, BitVec.toNat_ofNat]; have := pt_lt t; omega

/-- Window 1's block: all rows of the columns of its block of 256. -/
theorem emb_1 (t : Fin cfg0.N) (y : S4096x256.Idx) : ((cfg0.win 1).blk t).view.emb y
    = (at2 (y 0).val (256 * (t.val / 4) + (y 1).val) (lt0 y) (by have := lt1 y; have := pt_lt t; omega) : S4096x18944.Idx) := by
  refine eq_at2 _ _ _ ?_ ?_
  · show (0#32).toNat * 4096 + 1 * (y 0).val = _
    simp
  · show (BitVec.ofNat 32 (grid0.coords t 0).val).toNat * 256 + 1 * (y 1).val = _
    rw [w0]; omega

/-- Window 4's block: all rows of the columns of its block of 256. -/
theorem emb_4 (t : Fin cfg0.N) (y : S4096x256.Idx) : ((cfg0.win 4).blk t).view.emb y
    = (at2 (y 0).val (256 * (t.val / 4) + (y 1).val) (lt0 y) (by have := lt1 y; have := pt_lt t; omega) : S4096x18944.Idx) := by
  refine eq_at2 _ _ _ ?_ ?_
  · show (0#32).toNat * 4096 + 1 * (y 0).val = _
    simp
  · show (BitVec.ofNat 32 (grid0.coords t 0).val).toNat * 256 + 1 * (y 1).val = _
    rw [w0]; omega

/-- Window 6's block: all rows of the columns of its block of 256. -/
theorem emb_6 (t : Fin cfg0.N) (y : S4096x256.Idx) : ((cfg0.win 6).blk t).view.emb y
    = (at2 (y 0).val (256 * (t.val / 4) + (y 1).val) (lt0 y) (by have := lt1 y; have := pt_lt t; omega) : S4096x18944.Idx) := by
  refine eq_at2 _ _ _ ?_ ?_
  · show (0#32).toNat * 4096 + 1 * (y 0).val = _
    simp
  · show (BitVec.ofNat 32 (grid0.coords t 0).val).toNat * 256 + 1 * (y 1).val = _
    rw [w0]; omega

/-- Window 2's block: a quarter of the rows of its block of 256 columns. -/
theorem emb_2 (t : Fin cfg0.N) (y : S896x256.Idx) : ((cfg0.win 2).blk t).view.emb y
    = (at2 (896 * (t.val % 4) + (y 0).val) (256 * (t.val / 4) + (y 1).val) (by have := lt0 y; omega)
      (by have := lt1 y; have := pt_lt t; omega) : S3584x18944.Idx) := by
  refine eq_at2 _ _ _ ?_ ?_
  · show (BitVec.ofNat 32 (grid0.coords t 1).val).toNat * 896 + 1 * (y 0).val = _
    rw [w1]; omega
  · show (BitVec.ofNat 32 (grid0.coords t 0).val).toNat * 256 + 1 * (y 1).val = _
    rw [w0]; omega

/-- Window 3's block: a quarter of the rows of its block of 256 columns. -/
theorem emb_3 (t : Fin cfg0.N) (y : S896x256.Idx) : ((cfg0.win 3).blk t).view.emb y
    = (at2 (896 * (t.val % 4) + (y 0).val) (256 * (t.val / 4) + (y 1).val) (by have := lt0 y; omega)
      (by have := lt1 y; have := pt_lt t; omega) : S3584x18944.Idx) := by
  refine eq_at2 _ _ _ ?_ ?_
  · show (BitVec.ofNat 32 (grid0.coords t 1).val).toNat * 896 + 1 * (y 0).val = _
    rw [w1]; omega
  · show (BitVec.ofNat 32 (grid0.coords t 0).val).toNat * 256 + 1 * (y 1).val = _
    rw [w0]; omega

/-- The index into the staged scales at block `a`, row `b` and lane `c`. -/
def at3 {L M N : ℕ} (a b c : ℕ) (ha : a < L) (hb : b < M) (hc : c < N) : (⟨3, ![L, M, N]⟩ : Shape).Idx := fun
  | ⟨0, _⟩ => ⟨a, ha⟩
  | ⟨1, _⟩ => ⟨b, hb⟩
  | ⟨2, _⟩ => ⟨c, hc⟩

theorem eq_at3 {L M N : ℕ} (y : (⟨3, ![L, M, N]⟩ : Shape).Idx) {a b c : ℕ} (ha : a < L) (hb : b < M) (hc : c < N) (h0 : (y 0).val = a)
    (h1 : (y 1).val = b) (h2 : (y 2).val = c) : y = at3 a b c ha hb hc := by
  funext i
  fin_cases i
  · exact Fin.ext h0
  · exact Fin.ext h1
  · exact Fin.ext h2

/-- Window 5's block: one page. -/
theorem emb_5 (t : Fin cfg0.N) (y : S1x32x128.Idx) : ((cfg0.win 5).blk t).view.emb y
    = (at3 (t.val / 4) (y 1).val (y 2).val (by have := pt_lt t; omega) (y 1).isLt (y 2).isLt : S74x32x128.Idx) := by
  have l : (y 0).val < 1 := (y 0).isLt
  refine eq_at3 _ _ _ _ ?_ ?_ ?_
  · show (BitVec.ofNat 32 (grid0.coords t 0).val).toNat * 1 + 1 * (y 0).val = _
    rw [w0]; omega
  · show (0#32).toNat * 32 + 1 * (y 1).val = _
    simp
  · show (0#32).toNat * 128 + 1 * (y 2).val = _
    simp

/-- Window 7's block: one page. -/
theorem emb_7 (t : Fin cfg0.N) (y : S1x32x128.Idx) : ((cfg0.win 7).blk t).view.emb y
    = (at3 (t.val / 4) (y 1).val (y 2).val (by have := pt_lt t; omega) (y 1).isLt (y 2).isLt : S74x32x128.Idx) := by
  have l : (y 0).val < 1 := (y 0).isLt
  refine eq_at3 _ _ _ _ ?_ ?_ ?_
  · show (BitVec.ofNat 32 (grid0.coords t 0).val).toNat * 1 + 1 * (y 0).val = _
    rw [w0]; omega
  · show (0#32).toNat * 32 + 1 * (y 1).val = _
    simp
  · show (0#32).toNat * 128 + 1 * (y 2).val = _
    simp

variable {F : FTy → Type} [FloatOps F] (m : (ℓ : Loc nD τ sig) → Buf (Elt F) ℓ)

/-- The gradient's block at a point, entry by entry, -/
theorem iblk1 (c : Dev nD) (t : Fin cfg0.N) (y : S4096x256.Idx) : iblk m c 1 t y
    = V m c main_v2 (at2 (y 0).val (256 * (t.val / 4) + (y 1).val) (lt0 y) (by have := lt1 y; have := pt_lt t; omega) : S4096x18944.Idx) := by
  show V m c main_v2 (((cfg0.win 1).blk t).view.emb y) = _
  rw [emb_1]

/-- is the same at the four points of a column block. -/
theorem iblk1_eq (c : Dev nD) (t t' : Fin cfg0.N) (h : t.val / 4 = t'.val / 4) : iblk m c 1 t = iblk m c 1 t' := by
  funext y
  refine (iblk1 m c t y).trans (Eq.trans ?_ (iblk1 m c t' y).symm)
  congr 2
  rw [h]

/-- The activations' scales are the same array at every point. -/
theorem iblk0 (c : Dev nD) (t : Fin cfg0.N) : iblk m c 0 t = (V m c main_v1 : Vec F S32x28 .f32) := by
  funext y
  show V m c main_v1 (((cfg0.win 0).blk t).view.emb y) = _
  congr 1
  refine (eq_at2 _ (lt0 y) (lt1 y) ?_ ?_).trans (eq_at2 y _ _ rfl rfl).symm
  · show (0#32).toNat * 32 + 1 * (y 0).val = _
    simp
  · show (0#32).toNat * 28 + 1 * (y 1).val = _
    simp

end Cert.KernelIdeal.Hand

end
-- ==== Proof.Launch.lean ====
/- The whole run: what each window holds after each point, the body at every point, and the launch. -/
module

public import proofs.«01_k».proof.Proof.RunA
public import proofs.«01_k».proof.Proof.RunB
public import proofs.«01_k».proof.Proof.RunC
public import proofs.«01_k».proof.Proof.Where
@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-- The activations, transposed, as the scratch holds them from the first point on. -/
def XX (c : Dev nD) : Vec F S3584x4096 .bf16 := XT (V m c main_v0 : Vec F S4096x3584 .fp8e4m3) (V m c main_v1 : Vec F S32x28 .f32)

/-- Grid point `n`. -/
def pt (n : ℕ) : Fin cfg0.N := ⟨n % 296, lt_of_lt_of_eq (Nat.mod_lt _ (by omega)) N_0.symm⟩

theorem pt_val (t : Fin cfg0.N) : pt t.val = t := Fin.ext (Nat.mod_eq_of_lt (pt_lt t))

/-- The gradient's column block at a point. -/
def gb (c : Dev nD) (t : Fin cfg0.N) : Vec F S4096x256 .f32 := iblk m c 1 t

/-- What the scratch holds after `n` points: at first anything, afterwards the activations and the column block of the point before. -/
def scr (c : Dev nD) : ℕ → sProp 𝕄
  | 0 => iprop((∃ d, owns (c : Thread nD τ) scM0_0 fullShare d) ∗ (∃ d, owns (c : Thread nD τ) scM0_1 fullShare d)
      ∗ (∃ d, owns (c : Thread nD τ) scM0_2 fullShare d) ∗ (∃ d, owns (c : Thread nD τ) scM0_3 fullShare d))
  | n + 1 => iprop(owns (c : Thread nD τ) scM0_0 fullShare (XX m c) ∗ owns (c : Thread nD τ) scM0_1 fullShare (hbB (gb m c (pt n)))
      ∗ owns (c : Thread nD τ) scM0_2 fullShare (rbB (gb m c (pt n))) ∗ (∃ d, owns (c : Thread nD τ) scM0_3 fullShare d))

/-- The invariant: the scratch, the generator register, the copy's counter at zero and the codes as launched. -/
def inv (c : Dev nD) (n : ℕ) : sProp 𝕄 :=
  iprop(scr m c n ∗ (∃ r, prngReg c r) ∗ iprop(semVal ((c : Thread nD τ), SemLoc.dma 15) 0) ∗ iprop(hbPt0 c hbM0_0 (V m c main_v0)))

/-- The proof data: what each window's buffer holds after the body at a point. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => dwV (XX m c) (hbB (gb m c t)) (rbB (gb m c t)) (grid0.coords t)
    | ⟨3, _⟩ => dwrV (XX m c) (rbB (gb m c t)) (grid0.coords t)
    | ⟨4, _⟩ => hcB (gb m c t)
    | ⟨5, _⟩ => hsB (gb m c t)
    | ⟨6, _⟩ => rcB (gb m c t)
    | ⟨7, _⟩ => rsB (gb m c t)
  Φ t := inv m c t.val
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = dwV (XX m c) (hbB (gb m c t)) (rbB (gb m c t)) (grid0.coords t) := by dsimp only [dats]
theorem after0_3 (c : Dev nD) (t : Fin cfg0.N) : (dats m 0 c).after 3 t = dwrV (XX m c) (rbB (gb m c t)) (grid0.coords t) := by dsimp only [dats]
theorem after0_4 (c : Dev nD) (t : Fin cfg0.N) : (dats m 0 c).after 4 t = hcB (gb m c t) := by dsimp only [dats]
theorem after0_5 (c : Dev nD) (t : Fin cfg0.N) : (dats m 0 c).after 5 t = hsB (gb m c t) := by dsimp only [dats]
theorem after0_6 (c : Dev nD) (t : Fin cfg0.N) : (dats m 0 c).after 6 t = rcB (gb m c t) := by dsimp only [dats]
theorem after0_7 (c : Dev nD) (t : Fin cfg0.N) : (dats m 0 c).after 7 t = rsB (gb m c t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

/-- A buffer the body fills at the first of four points holds that through the other three. -/
theorem before_kept (c : Dev nD) (w : Fin cfg0.W) (hf : ∀ t, (cfg0.win w).fetch t = false) (hfl : ∀ t : Fin cfg0.N, (cfg0.win w).flush t = true ↔ t.val % 4 = 3)
    (hi : ∀ t : Fin cfg0.N, cfg0.idle w (grid0.coords t) = !(k0_cond2 (grid0.coords t) == 1#1))
    (hk : ∀ (t : Fin cfg0.N) d, (dats m 0 c).kept w t d = (dats m 0 c).after w t)
    (ha : ∀ t t' : Fin cfg0.N, t.val / 4 = t'.val / 4 → (dats m 0 c).after w t = (dats m 0 c).after w t') :
    ∀ (n : ℕ) (t : Fin cfg0.N), t.val = n → t.val % 4 ≠ 0 → ∀ d, (dats m 0 c).before w t d = (dats m 0 c).after w t := by
  intro n
  induction n with
  | zero => intro t e h d; omega
  | succ n ih =>
    intro t e h d
    have h0 : t.val ≠ 0 := by omega
    have hlt : t.val - 1 < cfg0.N := lt_of_le_of_lt (Nat.sub_le _ _) t.isLt
    have hp : (⟨t.val - 1, hlt⟩ : Fin cfg0.N).val = n := by show t.val - 1 = n; omega
    rw [Dat.before_of_pos (dats m 0 c) w t h0 (hf t), if_neg (by rw [hfl]; show ¬ (t.val - 1) % 4 = 3; omega)]
    refine Eq.trans ?_ (ha ⟨t.val - 1, hlt⟩ t (by show (t.val - 1) / 4 = t.val / 4; omega))
    unfold Dat.left
    have hi' := hi ⟨t.val - 1, hlt⟩
    by_cases h4 : n % 4 = 0
    · have : k0_cond2 (grid0.coords ⟨t.val - 1, hlt⟩) = 1#1 := (hcond0_1 _).mpr (by rw [hp]; exact h4)
      rw [this] at hi'
      rw [show cfg0.idle w (cfg0.grid.coords ⟨t.val - 1, hlt⟩) = false from hi']
      exact hk _ d
    · have hb : ¬ k0_cond2 (grid0.coords ⟨t.val - 1, hlt⟩) = 1#1 := fun q => h4 (by have := (hcond0_1 _).mp q; rw [hp] at this; exact this)
      rw [show cfg0.idle w (cfg0.grid.coords ⟨t.val - 1, hlt⟩) = true from by
        refine hi'.trans ?_
        simp [hb]]
      exact ih _ hp (by rw [hp]; exact h4) d

theorem gb_eq (c : Dev nD) (t t' : Fin cfg0.N) (h : t.val / 4 = t'.val / 4) : gb m c t = gb m c t' := iblk1_eq m c t t' h

theorem before0_4 (c : Dev nD) (t : Fin cfg0.N) (h : t.val % 4 ≠ 0) (d) : (dats m 0 c).before 4 t d = (dats m 0 c).after 4 t :=
  before_kept m c 4 (fun _ => rfl) flush0_4 (fun _ => rfl) (fun _ _ => rfl) (fun t t' h => by rw [after0_4, after0_4, gb_eq m c t t' h]) _ t rfl h d
theorem before0_5 (c : Dev nD) (t : Fin cfg0.N) (h : t.val % 4 ≠ 0) (d) : (dats m 0 c).before 5 t d = (dats m 0 c).after 5 t :=
  before_kept m c 5 (fun _ => rfl) flush0_5 (fun _ => rfl) (fun _ _ => rfl) (fun t t' h => by rw [after0_5, after0_5, gb_eq m c t t' h]) _ t rfl h d
theorem before0_6 (c : Dev nD) (t : Fin cfg0.N) (h : t.val % 4 ≠ 0) (d) : (dats m 0 c).before 6 t d = (dats m 0 c).after 6 t :=
  before_kept m c 6 (fun _ => rfl) flush0_6 (fun _ => rfl) (fun _ _ => rfl) (fun t t' h => by rw [after0_6, after0_6, gb_eq m c t t' h]) _ t rfl h d
theorem before0_7 (c : Dev nD) (t : Fin cfg0.N) (h : t.val % 4 ≠ 0) (d) : (dats m 0 c).before 7 t d = (dats m 0 c).after 7 t :=
  before_kept m c 7 (fun _ => rfl) flush0_7 (fun _ => rfl) (fun _ _ => rfl) (fun t t' h => by rw [after0_7, after0_7, gb_eq m c t t' h]) _ t rfl h d

/-- A buffer at what the proof data names is as the obligation asks for it, the point idle or not. -/
theorem leaves (c : Dev nD) (w : Fin cfg0.W) (t : Fin cfg0.N)
    (hb : cfg0.idle w (grid0.coords t) = true → ∀ d, (dats m 0 c).before w t d = (dats m 0 c).after w t) :
    owns (c : Thread nD τ) ((cfg0.win w).stage (cfg0.slots t w)) fullShare ((dats m 0 c).after w t) ⊢ (dats m 0 c).leavesExact w t := by
  unfold Dat.leavesExact
  rcases hi : cfg0.idle w (cfg0.grid.coords t) with _ | _
  · exact .rfl
  · rcases hf : (cfg0.win w).flush t with _ | _
    · iintro H
      iexists ((dats m 0 c).after w t)
      rw [hb hi]
      iexact H
    · exact .rfl

/-! ## The body at every point -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t))

set_option maxHeartbeats 3600000 in
/-- The body at any point: the run of the case the point is in. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, after0_0, after0_1, after0_2, after0_3, after0_4, after0_5, after0_6, after0_7]
  rw [iblk0, show iblk m c 1 t = gb m c t from rfl]
  rw [show (dats m 0 c).Φ t.castSucc = inv m c t.val from rfl, show (dats m 0 c).Φ t.succ = inv m c (t.val + 1) from rfl]
  unfold Dat.owesAt Pipeline.owesWithin
  rw [show (dats m 0 c).owed t.castSucc = 0 from rfl, show (dats m 0 c).owed t.succ = 0 from rfl]
  unfold inv
  rw [show scr m c (t.val + 1) = iprop(owns (c : Thread nD τ) scM0_0 fullShare (XX m c) ∗ owns (c : Thread nD τ) scM0_1 fullShare (hbB (gb m c t))
      ∗ owns (c : Thread nD τ) scM0_2 fullShare (rbB (gb m c t)) ∗ (∃ d, owns (c : Thread nD τ) scM0_3 fullShare d)) from by rw [scr, pt_val]]
  have hN : t.val < 296 := pt_lt t
  by_cases h0 : t.val % 296 = 0
  · by_cases h1 : t.val % 4 = 0
    · rw [show t.val = 0 from by omega, scr]
      iintro ⟨⟨⟨HS0, HS1, HS2, HS3⟩, Hg, Hq0, Hh0⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩⟩
      iapply (runA c (grid0.coords t) _ _ _ _ _ _ _ _ _ _ _ _ _ _ _ _ _ _ _ _ _ _ _ _ ((hcond0_0 t).mpr h0) ((hcond0_1 t).mpr h1) (V m c main_v1 : Vec F S32x28 .f32) (gb m c t) (V m c main_v0) W _)
      isplitl [H0]; · iexact H0
      isplitl [H1]; · iexact H1
      isplitl [H2]; · iexists _; iexact H2
      isplitl [H3]; · iexists _; iexact H3
      isplitl [H4]; · iexists _; iexact H4
      isplitl [H5]; · iexists _; iexact H5
      isplitl [H6]; · iexists _; iexact H6
      isplitl [H7]; · iexists _; iexact H7
      isplitl [HS0]; · iexact HS0
      isplitl [HS1]; · iexact HS1
      isplitl [HS2]; · iexact HS2
      isplitl [HS3]; · iexact HS3
      isplitl [Hq0]; · iexact Hq0
      isplitl [Hh0]; · iexact Hh0
      isplitl [HW]; · iexact HW
      iintro ⟨H0, H1, H2, H3, H4, H5, H6, H7, HS0, HS1, HS2, HS3, Hq0, Hh0, ⟨%W', HW'⟩⟩
      isplitl [HS0 HS1 HS2 HS3 Hg Hq0 Hh0]
      · isplitl [HS0 HS1 HS2 HS3]
        · isplitl [HS0]; · iexact HS0
          isplitl [HS1]; · iexact HS1
          isplitl [HS2]; · iexact HS2
          iexact HS3
        isplitl [Hg]
        · iexact Hg
        isplitl [Hq0]
        · iexact Hq0
        iexact Hh0
      isplitl [HW']
      · iexists W'; isplitr; · ipureintro; exact fun _ _ => Or.inl trivial
        iexact HW'
      isplitl [H0]; · iexact H0
      isplitl [H1]; · iexact H1
      isplitl [H2]; · iexact H2
      isplitl [H3]; · iexact H3
      isplitl [H4]; · iexact H4
      isplitl [H5]; · iexact H5
      isplitl [H6]; · iexact H6
      iexact H7
    · exfalso; omega
  · by_cases h1 : t.val % 4 = 0
    · obtain ⟨n, hn⟩ : ∃ n, t.val = n + 1 := ⟨t.val - 1, by omega⟩
      rw [hn, scr]
      iintro ⟨⟨⟨HS0, HS1, HS2, HS3⟩, Hg, Hq0, Hh0⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩⟩
      iapply (runC c (grid0.coords t) _ _ _ _ _ _ _ _ _ _ _ _ _ _ _ _ _ _ _ _ _ _ _ _ (fun h => h0 ((hcond0_0 t).mp h)) ((hcond0_1 t).mpr h1) (V m c main_v1 : Vec F S32x28 .f32) (gb m c t) (V m c main_v0) (XX m c) W _)
      isplitl [H0]; · iexact H0
      isplitl [H1]; · iexact H1
      isplitl [H2]; · iexists _; iexact H2
      isplitl [H3]; · iexists _; iexact H3
      isplitl [H4]; · iexists _; iexact H4
      isplitl [H5]; · iexists _; iexact H5
      isplitl [H6]; · iexists _; iexact H6
      isplitl [H7]; · iexists _; iexact H7
      isplitl [HS0]; · iexact HS0
      isplitl [HS1]; · iexists _; iexact HS1
      isplitl [HS2]; · iexists _; iexact HS2
      isplitl [HS3]; · iexact HS3
      isplitl [Hq0]; · iexact Hq0
      isplitl [Hh0]; · iexact Hh0
      isplitl [HW]; · iexact HW
      iintro ⟨H0, H1, H2, H3, H4, H5, H6, H7, HS0, HS1, HS2, HS3, Hq0, Hh0, ⟨%W', HW'⟩⟩
      isplitl [HS0 HS1 HS2 HS3 Hg Hq0 Hh0]
      · isplitl [HS0 HS1 HS2 HS3]
        · isplitl [HS0]; · iexact HS0
          isplitl [HS1]; · iexact HS1
          isplitl [HS2]; · iexact HS2
          iexact HS3
        isplitl [Hg]
        · iexact Hg
        isplitl [Hq0]
        · iexact Hq0
        iexact Hh0
      isplitl [HW']
      · iexists W'; isplitr; · ipureintro; exact fun _ _ => Or.inl trivial
        iexact HW'
      isplitl [H0]; · iexact H0
      isplitl [H1]; · iexact H1
      isplitl [H2]; · iexact H2
      isplitl [H3]; · iexact H3
      isplitl [H4]; · iexact H4
      isplitl [H5]; · iexact H5
      isplitl [H6]; · iexact H6
      iexact H7
    · obtain ⟨n, hn⟩ : ∃ n, t.val = n + 1 := ⟨t.val - 1, by omega⟩
      rw [show scr m c t.val = iprop(owns (c : Thread nD τ) scM0_0 fullShare (XX m c) ∗ owns (c : Thread nD τ) scM0_1 fullShare (hbB (gb m c t))
        ∗ owns (c : Thread nD τ) scM0_2 fullShare (rbB (gb m c t)) ∗ (∃ d, owns (c : Thread nD τ) scM0_3 fullShare d)) from by
          rw [hn, scr, gb_eq m c (pt n) t (by show n % 296 / 4 = _; omega)]]
      simp only [before0_4 m c t h1, before0_5 m c t h1, before0_6 m c t h1, before0_7 m c t h1, after0_4, after0_5, after0_6, after0_7]
      iintro ⟨⟨⟨HS0, HS1, HS2, HS3⟩, Hg, Hq0, Hh0⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩⟩
      iapply (runB c (grid0.coords t) _ _ _ _ _ _ _ _ _ _ _ _ _ _ _ _ _ _ _ _ _ _ _ _ (fun h => h0 ((hcond0_0 t).mp h)) (fun h => h1 ((hcond0_1 t).mp h)) (V m c main_v1 : Vec F S32x28 .f32) (gb m c t) (V m c main_v0) (hcB (gb m c t)) (hsB (gb m c t)) (rcB (gb m c t)) (rsB (gb m c t)) (XX m c) (hbB (gb m c t)) (rbB (gb m c t)) W _)
      isplitl [H0]; · iexact H0
      isplitl [H1]; · iexact H1
      isplitl [H2]; · iexists _; iexact H2
      isplitl [H3]; · iexists _; iexact H3
      isplitl [H4]; · iexact H4
      isplitl [H5]; · iexact H5
      isplitl [H6]; · iexact H6
      isplitl [H7]; · iexact H7
      isplitl [HS0]; · iexact HS0
      isplitl [HS1]; · iexact HS1
      isplitl [HS2]; · iexact HS2
      isplitl [HS3]; · iexact HS3
      isplitl [Hq0]; · iexact Hq0
      isplitl [Hh0]; · iexact Hh0
      isplitl [HW]; · iexact HW
      iintro ⟨H0, H1, H2, H3, H4, H5, H6, H7, HS0, HS1, HS2, HS3, Hq0, Hh0, ⟨%W', HW'⟩⟩
      isplitl [HS0 HS1 HS2 HS3 Hg Hq0 Hh0]
      · isplitl [HS0 HS1 HS2 HS3]
        · isplitl [HS0]; · iexact HS0
          isplitl [HS1]; · iexact HS1
          isplitl [HS2]; · iexact HS2
          iexact HS3
        isplitl [Hg]
        · iexact Hg
        isplitl [Hq0]
        · iexact Hq0
        iexact Hh0
      isplitl [HW']
      · iexists W'; isplitr; · ipureintro; exact fun _ _ => Or.inl trivial
        iexact HW'
      isplitl [H0]; · iexact H0
      isplitl [H1]; · iexact H1
      isplitl [H2]; · iexact H2
      isplitl [H3]; · iexact H3
      isplitl [H4]; · iexact H4
      isplitl [H5]; · iexact H5
      isplitl [H6]; · iexact H6
      iexact H7

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- What the body returns is what the obligation asks for. -/
theorem post_leaves (c : Dev nD) (t : Fin cfg0.N) : bodyPost m c t ⊢ iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t) := by
  have hk : ∀ {w : Fin cfg0.W}, cfg0.idle w (grid0.coords t) = !(k0_cond2 (grid0.coords t) == 1#1) → cfg0.idle w (grid0.coords t) = true → t.val % 4 ≠ 0 := by
    intro w hw hi h4
    rw [hw, show k0_cond2 (grid0.coords t) = 1#1 from (hcond0_1 t).mpr h4] at hi
    exact absurd hi (by decide)
  have l0 := leaves m c 0 t (fun h => absurd h (by simp))
  have l1 := leaves m c 1 t (fun h => absurd h (by simp))
  have l2 := leaves m c 2 t (fun h => absurd h (by simp))
  have l3 := leaves m c 3 t (fun h => absurd h (by simp))
  have l4 := leaves m c 4 t (fun h => before0_4 m c t (hk (w := 4) rfl h))
  have l5 := leaves m c 5 t (fun h => before0_5 m c t (hk (w := 5) rfl h))
  have l6 := leaves m c 6 t (fun h => before0_6 m c t (hk (w := 6) rfl h))
  have l7 := leaves m c 7 t (fun h => before0_7 m c t (hk (w := 7) rfl h))
  unfold bodyPost
  iintro ⟨HP, HW, H0, H1, H2, H3, H4, H5, H6, H7⟩
  isplitl [HP]; · iexact HP
  isplitl [HW]; · iexact HW
  isplitl [H0]; · iapply l0; iexact H0
  isplitl [H1]; · iapply l1; iexact H1
  isplitl [H2]; · iapply l2; iexact H2
  isplitl [H3]; · iapply l3; iexact H3
  isplitl [H4]; · iapply l4; iexact H4
  isplitl [H5]; · iapply l5; iexact H5
  isplitl [H6]; · iapply l6; iexact H6
  iapply l7; iexact H7

/-- The library's body obligation, at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => post_leaves m c t

/-! ## The launch -/

/-- The launch's region starts with the invariant at no point done, -/
theorem inv_start (c : Dev nD) : (Pipeline.ΦD osem0 spec0 H0 (V m) c : sProp 𝕄) ⊢ (dats m 0 c).Φ 0 := by
  rw [PhiD0_eq]
  exact .rfl

/-- and ends with it at every point done, of which it forgets the scratch. -/
theorem inv_end (c : Dev nD) : (dats m 0 c).Φ (Fin.last cfg0.N) ⊢ (Pipeline.ΦD osem0 spec0 H0 (V m) c : sProp 𝕄) := by
  rw [PhiD0_eq, show (dats m 0 c).Φ (Fin.last cfg0.N) = inv m c (295 + 1) from congrArg (inv m c) N_0]
  unfold inv
  rw [scr]
  iintro ⟨⟨HS0, HS1, HS2, HS3⟩, Hg, Hq0, Hh0⟩
  isplitl [HS0 HS1 HS2 HS3]
  · isplitl [HS0]; · iexists _; iexact HS0
    isplitl [HS1]; · iexists _; iexact HS1
    isplitl [HS2]; · iexists _; iexact HS2
    iexact HS3
  isplitl [Hg]
  · iexact Hg
  isplitl [Hq0]
  · iexact Hq0
  iexact Hh0

set_option backward.isDefEq.respectTransparency.types false in
set_option maxHeartbeats 800000 in
/-- The run of the whole program: every array as the proof data names it, the rest as the lines after the launch make it of
    those, every counter at zero. -/
theorem run_main : θ_run defs (onTc (τ := τ) (main (F := F))) (s₀ m ρ)
    (fun r => Pipeline.FramePost cfgs (dats m) 0 (Pipeline.afterTail₀ cfgs (dats m) 0 (V0 m) [hostOps1]) r ∧ r.2.sem = fun _ => 0) :=
  Pipeline.θ_run_frame_dma_around cfgs (dats m) (0 : Fin 1) launch0 osem0 defs₀ Variants.none ownSemFacts0 H0 H0_sub m ρ main
    (fun c => (body_obligation m c).loose) (fun c => (dats m 0 c).share_full fun _ => rfl)
    (fun _ _ => rfl) (V0 m) [hostOps1] sfx_but sfx_fresh sfx_keeps
    (hmain m Variants.none) (A_eq m) (inv_start m) (inv_end m)
    (fun r => Pipeline.FramePost cfgs (dats m) 0 (Pipeline.afterTail₀ cfgs (dats m) 0 (V0 m) [hostOps1]) r ∧ r.2.sem = fun _ => 0) (fun _ h => h)

end Cert.KernelIdeal.Hand

end
-- ==== Proof.Arrays.lean ====
/- What each array holds after the pipelined call, over the gradient and the activations as the kernel reads them. -/
module

public import proofs.«01_k».proof.Proof.Launch
public import Idealize.ShloMosaic.Lib.StableHlo.RunRead
public import Idealize.ShloMosaic.Lib.Pipeline.Value
@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (Pipeline.UD sig nD τ) ℕ

variable (m : (ℓ : Loc nD τ sig) → Buf (Elt F) ℓ)

/-- The gradient as the kernel reads it: one row per token. -/
def GG (c : Dev nD) : Vec F S4096x18944 .f32 := V m c main_v2

/-- The blocks of a column block are blocks of the whole array. -/
theorem tile_gb (c : Dev nD) (t : Fin cfg0.N) (b : Fin 32) (k : Fin 2) (j : Fin 148) (h : j.val = 2 * (t.val / 4) + k.val) :
    tile 32 2 (gb m c t) b k = tile 32 148 (GG m c) b j := by
  funext y
  have l0 := lt0 y
  have l1 := lt1 y
  refine (iblk1 m c t _).trans ?_
  show GG m c _ = GG m c _
  congr 1
  refine eq_at2 _ _ _ rfl ?_
  show 256 * (t.val / 4) + (128 * k.val + (y 1).val) = 128 * j.val + (y 1).val
  omega

/-- An array given block by block, read inside a column block. -/
theorem blocks_col {α : Type} (f : (S128x128.Idx → F .f32) → S128x128.Idx → α) (c : Dev nD) (t : Fin cfg0.N) (y : S4096x256.Idx) :
    blocks 32 2 (fun b k => f (tile 32 2 (gb m c t) b k)) y
      = blocks 32 148 (fun b j => f (tile 32 148 (GG m c) b j))
          (at2 (y 0).val (256 * (t.val / 4) + (y 1).val) (lt0 y) (by have := lt1 y; have := pt_lt t; omega) : S4096x18944.Idx) := by
  have l0 : (y 0).val < 4096 := lt0 y
  have l1 : (y 1).val < 256 := lt1 y
  have lt := pt_lt t
  have hj : 2 * (t.val / 4) + (y 1).val / 128 < 148 := by omega
  refine Eq.symm ((blocks_apply 32 148 _ _ ⟨(y 0).val / 128, by omega⟩ ⟨2 * (t.val / 4) + (y 1).val / 128, hj⟩
    (at2 ((y 0).val % 128) ((y 1).val % 128) (Nat.mod_lt _ (by omega)) (Nat.mod_lt _ (by omega))) ?_ ?_).trans ?_)
  · show (y 0).val = 128 * ((y 0).val / 128) + (y 0).val % 128
    omega
  · show 256 * (t.val / 4) + (y 1).val = 128 * (2 * (t.val / 4) + (y 1).val / 128) + (y 1).val % 128
    omega
  · show f _ _ = f _ _
    rw [tile_gb m c t ⟨(y 0).val / 128, by omega⟩ ⟨(y 1).val / 128, by omega⟩ ⟨_, hj⟩ rfl]

/-- The point that writes back column block `j`. -/
def lastPt (j : ℕ) (h : j < 74) : Fin cfg0.N := ⟨4 * j + 3, lt_of_lt_of_eq (by omega) N_0.symm⟩
/-- The point that writes row quarter `r` of column block `j`. -/
def thePt (j r : ℕ) (h : j < 74) (h' : r < 4) : Fin cfg0.N := ⟨4 * j + r, lt_of_lt_of_eq (by omega) N_0.symm⟩

/-! ## The codes -/

/-- The codes, as the kernel leaves them. -/
def HC (c : Dev nD) : Vec F S4096x18944 .fp8e5m2 := blocks 32 148 fun b j => tC (tile 32 148 (GG m c) b j)

theorem final4 (c : Dev nD) : (dats m 0 c).arrAt 4 cfg0.N = HC m c :=
  (dats m 0 c).arrAt_eq_of_cover 4 (HC m c)
    (fun t _ => by
      show (cfg0.win 4).cut (grid0.coords t) ((dats m 0 c).after 4 t) = _
      rw [after0_4]
      funext y
      show hcB (gb m c t) y = HC m c (((cfg0.win 4).blk t).view.emb y)
      rw [emb_4]
      exact blocks_col m tC c t y)
    (fun i => by
      have l1 : (i 1).val < 18944 := (i 1).isLt
      have l0 : (i 0).val < 4096 := (i 0).isLt
      refine ⟨lastPt ((i 1).val / 256) (by omega), (flush0_4 _).2 ?_, ?_⟩
      · show (4 * ((i 1).val / 256) + 3) % 4 = 3
        omega
      · have h := ((cfg0.win 4).blk (lastPt ((i 1).val / 256) (by omega))).view.emb_mem_set
          (at2 (i 0).val ((i 1).val % 256) l0 (Nat.mod_lt _ (by omega)) : S4096x256.Idx)
        rw [emb_4] at h
        convert h using 1
        refine eq_at2 _ _ _ rfl ?_
        show (i 1).val = 256 * ((4 * ((i 1).val / 256) + 3) / 4) + (i 1).val % 256
        omega)

/-- The residual's codes, as the kernel leaves them. -/
def RC (c : Dev nD) : Vec F S4096x18944 .fp8e4m3 := blocks 32 148 fun b j => tRC (tile 32 148 (GG m c) b j)

theorem final6 (c : Dev nD) : (dats m 0 c).arrAt 6 cfg0.N = RC m c :=
  (dats m 0 c).arrAt_eq_of_cover 6 (RC m c)
    (fun t _ => by
      show (cfg0.win 6).cut (grid0.coords t) ((dats m 0 c).after 6 t) = _
      rw [after0_6]
      funext y
      show rcB (gb m c t) y = RC m c (((cfg0.win 6).blk t).view.emb y)
      rw [emb_6]
      exact blocks_col m tRC c t y)
    (fun i => by
      have l1 : (i 1).val < 18944 := (i 1).isLt
      have l0 : (i 0).val < 4096 := (i 0).isLt
      refine ⟨lastPt ((i 1).val / 256) (by omega), (flush0_6 _).2 ?_, ?_⟩
      · show (4 * ((i 1).val / 256) + 3) % 4 = 3
        omega
      · have h := ((cfg0.win 6).blk (lastPt ((i 1).val / 256) (by omega))).view.emb_mem_set
          (at2 (i 0).val ((i 1).val % 256) l0 (Nat.mod_lt _ (by omega)) : S4096x256.Idx)
        rw [emb_6] at h
        convert h using 1
        refine eq_at2 _ _ _ rfl ?_
        show (i 1).val = 256 * ((4 * ((i 1).val / 256) + 3) / 4) + (i 1).val % 256
        omega)

/-! ## The scales -/

/-- The scales, as the kernel stages them: one page per column block, one row per block of rows, two lanes in use. -/
def HS (c : Dev nD) : Vec F S74x32x128 .f32 := fun y =>
  row (iota .tc S1x128 32 [1] iota_S1x128_d1_w32)
    (tS (tile 32 148 (GG m c) (y 1) ⟨2 * (y 0).val, by have h : (y 0).val < 74 := (y 0).isLt; omega⟩))
    (tS (tile 32 148 (GG m c) (y 1) ⟨2 * (y 0).val + 1, by have h : (y 0).val < 74 := (y 0).isLt; omega⟩)) (lane (y 2))

theorem final5 (c : Dev nD) : (dats m 0 c).arrAt 5 cfg0.N = HS m c :=
  (dats m 0 c).arrAt_eq_of_cover 5 (HS m c)
    (fun t _ => by
      show (cfg0.win 5).cut (grid0.coords t) ((dats m 0 c).after 5 t) = _
      rw [after0_5]
      funext y
      have lt := pt_lt t
      show hsB (gb m c t) y = HS m c (((cfg0.win 5).blk t).view.emb y)
      rw [emb_5]
      show row _ (tS (tile 32 2 (gb m c t) (y 1) 0)) (tS (tile 32 2 (gb m c t) (y 1) 1)) _ = _
      rw [tile_gb m c t (y 1) 0 ⟨2 * (t.val / 4), by omega⟩ rfl, tile_gb m c t (y 1) 1 ⟨2 * (t.val / 4) + 1, by omega⟩ rfl]
      rfl)
    (fun i => by
      have l0 : (i 0).val < 74 := (i 0).isLt
      refine ⟨lastPt (i 0).val l0, (flush0_5 _).2 ?_, ?_⟩
      · show (4 * (i 0).val + 3) % 4 = 3
        omega
      · have h := ((cfg0.win 5).blk (lastPt (i 0).val l0)).view.emb_mem_set
          (at3 0 (i 1).val (i 2).val Nat.one_pos (i 1).isLt (i 2).isLt : S1x32x128.Idx)
        rw [emb_5] at h
        convert h using 1
        refine eq_at3 _ _ _ _ ?_ rfl rfl
        show (i 0).val = (4 * (i 0).val + 3) / 4
        omega)

/-- The residual's scales, as the kernel stages them: one page per column block, one row per block of rows, two lanes in use. -/
def RS (c : Dev nD) : Vec F S74x32x128 .f32 := fun y =>
  row (iota .tc S1x128 32 [1] iota_S1x128_d1_w32)
    (tRS (tile 32 148 (GG m c) (y 1) ⟨2 * (y 0).val, by have h : (y 0).val < 74 := (y 0).isLt; omega⟩))
    (tRS (tile 32 148 (GG m c) (y 1) ⟨2 * (y 0).val + 1, by have h : (y 0).val < 74 := (y 0).isLt; omega⟩)) (lane (y 2))

theorem final7 (c : Dev nD) : (dats m 0 c).arrAt 7 cfg0.N = RS m c :=
  (dats m 0 c).arrAt_eq_of_cover 7 (RS m c)
    (fun t _ => by
      show (cfg0.win 7).cut (grid0.coords t) ((dats m 0 c).after 7 t) = _
      rw [after0_7]
      funext y
      have lt := pt_lt t
      show rsB (gb m c t) y = RS m c (((cfg0.win 7).blk t).view.emb y)
      rw [emb_7]
      show row _ (tRS (tile 32 2 (gb m c t) (y 1) 0)) (tRS (tile 32 2 (gb m c t) (y 1) 1)) _ = _
      rw [tile_gb m c t (y 1) 0 ⟨2 * (t.val / 4), by omega⟩ rfl, tile_gb m c t (y 1) 1 ⟨2 * (t.val / 4) + 1, by omega⟩ rfl]
      rfl)
    (fun i => by
      have l0 : (i 0).val < 74 := (i 0).isLt
      refine ⟨lastPt (i 0).val l0, (flush0_7 _).2 ?_, ?_⟩
      · show (4 * (i 0).val + 3) % 4 = 3
        omega
      · have h := ((cfg0.win 7).blk (lastPt (i 0).val l0)).view.emb_mem_set
          (at3 0 (i 1).val (i 2).val Nat.one_pos (i 1).isLt (i 2).isLt : S1x32x128.Idx)
        rw [emb_7] at h
        convert h using 1
        refine eq_at3 _ _ _ _ ?_ rfl rfl
        show (i 0).val = (4 * (i 0).val + 3) / 4
        omega)

/-! ## The products -/

/-- The point that writes an entry of the weight gradient, and where in that point's block it lies. -/
def ptOf (i : S3584x18944.Idx) : Fin cfg0.N :=
  thePt ((i 1).val / 256) ((i 0).val / 896) (by have : (i 1).val < 18944 := (i 1).isLt; omega) (by have : (i 0).val < 3584 := (i 0).isLt; omega)
def locOf (i : S3584x18944.Idx) : S896x256.Idx :=
  at2 ((i 0).val % 896) ((i 1).val % 256) (Nat.mod_lt _ (by omega)) (Nat.mod_lt _ (by omega))

theorem ptOf_emb (t : Fin cfg0.N) (y : S896x256.Idx) (h0) (h1) :
    ptOf (at2 (896 * (t.val % 4) + (y 0).val) (256 * (t.val / 4) + (y 1).val) h0 h1 : S3584x18944.Idx) = t := by
  have l0 : (y 0).val < 896 := lt0 y
  have l1 : (y 1).val < 256 := lt1 y
  apply Fin.ext
  show 4 * ((256 * (t.val / 4) + (y 1).val) / 256) + (896 * (t.val % 4) + (y 0).val) / 896 = t.val
  omega

theorem locOf_emb (t : Fin cfg0.N) (y : S896x256.Idx) (h0) (h1) :
    locOf (at2 (896 * (t.val % 4) + (y 0).val) (256 * (t.val / 4) + (y 1).val) h0 h1 : S3584x18944.Idx) = y := by
  have l0 : (y 0).val < 896 := lt0 y
  have l1 : (y 1).val < 256 := lt1 y
  refine (eq_at2 y _ _ ?_ ?_).symm
  · show (y 0).val = (896 * (t.val % 4) + (y 0).val) % 896
    omega
  · show (y 1).val = (256 * (t.val / 4) + (y 1).val) % 256
    omega

/-- The weight gradient, entry by entry. -/
def DW (c : Dev nD) : Vec F S3584x18944 .f32 := fun i => dwV (XX m c) (hbB (gb m c (ptOf i))) (rbB (gb m c (ptOf i))) (grid0.coords (ptOf i)) (locOf i)

theorem final2 (c : Dev nD) : (dats m 0 c).arrAt 2 cfg0.N = DW m c :=
  (dats m 0 c).arrAt_eq_of_cover 2 (DW m c)
    (fun t _ => by
      show (cfg0.win 2).cut (grid0.coords t) ((dats m 0 c).after 2 t) = _
      rw [after0_2]
      funext y
      show dwV (XX m c) (hbB (gb m c t)) (rbB (gb m c t)) (grid0.coords t) y = DW m c (((cfg0.win 2).blk t).view.emb y)
      rw [emb_2]
      unfold DW
      rw [ptOf_emb, locOf_emb])
    (fun i => by
      refine ⟨ptOf i, flush0_2 _, ?_⟩
      have l0 : (i 0).val < 3584 := (i 0).isLt
      have l1 : (i 1).val < 18944 := (i 1).isLt
      have h := ((cfg0.win 2).blk (ptOf i)).view.emb_mem_set (locOf i)
      rw [emb_2] at h
      convert h using 1
      refine eq_at2 _ _ _ ?_ ?_
      · show (i 0).val = 896 * ((4 * ((i 1).val / 256) + (i 0).val / 896) % 4) + (i 0).val % 896
        omega
      · show (i 1).val = 256 * ((4 * ((i 1).val / 256) + (i 0).val / 896) / 4) + (i 1).val % 256
        omega)

/-- The residual's part of it, entry by entry. -/
def DWR (c : Dev nD) : Vec F S3584x18944 .f32 := fun i => dwrV (XX m c) (rbB (gb m c (ptOf i))) (grid0.coords (ptOf i)) (locOf i)

theorem final3 (c : Dev nD) : (dats m 0 c).arrAt 3 cfg0.N = DWR m c :=
  (dats m 0 c).arrAt_eq_of_cover 3 (DWR m c)
    (fun t _ => by
      show (cfg0.win 3).cut (grid0.coords t) ((dats m 0 c).after 3 t) = _
      rw [after0_3]
      funext y
      show dwrV (XX m c) (rbB (gb m c t)) (grid0.coords t) y = DWR m c (((cfg0.win 3).blk t).view.emb y)
      rw [emb_3]
      unfold DWR
      rw [ptOf_emb, locOf_emb])
    (fun i => by
      refine ⟨ptOf i, flush0_3 _, ?_⟩
      have l0 : (i 0).val < 3584 := (i 0).isLt
      have l1 : (i 1).val < 18944 := (i 1).isLt
      have h := ((cfg0.win 3).blk (ptOf i)).view.emb_mem_set (locOf i)
      rw [emb_3] at h
      convert h using 1
      refine eq_at2 _ _ _ ?_ ?_
      · show (i 0).val = 896 * ((4 * ((i 1).val / 256) + (i 0).val / 896) % 4) + (i 0).val % 896
        omega
      · show (i 1).val = 256 * ((4 * ((i 1).val / 256) + (i 0).val / 896) / 4) + (i 1).val % 256
        omega)

end Cert.KernelIdeal.Hand

end
-- ==== Proof.KernelEnd.lean ====
/- The whole kernel: the reshapes before and after the call, and what its six results hold. -/
module

public import proofs.«01_k».proof.Proof.Arrays
public import Idealize.ShloMosaic.Lib.StableHlo.RunRead
public import Idealize.ShloMosaic.Lib.Pipeline.Value
@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## Before the call: three reshapes -/

theorem V_v0 (c : Dev nD) : V m c main_v0 = shapeCast S4096x3584 (m ((c : Thread nD τ).loc main_arg0) : Vec F S2x2048x3584 .fp8e4m3) shapeCasts_S2x2048x3584_S4096x3584 := by
  unfold V V0 hostOps0
  after_reads_simp
  rfl

theorem V_v1 (c : Dev nD) : V m c main_v1 = shapeCast S32x28 (m ((c : Thread nD τ).loc main_arg1) : Vec F S2x16x28 .f32) shapeCasts_S2x16x28_S32x28 := by
  unfold V V0 hostOps0
  after_reads_simp
  rfl

theorem V_v2 (c : Dev nD) : V m c main_v2 = shapeCast S4096x18944 (m ((c : Thread nD τ).loc main_arg2) : Vec F S2x2048x18944 .f32) shapeCasts_S2x2048x18944_S4096x18944 := by
  unfold V V0 hostOps0
  after_reads_simp
  rfl

/-! ## After the call: the codes and the scales reshaped -/

/-- The staged scales in the order of the results: the first two lanes, rows before pages. -/
def unstage (x : Vec F S74x32x128 .f32) : Vec F S2x16x148 .f32 :=
  shapeCast S2x16x148 (transpose S32x74x2 [1, 0, 2] (extractStridedSlice S74x32x2 ![0, 0, 0] x slices_S74x32x128_S74x32x2_0_0_0)
    transposes_S74x32x2_S32x74x2_1_0_2) shapeCasts_S32x74x2_S2x16x148

/-- The contents the operations after the call start from. -/
abbrev W0 (c : Dev nD) : Valuation τ sig (Elt F) := Pipeline.withArrays spec0 c (V0 m c) fun w => (dats m 0 c).arrAt w cfg0.N

theorem W0_4 (c : Dev nD) : W0 m c (Proc.devRef .tc main_v3_2) = HC m c :=
  (Pipeline.withArrays_arr spec0 (by decide) c (V0 m c) _ 4).trans (final4 m c)
theorem W0_5 (c : Dev nD) : W0 m c (Proc.devRef .tc main_v3_3) = HS m c :=
  (Pipeline.withArrays_arr spec0 (by decide) c (V0 m c) _ 5).trans (final5 m c)
theorem W0_6 (c : Dev nD) : W0 m c (Proc.devRef .tc main_v3_4) = RC m c :=
  (Pipeline.withArrays_arr spec0 (by decide) c (V0 m c) _ 6).trans (final6 m c)
theorem W0_7 (c : Dev nD) : W0 m c (Proc.devRef .tc main_v3_5) = RS m c :=
  (Pipeline.withArrays_arr spec0 (by decide) c (V0 m c) _ 7).trans (final7 m c)

theorem end_v4 (c : Dev nD) : Pipeline.afterTail₀ cfgs (dats m) 0 (V0 m) [hostOps1] c main_v4 = shapeCast S2x2048x18944 (HC m c) shapeCasts_S4096x18944_S2x2048x18944 := by
  rw [← W0_4]
  show StableHlo.after hostOps1 (W0 m c) (Proc.devRef .tc main_v4) = _
  unfold hostOps1
  after_reads_simp
  rfl

theorem end_v7 (c : Dev nD) : Pipeline.afterTail₀ cfgs (dats m) 0 (V0 m) [hostOps1] c main_v7 = unstage (HS m c) := by
  rw [← W0_5]
  show StableHlo.after hostOps1 (W0 m c) (Proc.devRef .tc main_v7) = _
  unfold hostOps1
  after_reads_simp
  rfl

theorem end_v8 (c : Dev nD) : Pipeline.afterTail₀ cfgs (dats m) 0 (V0 m) [hostOps1] c main_v8 = shapeCast S2x2048x18944 (RC m c) shapeCasts_S4096x18944_S2x2048x18944 := by
  rw [← W0_6]
  show StableHlo.after hostOps1 (W0 m c) (Proc.devRef .tc main_v8) = _
  unfold hostOps1
  after_reads_simp
  rfl

theorem end_v11 (c : Dev nD) : Pipeline.afterTail₀ cfgs (dats m) 0 (V0 m) [hostOps1] c main_v11 = unstage (RS m c) := by
  rw [← W0_7]
  show StableHlo.after hostOps1 (W0 m c) (Proc.devRef .tc main_v11) = _
  unfold hostOps1
  after_reads_simp
  rfl

/-- The run of the kernel: its six results and its arguments kept. -/
theorem run_values : θ_run defs (onTc (τ := τ) (main (F := F))) (s₀ m ρ) (fun r => ∀ c : Dev nD,
      r.2.mem ((c : Thread nD τ).loc main_v3_0) = DW m c
      ∧ r.2.mem ((c : Thread nD τ).loc main_v3_1) = DWR m c
      ∧ r.2.mem ((c : Thread nD τ).loc main_v4) = shapeCast S2x2048x18944 (HC m c) shapeCasts_S4096x18944_S2x2048x18944
      ∧ r.2.mem ((c : Thread nD τ).loc main_v7) = unstage (HS m c)
      ∧ r.2.mem ((c : Thread nD τ).loc main_v8) = shapeCast S2x2048x18944 (RC m c) shapeCasts_S4096x18944_S2x2048x18944
      ∧ r.2.mem ((c : Thread nD τ).loc main_v11) = unstage (RS m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)) :=
  (θ_run defs _ _).mono (fun r h c =>
    ⟨((h.1 c).1 2).trans (final2 m c), ((h.1 c).1 3).trans (final3 m c),
      ((h.1 c).2 main_v4 (Pipeline.mem_restRefs_of main_v4 (by decide) (by decide))).trans (end_v4 m c),
      ((h.1 c).2 main_v7 (Pipeline.mem_restRefs_of main_v7 (by decide) (by decide))).trans (end_v7 m c),
      ((h.1 c).2 main_v8 (Pipeline.mem_restRefs_of main_v8 (by decide) (by decide))).trans (end_v8 m c),
      ((h.1 c).2 main_v11 (Pipeline.mem_restRefs_of main_v11 (by decide) (by decide))).trans (end_v11 m c),
      ((h.1 c).2 main_arg0 (Pipeline.mem_restRefs_of main_arg0 (by decide) (by decide))).trans (W_main_arg0 m (dats m) c),
      ((h.1 c).2 main_arg1 (Pipeline.mem_restRefs_of main_arg1 (by decide) (by decide))).trans (W_main_arg1 m (dats m) c),
      ((h.1 c).2 main_arg2 (Pipeline.mem_restRefs_of main_arg2 (by decide) (by decide))).trans (W_main_arg2 m (dats m) c)⟩) (run_main m ρ)

/-- The run keeps the arguments and leaves every counter at zero. -/
theorem frame : θ_run defs (onTc (τ := τ) (main (F := F))) (s₀ m ρ) (fun r => (∀ c : Dev nD,
      r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)) ∧ r.2.sem = fun _ => 0) :=
  (θ_run defs _ _).mono (fun r h => ⟨fun c =>
    ⟨((h.1 c).2 main_arg0 (Pipeline.mem_restRefs_of main_arg0 (by decide) (by decide))).trans (W_main_arg0 m (dats m) c),
      ((h.1 c).2 main_arg1 (Pipeline.mem_restRefs_of main_arg1 (by decide) (by decide))).trans (W_main_arg1 m (dats m) c),
      ((h.1 c).2 main_arg2 (Pipeline.mem_restRefs_of main_arg2 (by decide) (by decide))).trans (W_main_arg2 m (dats m) c)⟩, h.2⟩) (run_main m ρ)

end Cert.KernelIdeal.Hand

end
-- ==== Proof.Same.lean ====
/- The kernel and the kernel over the extended reals are the same program, so the first's frame is the second's, which is
   proved at any floats. -/
module

public import proofs.«01_k».proof.Proof.Gen.Kernel
public import proofs.«01_k».proof.Proof.KernelEnd

@[expose] public section

set_option maxRecDepth 100000
-- the two printed bodies are compared line by line
set_option maxHeartbeats 20000000

noncomputable section

namespace Cert.Kernel.Hand

open Idealize.ShloMosaic Idealize.SL.Sem

variable {F : FTy → Type} [FloatOps F]

theorem bodies_eq : Cert.Kernel.defs₀ (F := F) = Cert.KernelIdeal.defs₀ (F := F) := by
  refine congrArg Defs.onTc (funext fun l => funext fun a => ?_)
  match l, a with
  | 0, (t, s) => rfl
  | ⟨_ + 1, h⟩, _ => exact absurd h (Nat.not_lt.2 (Nat.le_add_left _ _))

theorem defs_eq : Cert.Kernel.defs (F := F) = Cert.KernelIdeal.defs (F := F) :=
  congrArg (Pipeline.defs (Cert.Kernel.pcfgs (F := F))) bodies_eq

theorem main_eq : Cert.Kernel.main (F := F) = Cert.KernelIdeal.main (F := F) := rfl

open Cert.Kernel

/-- The run keeps the arguments and leaves every counter at zero. -/
theorem frame (m : (ℓ : Loc nD τ sig) → Buf (Elt F) ℓ) (ρ : Dev nD → PrngReg) :
    θ_run (defs (F := F)) (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) ∧ r.2.sem = fun _ => 0) := by
  rw [defs_eq, main_eq]
  exact Cert.KernelIdeal.Hand.frame m ρ

end Cert.Kernel.Hand

end
-- ==== Proof.Scale.lean ====
/- The power-of-two scale, over the reals. The kernel finds the exponent field of `y` as the largest `k ≤ 255` whose power of two
   (the float with exponent field `k` and no fraction) is at most `y`, and builds the scale and its reciprocal by placing an exponent
   in a float's bits. The reference takes `floor (log y / log 2) + 1` and two powers of two. For a real `0 ≤ y < 2 ^ 126` the two
   agree (`scale_eq`, `inv_eq`). -/
module

public import Idealize.ShloMosaic.PureOps.Ideal
public import Idealize.ShloMosaic.PureOps.Ideal.Laws

@[expose] public section

noncomputable section

namespace Cert.Grad

open Idealize.ShloMosaic

/-! ## The maximum of a family of signed words -/

theorem toInt_maxsi (x y : BitVec 32) : (IntOp.maxsi x y).toInt = max x.toInt y.toInt := by
  unfold IntOp.maxsi
  simp only [BitVec.slt, decide_eq_true_eq]
  split <;> omega

/-- A word that bounds a family from above and is one of its members is the family's signed maximum. -/
theorem fold_maxsi_eq {ι : Type} (S : Finset ι) (f : ι → BitVec 32) (b r : BitVec 32) (hb : b.toInt ≤ r.toInt)
    (h1 : ∀ i ∈ S, (f i).toInt ≤ r.toInt) (h2 : ∃ i ∈ S, f i = r) : S.fold IKind.maxsi.op b f = r := by
  have h : (S.fold IKind.maxsi.op b f).toInt = S.fold max b.toInt (fun i => (f i).toInt) := by
    induction S using Finset.cons_induction with
    | empty => rfl
    | cons a s ha ih =>
      clear h1 h2
      have ih' : (s.fold IKind.maxsi.op b f).toInt = s.fold max b.toInt (fun i => (f i).toInt) := by
        clear ih
        induction s using Finset.cons_induction with
        | empty => rfl
        | cons a s ha ih => rw [Finset.fold_cons, Finset.fold_cons, ← ih (by simp_all)]; exact toInt_maxsi _ _
      rw [Finset.fold_cons, Finset.fold_cons, ← ih']; exact toInt_maxsi _ _
  apply BitVec.eq_of_toInt_eq
  rw [h]
  obtain ⟨i, hi, hr⟩ := h2
  exact le_antisymm ((Finset.fold_max_le _).2 ⟨hb, h1⟩) ((Finset.le_fold_max _).2 (.inr ⟨i, hi, by rw [hr]⟩))

/-! ## Floats with no fraction -/

theorem fields_shl : ∀ k : Fin 256, ((BitVec.ofNat 32 k.val <<< 23).extractLsb' 23 8).toNat = k.val
    ∧ ((BitVec.ofNat 32 k.val <<< 23).extractLsb' 0 23).toNat = 0
    ∧ ((BitVec.ofNat 32 k.val <<< 23).extractLsb' 31 1 == 1#1) = false := by
  decide +kernel

/-- What the bits of a float with no sign and no fraction denote, by their exponent field. -/
theorem ieee_of (b : BitVec 32) (k : ℕ) (he : (b.extractLsb' 23 8).toNat = k) (hf : (b.extractLsb' 0 23).toNat = 0)
    (hs : (b.extractLsb' 31 1 == 1#1) = false) :
    Ideal.ieee 8 23 b = if k = 255 then ⊤ else if k = 0 then 0 else (((2 : ℝ) ^ ((k : ℤ) - 127) : ℝ) : EReal) := by
  unfold Ideal.ieee
  simp only [Nat.reduceAdd, he, hf, hs, Bool.false_eq_true, if_false, if_true, Nat.reducePow, Nat.reduceSub, one_mul, add_zero,
    Nat.cast_zero, zero_mul, EReal.coe_zero]
  have e : (((8388608 : ℕ) : ℝ)) = (2 : ℝ) ^ (23 : ℤ) := by norm_num
  rw [e, ← zpow_add₀ (by norm_num)]
  have e2 : (23 : ℤ) + ((k : ℤ) - (2 ^ 7 - 1) - ((23 : ℕ) : ℤ)) = (k : ℤ) - 127 := by norm_num
  rw [e2]

/-- The float with exponent field `k` and no fraction. -/
theorem ofBits_shl (k : ℕ) (h1 : 1 ≤ k) (h2 : k ≤ 254) :
    Ideal.ofBits .f32 (BitVec.ofNat 32 k <<< 23) = (((2 : ℝ) ^ ((k : ℤ) - 127) : ℝ) : EReal) := by
  obtain ⟨he, hf, hs⟩ := fields_shl ⟨k, by omega⟩
  exact (ieee_of _ k he hf hs).trans (by rw [if_neg (by omega), if_neg (by omega)])

theorem ofBits_shl_zero : Ideal.ofBits .f32 (BitVec.ofNat 32 0 <<< 23) = 0 := by
  obtain ⟨he, hf, hs⟩ := fields_shl ⟨0, by omega⟩
  exact (ieee_of _ 0 he hf hs).trans (by rw [if_neg (by omega), if_pos rfl])

theorem ofBits_shl_top : Ideal.ofBits .f32 (BitVec.ofNat 32 255 <<< 23) = ⊤ := by
  obtain ⟨he, hf, hs⟩ := fields_shl ⟨255, by omega⟩
  exact (ieee_of _ 255 he hf hs).trans (by rw [if_pos rfl])

/-! ## The exponent field by comparison -/

/-- The word the kernel compares for: `k` where the float with exponent field `k` is at most `y`, else zero. -/
def word (y : EReal) (k : ℕ) : BitVec 32 :=
  if Ideal.ofBits .f32 (BitVec.ofNat 32 k <<< 23) ≤ y then BitVec.ofNat 32 k else 0#32

theorem toInt_ofNat (k : ℕ) (h : k < 256) : (BitVec.ofNat 32 k).toInt = k := by
  rw [BitVec.toInt_ofNat', Int.bmod_def]; norm_num; omega

/-- The largest of those words is the exponent field `n + 127` of a real in `[2 ^ n, 2 ^ (n + 1))`. -/
theorem word_max {ι : Type} (S : Finset ι) (f : ι → ℕ) (hf : ∀ i ∈ S, f i < 256) (hS : ∀ k < 256, ∃ i ∈ S, f i = k)
    (r : ℝ) (n : ℤ) (hn : -126 ≤ n) (hn' : n ≤ 126) (h1 : (2 : ℝ) ^ n ≤ r) (h2 : r < (2 : ℝ) ^ (n + 1)) :
    S.fold IKind.maxsi.op 0x80000000#32 (fun i => word (r : EReal) (f i)) = BitVec.ofNat 32 (n + 127).toNat := by
  have he : ((n + 127).toNat : ℤ) = n + 127 := by omega
  refine fold_maxsi_eq S _ _ _ ?_ (fun i hi => ?_) ?_
  · rw [toInt_ofNat (n + 127).toNat (by omega)]
    have : (0x80000000#32).toInt = -2147483648 := by decide
    rw [this]; omega
  · rw [toInt_ofNat (n + 127).toNat (by omega)]
    unfold word
    split
    · rename_i hle
      rw [toInt_ofNat _ (hf i hi)]
      by_contra hc
      have hk : n + 127 < f i := by omega
      by_cases h255 : f i = 255
      · rw [h255, ofBits_shl_top] at hle
        exact absurd (top_le_iff.1 hle) (EReal.coe_ne_top r)
      · have := hf i hi
        rw [ofBits_shl _ (by omega) (by omega), EReal.coe_le_coe_iff] at hle
        have : (2 : ℝ) ^ (n + 1) ≤ (2 : ℝ) ^ ((f i : ℤ) - 127) := zpow_le_zpow_right₀ (by norm_num) (by omega)
        linarith
    · have : (0#32).toInt = 0 := by decide
      rw [this]; omega
  · obtain ⟨i, hi, hk⟩ := hS (n + 127).toNat (by omega)
    refine ⟨i, hi, ?_⟩
    unfold word
    rw [hk, if_pos]
    rw [ofBits_shl _ (by omega) (by omega), EReal.coe_le_coe_iff, he]
    rw [show n + 127 - 127 = n by ring]; exact h1

/-- Below the smallest normal float the largest word is zero. -/
theorem word_max_zero {ι : Type} (S : Finset ι) (f : ι → ℕ) (hf : ∀ i ∈ S, f i < 256) (hS : ∀ k < 256, ∃ i ∈ S, f i = k)
    (r : ℝ) (h2 : r < (2 : ℝ) ^ (-126 : ℤ)) :
    S.fold IKind.maxsi.op 0x80000000#32 (fun i => word (r : EReal) (f i)) = 0#32 := by
  have key : ∀ i ∈ S, word (r : EReal) (f i) = 0#32 := fun i hi => by
    unfold word
    split
    · rename_i hle
      by_cases h0 : f i = 0
      · rw [h0]
      · exfalso
        by_cases h255 : f i = 255
        · rw [h255, ofBits_shl_top] at hle
          exact absurd (top_le_iff.1 hle) (EReal.coe_ne_top r)
        · have := hf i hi
          rw [ofBits_shl _ (by omega) (by omega), EReal.coe_le_coe_iff] at hle
          have : (2 : ℝ) ^ (-126 : ℤ) ≤ (2 : ℝ) ^ ((f i : ℤ) - 127) := zpow_le_zpow_right₀ (by norm_num) (by omega)
          linarith
    · rfl
  refine fold_maxsi_eq S _ _ _ (by decide) (fun i hi => by rw [key i hi]) ?_
  obtain ⟨i, hi, -⟩ := hS 0 (by omega)
  exact ⟨i, hi, key i hi⟩

/-! ## The two scales -/

/-- The exponent the reference takes. -/
def refExp (y : EReal) : EReal :=
  if y < Ideal.ofBits .f32 0x00800000#32 then 0
  else Ideal.liftRound Int.floor (Ideal.div (Ideal.log y) (Ideal.log (Ideal.ofBits .f32 0x40000000#32))) + 1

/-- The exponent field the kernel places, given the one it found. -/
def field (w : BitVec 32) : BitVec 32 := if w = 0#32 ∨ w = 255#32 then 126#32 else w

theorem ofBits_two : Ideal.ofBits .f32 0x40000000#32 = ((2 : ℝ) : EReal) := by
  have := ofBits_shl 128 (by omega) (by omega)
  rw [show (BitVec.ofNat 32 128 <<< 23) = 0x40000000#32 by decide] at this
  rw [this]; norm_num

theorem ofBits_smallest : Ideal.ofBits .f32 0x00800000#32 = (((2 : ℝ) ^ (-126 : ℤ) : ℝ) : EReal) := by
  have := ofBits_shl 1 (by omega) (by omega)
  rw [show (BitVec.ofNat 32 1 <<< 23) = 0x00800000#32 by decide] at this
  rw [this]; norm_num

theorem refExp_small (r : ℝ) (h : r < (2 : ℝ) ^ (-126 : ℤ)) : refExp (r : EReal) = 0 := by
  unfold refExp
  rw [ofBits_smallest, if_pos (EReal.coe_lt_coe_iff.2 h)]

theorem refExp_of_range (r : ℝ) (n : ℤ) (hn : -126 ≤ n) (h1 : (2 : ℝ) ^ n ≤ r) (h2 : r < (2 : ℝ) ^ (n + 1)) :
    refExp (r : EReal) = (((n + 1 : ℤ) : ℝ) : EReal) := by
  have hp : (0 : ℝ) < 2 ^ n := zpow_pos (by norm_num) n
  have hr : 0 < r := lt_of_lt_of_le hp h1
  have hs : (2 : ℝ) ^ (-126 : ℤ) ≤ 2 ^ n := zpow_le_zpow_right₀ (by norm_num) hn
  have hl2 : (0 : ℝ) < Real.log 2 := Real.log_pos (by norm_num)
  unfold refExp
  rw [ofBits_smallest, ofBits_two, if_neg (by rw [EReal.coe_lt_coe_iff]; linarith)]
  have e1 : Ideal.log (r : EReal) = (Real.log r : EReal) := by
    show (if r ≤ 0 then ⊥ else (Real.log r : EReal)) = _
    rw [if_neg (by linarith)]
  have e2 : Ideal.log ((2 : ℝ) : EReal) = (Real.log 2 : EReal) := by
    show (if (2 : ℝ) ≤ 0 then ⊥ else (Real.log 2 : EReal)) = _
    rw [if_neg (by norm_num)]
  rw [e1, e2]
  unfold Ideal.div
  rw [if_neg (by simpa using hl2.ne'), ← EReal.coe_inv, ← EReal.coe_mul, Ideal.liftRound_coe]
  have hfl : ⌊Real.log r * (Real.log 2)⁻¹⌋ = n := by
    rw [← div_eq_mul_inv, Int.floor_eq_iff]
    constructor
    · rw [le_div_iff₀ hl2, ← Real.log_zpow]; exact Real.log_le_log hp h1
    · rw [div_lt_iff₀ hl2]
      have : ((n : ℝ) + 1) * Real.log 2 = Real.log ((2 : ℝ) ^ (n + 1)) := by rw [Real.log_zpow]; push_cast; ring
      rw [this]; exact Real.log_lt_log hr h2
  rw [hfl]; push_cast; rfl

theorem exp2_int (n : ℤ) : Ideal.exp2 (((n : ℤ) : ℝ) : EReal) = (((2 : ℝ) ^ n : ℝ) : EReal) := by
  rw [Ideal.exp2_coe]; congr 1; exact Real.rpow_intCast 2 n

/-- A positive real lies between two neighbouring powers of two. -/
theorem exists_pow_range (r : ℝ) (hr : 0 < r) : ∃ n : ℤ, (2 : ℝ) ^ n ≤ r ∧ r < (2 : ℝ) ^ (n + 1) := by
  have hl2 : (0 : ℝ) < Real.log 2 := Real.log_pos (by norm_num)
  refine ⟨⌊Real.log r / Real.log 2⌋, ?_, ?_⟩
  · rw [← Real.log_le_log_iff (zpow_pos (by norm_num) _) hr, Real.log_zpow, ← le_div_iff₀ hl2]
    exact Int.floor_le _
  · rw [← Real.log_lt_log_iff hr (zpow_pos (by norm_num) _), Real.log_zpow, ← div_lt_iff₀ hl2]
    push_cast
    exact Int.lt_floor_add_one _

/-- What the two sides make of a real `0 ≤ r < 2 ^ 126`, given the largest word `w`: the same scale and the same reciprocal. -/
theorem scale_inv_eq {ι : Type} (S : Finset ι) (f : ι → ℕ) (hf : ∀ i ∈ S, f i < 256) (hS : ∀ k < 256, ∃ i ∈ S, f i = k)
    (r : ℝ) (h0 : 0 ≤ r) (h : r < (2 : ℝ) ^ (126 : ℤ)) (w : BitVec 32)
    (hw : w = S.fold IKind.maxsi.op 0x80000000#32 (fun i => word (r : EReal) (f i))) :
    Ideal.ofBits .f32 ((field w + 1#32) <<< 23) = Ideal.exp2 (refExp (r : EReal))
      ∧ Ideal.ofBits .f32 ((253#32 - field w) <<< 23) = Ideal.exp2 (0 - refExp (r : EReal)) := by
  by_cases hs : r < (2 : ℝ) ^ (-126 : ℤ)
  · rw [word_max_zero S f hf hS r hs] at hw
    subst hw
    rw [refExp_small r hs]
    have e : field 0#32 = 126#32 := by unfold field; simp
    have ez : Ideal.exp2 0 = 1 := by
      have := exp2_int 0
      simpa using this
    have e1 : Ideal.ofBits .f32 (BitVec.ofNat 32 127 <<< 23) = 1 := by
      rw [ofBits_shl 127 (by omega) (by omega)]; norm_num
    rw [e, show (126#32 + 1#32) = BitVec.ofNat 32 127 by decide, show (253#32 - 126#32) = BitVec.ofNat 32 127 by decide, e1]
    simp [ez]
  · have hr : 0 < r := lt_of_lt_of_le (zpow_pos (by norm_num) _) (not_lt.1 hs)
    obtain ⟨n, h1, h2⟩ : ∃ n : ℤ, (2 : ℝ) ^ n ≤ r ∧ r < (2 : ℝ) ^ (n + 1) := exists_pow_range r hr
    have hn : -126 ≤ n := by
      by_contra hc
      have : (2 : ℝ) ^ (n + 1) ≤ (2 : ℝ) ^ (-126 : ℤ) := zpow_le_zpow_right₀ (by norm_num) (by omega)
      linarith [not_lt.1 hs]
    have hn' : n ≤ 125 := by
      by_contra hc
      have : (2 : ℝ) ^ (126 : ℤ) ≤ (2 : ℝ) ^ n := zpow_le_zpow_right₀ (by norm_num) (by omega)
      linarith
    rw [word_max S f hf hS r n hn (by omega) h1 h2] at hw
    rw [refExp_of_range r n hn h1 h2]
    obtain ⟨k, hk⟩ : ∃ k : ℕ, n = (k : ℤ) - 127 := ⟨(n + 127).toNat, by omega⟩
    have hk1 : 1 ≤ k := by omega
    have hk2 : k ≤ 252 := by omega
    have hw' : w = BitVec.ofNat 32 k := by rw [hw]; congr 1; omega
    have e : field w = BitVec.ofNat 32 k := by
      rw [hw']; unfold field
      rw [if_neg]
      rintro (hc | hc)
      · have := congrArg BitVec.toNat hc; simp at this; omega
      · have := congrArg BitVec.toNat hc; simp at this; omega
    have e2 : (253#32 - BitVec.ofNat 32 k) = BitVec.ofNat 32 (253 - k) := by
      apply BitVec.eq_of_toNat_eq; simp [BitVec.toNat_sub]; omega
    have e3 : (BitVec.ofNat 32 k + 1#32) = BitVec.ofNat 32 (k + 1) := by
      apply BitVec.eq_of_toNat_eq; simp
    rw [e, e2, e3, ofBits_shl _ (by omega) (by omega), ofBits_shl _ (by omega) (by omega), exp2_int]
    refine ⟨by congr 2; push_cast; omega, ?_⟩
    have : (0 : EReal) - (((n + 1 : ℤ) : ℝ) : EReal) = (((-(n + 1) : ℤ) : ℝ) : EReal) := by
      rw [zero_sub]; push_cast; rfl
    rw [this, exp2_int]
    congr 2; omega

end Cert.Grad
-- ==== Proof.Spec.lean ====
/- One 128 × 128 block over the extended reals: its largest magnitude, the two power-of-two scales, the codes and the residual, and
   the bounds that keep the scales' exponents in range for a finite block. -/
module

public import proofs.«01_k».proof.Proof.Scale

@[expose] public section

noncomputable section

namespace Cert.Grad

open Idealize.ShloMosaic

/-- The largest magnitude of a block, -/
def amax {ι : Type} (q : ι → EReal) : EReal := ⨆ i, max (q i) (-(q i))
/-- times the reciprocal of the largest code, -/
def span {ι : Type} (k : BitVec 32) (q : ι → EReal) : EReal := amax q * Ideal.ofBits .f32 k
/-- the scale, -/
def pow2 {ι : Type} (k : BitVec 32) (q : ι → EReal) : EReal := Ideal.exp2 (refExp (span k q))
/-- its reciprocal, -/
def inv2 {ι : Type} (k : BitVec 32) (q : ι → EReal) : EReal := Ideal.exp2 (0 - refExp (span k q))
/-- and the codes. -/
def code {ι : Type} (k lo hi : BitVec 32) (q : ι → EReal) (i : ι) : EReal :=
  min (Ideal.ofBits .f32 hi) (max (Ideal.ofBits .f32 lo) (q i * inv2 k q))

/-- The scale of a block of the gradient, -/
def scale1 {ι : Type} (q : ι → EReal) : EReal := pow2 0x37924925#32 q
/-- its codes, -/
def code1 {ι : Type} (q : ι → EReal) : ι → EReal := code 0x37924925#32 0xC7600000#32 0x47600000#32 q
/-- what the codes miss, -/
def miss {ι : Type} (q : ι → EReal) (i : ι) : EReal := q i - code1 q i * scale1 q
/-- the residual's scale -/
def scale2 {ι : Type} (q : ι → EReal) : EReal := pow2 0x3B124925#32 (miss q)
/-- and the residual's codes. -/
def code2 {ι : Type} (q : ι → EReal) : ι → EReal := code 0x3B124925#32 0xC3E00000#32 0x43E00000#32 (miss q)

/-! ## The constants -/

/-- What the bits of a normal float denote, by their fields. -/
theorem ofBits_val (b : BitVec 32) (k n : ℕ) (sg : Bool) (hs : (b.extractLsb' 31 1 == 1#1) = sg) (he : (b.extractLsb' 23 8).toNat = k)
    (h1 : k ≠ 0) (h2 : k ≠ 255) (hf : (b.extractLsb' 0 23).toNat = n) (r : ℝ)
    (hr : (if sg then -1 else 1) * ((2 ^ 23 + n : ℕ) : ℝ) * (2 : ℝ) ^ ((k : ℤ) - 150) = r) : Ideal.ofBits .f32 b = (r : EReal) := by
  show Ideal.ieee 8 23 b = _
  unfold Ideal.ieee
  simp only [Nat.reduceAdd, he, hf, hs]
  rw [if_neg (by simpa using h2), if_neg h1, ← hr]
  congr 3
  norm_num
  ring

/-- The largest finite float. -/
def fmax : ℝ := 16777215 * 2 ^ (104 : ℤ)

theorem ofBits_fmax : Ideal.ofBits .f32 0x7F7FFFFF#32 = (fmax : EReal) :=
  ofBits_val _ 254 8388607 false (by decide) (by decide) (by decide) (by decide) (by decide) _ (by unfold fmax; norm_num)
theorem ofBits_hi1 : Ideal.ofBits .f32 0x47600000#32 = ((57344 : ℝ) : EReal) :=
  ofBits_val _ 142 6291456 false (by decide) (by decide) (by decide) (by decide) (by decide) _ (by norm_num)
theorem ofBits_lo1 : Ideal.ofBits .f32 0xC7600000#32 = ((-57344 : ℝ) : EReal) :=
  ofBits_val _ 142 6291456 true (by decide) (by decide) (by decide) (by decide) (by decide) _ (by norm_num)
theorem ofBits_k1 : Ideal.ofBits .f32 0x37924925#32 = ((9586981 * 2 ^ (-39 : ℤ) : ℝ) : EReal) :=
  ofBits_val _ 111 1198373 false (by decide) (by decide) (by decide) (by decide) (by decide) _ (by norm_num)
theorem ofBits_k2 : Ideal.ofBits .f32 0x3B124925#32 = ((9586981 * 2 ^ (-32 : ℤ) : ℝ) : EReal) :=
  ofBits_val _ 118 1198373 false (by decide) (by decide) (by decide) (by decide) (by decide) _ (by norm_num)

/-! ## The ranges -/

/-- Every entry of the block is a finite float. -/
def Bounded {ι : Type} (q : ι → EReal) : Prop := ∀ i, max (q i) (-(q i)) ≤ Ideal.ofBits .f32 0x7F7FFFFF#32

theorem real_of_abs_le (x : EReal) (M : ℝ) (h : max x (-x) ≤ (M : EReal)) : ∃ v : ℝ, x = (v : EReal) ∧ |v| ≤ M := by
  induction x with
  | bot => exact absurd (le_trans (le_max_right _ _) h) (by simp)
  | top => exact absurd (le_trans (le_max_left _ _) h) (by simp)
  | coe v =>
    refine ⟨v, rfl, ?_⟩
    rw [← EReal.coe_neg] at h
    exact abs_le'.2 ⟨EReal.coe_le_coe_iff.1 (le_trans (le_max_left _ _) h), EReal.coe_le_coe_iff.1 (le_trans (le_max_right _ _) h)⟩

theorem abs_le_of_real (v M : ℝ) (h : |v| ≤ M) : max (v : EReal) (-(v : EReal)) ≤ (M : EReal) := by
  rw [← EReal.coe_neg]
  exact max_le (EReal.coe_le_coe_iff.2 (abs_le'.1 h).1) (EReal.coe_le_coe_iff.2 (abs_le'.1 h).2)

/-- The span of a block of entries at most `M` in magnitude. -/
theorem span_real {ι : Type} [Nonempty ι] (k : BitVec 32) (κ : ℝ) (hk : Ideal.ofBits .f32 k = (κ : EReal)) (h0 : 0 ≤ κ) (q : ι → EReal)
    (M : ℝ) (hq : ∀ i, max (q i) (-(q i)) ≤ (M : EReal)) (hM : M * κ < (2 : ℝ) ^ (126 : ℤ)) :
    ∃ r : ℝ, span k q = (r : EReal) ∧ 0 ≤ r ∧ r < (2 : ℝ) ^ (126 : ℤ) := by
  have hle : amax q ≤ (M : EReal) := iSup_le hq
  have hge : 0 ≤ amax q := by
    obtain ⟨i⟩ := ‹Nonempty ι›
    refine le_trans ?_ (le_iSup (fun i => max (q i) (-(q i))) i)
    obtain ⟨v, hv, -⟩ := real_of_abs_le (q i) M (hq i)
    rw [hv, ← EReal.coe_neg, ← EReal.coe_zero]
    rcases le_total 0 v with h | h
    · exact le_max_of_le_left (EReal.coe_le_coe_iff.2 h)
    · exact le_max_of_le_right (EReal.coe_le_coe_iff.2 (by linarith))
  unfold span
  rw [hk]
  generalize amax q = a at hle hge
  induction a with
  | bot => exact absurd hge (by simp)
  | top => exact absurd hle (by simp)
  | coe a =>
    have ha : a ≤ M := EReal.coe_le_coe_iff.1 hle
    have ha' : 0 ≤ a := by rw [← EReal.coe_zero] at hge; exact EReal.coe_le_coe_iff.1 hge
    exact ⟨a * κ, (EReal.coe_mul _ _).symm, mul_nonneg ha' h0, lt_of_le_of_lt (mul_le_mul_of_nonneg_right ha h0) hM⟩

/-- The reference's exponent is a whole number. -/
theorem refExp_int (r : ℝ) (h0 : 0 ≤ r) : ∃ n : ℤ, refExp (r : EReal) = ((n : ℝ) : EReal) := by
  by_cases hs : r < (2 : ℝ) ^ (-126 : ℤ)
  · exact ⟨0, by rw [refExp_small r hs]; simp⟩
  · have hp : (0 : ℝ) < 2 ^ (-126 : ℤ) := zpow_pos (by norm_num) _
    obtain ⟨n, h1, h2⟩ := exists_pow_range r (by linarith)
    refine ⟨n + 1, refExp_of_range r n ?_ h1 h2⟩
    by_contra hn
    have : (2 : ℝ) ^ (n + 1) ≤ 2 ^ (-126 : ℤ) := zpow_le_zpow_right₀ (by norm_num) (by omega)
    linarith

/-- Taking a value's code off it at most doubles its magnitude. -/
theorem miss_le (v s lo hi : ℝ) (hs : 0 < s) (hlo : lo ≤ 0) (hhi : 0 ≤ hi) : |v - min hi (max lo (v * s⁻¹)) * s| ≤ 2 * |v| := by
  have hc : |min hi (max lo (v * s⁻¹))| ≤ |v * s⁻¹| := by
    rcases le_total 0 (v * s⁻¹) with h | h
    · rw [max_eq_right (le_trans hlo h), abs_of_nonneg (le_min hhi h), abs_of_nonneg h]
      exact min_le_right _ _
    · rw [min_eq_right (le_trans (max_le hlo h) hhi), abs_of_nonpos (max_le hlo h), abs_of_nonpos h]
      exact neg_le_neg (le_max_right _ _)
  have h2 : |min hi (max lo (v * s⁻¹)) * s| ≤ |v| := by
    rw [abs_mul, abs_of_pos hs]
    refine (mul_le_mul_of_nonneg_right hc hs.le).trans ?_
    rw [abs_mul, abs_of_pos (inv_pos.2 hs), mul_assoc, inv_mul_cancel₀ hs.ne', mul_one]
  calc |v - min hi (max lo (v * s⁻¹)) * s| ≤ |v| + |min hi (max lo (v * s⁻¹)) * s| := abs_sub _ _
    _ ≤ 2 * |v| := by linarith

/-- The span of a block of finite floats, -/
theorem span1 {ι : Type} [Nonempty ι] (q : ι → EReal) (hq : Bounded q) :
    ∃ r : ℝ, span 0x37924925#32 q = (r : EReal) ∧ 0 ≤ r ∧ r < (2 : ℝ) ^ (126 : ℤ) :=
  span_real _ _ ofBits_k1 (by norm_num) q fmax (fun i => by rw [← ofBits_fmax]; exact hq i) (by unfold fmax; norm_num)

/-- the residual's entries, -/
theorem miss_bound {ι : Type} [Nonempty ι] (q : ι → EReal) (hq : Bounded q) (i : ι) : max (miss q i) (-(miss q i)) ≤ ((2 * fmax : ℝ) : EReal) := by
  obtain ⟨r, hr, h0, -⟩ := span1 q hq
  obtain ⟨n, hn⟩ := refExp_int r h0
  have hp : (0 : ℝ) < 2 ^ n := zpow_pos (by norm_num) n
  obtain ⟨v, hv, hvm⟩ := real_of_abs_le (q i) fmax (by rw [← ofBits_fmax]; exact hq i)
  have e0 : (0 : EReal) - ((n : ℝ) : EReal) = (((-n : ℤ) : ℝ) : EReal) := by
    rw [← EReal.coe_zero, ← EReal.coe_sub]; push_cast; rw [zero_sub]
  have e : miss q i = ((v - min 57344 (max (-57344) (v * (2 ^ n : ℝ)⁻¹)) * 2 ^ n : ℝ) : EReal) := by
    unfold miss code1 scale1 code pow2 inv2
    rw [hr, hn, e0, exp2_int, exp2_int, hv, ofBits_hi1, ofBits_lo1, zpow_neg, ← EReal.coe_mul,
      ← EReal.coe_strictMono.monotone.map_max, ← EReal.coe_strictMono.monotone.map_min, ← EReal.coe_mul, ← EReal.coe_sub]
  rw [e]
  exact abs_le_of_real _ _ ((miss_le v (2 ^ n) (-57344) 57344 hp (by norm_num) (by norm_num)).trans (by linarith))

/-- and its span. -/
theorem span2 {ι : Type} [Nonempty ι] (q : ι → EReal) (hq : Bounded q) :
    ∃ r : ℝ, span 0x3B124925#32 (miss q) = (r : EReal) ∧ 0 ≤ r ∧ r < (2 : ℝ) ^ (126 : ℤ) :=
  span_real _ _ ofBits_k2 (by norm_num) (miss q) (2 * fmax) (miss_bound q hq) (by unfold fmax; norm_num)

end Cert.Grad

end
-- ==== Proof.Tile.lean ====
/- What the kernel computes from one 128 × 128 block, over the extended reals: the scale, the codes, the residual's scale and codes
   of `Spec`, given that the block's entries are finite floats. -/
module

public import proofs.«01_k».proof.Proof.GTile
public import proofs.«01_k».proof.Proof.Spec
public import Idealize.ShloMosaic.PureOps.Reduce
public import Idealize.ShloMosaic.Lib.Pointwise.Reduce
public import Idealize.ShloMosaic.Lib.Pipeline.Value

@[expose] public section

set_option maxRecDepth 16384

noncomputable section

namespace Cert.KernelIdeal.Hand

open Idealize.ShloMosaic Idealize.ShloMosaic.TcCoe
open Cert.KernelIdeal Cert.KernelIdeal.Gen Cert.Grad

/-! ## The largest magnitude -/

theorem neutral_bot : (FloatOps.ofBits .f32 0xFF800000#32 : Ideal .f32) = (⊥ : EReal) := by
  show Ideal.ieee 8 23 0xFF800000#32 = ⊥
  unfold Ideal.ieee
  rw [if_pos (by decide), if_pos (by decide), if_pos (by decide)]

/-- A maximum from the least value is the supremum. -/
theorem fold_max_eq_iSup {κ : Type} [Fintype κ] (f : κ → EReal) : (Finset.univ : Finset κ).fold max ⊥ f = ⨆ i, f i := by
  refine le_antisymm ((Finset.fold_max_le _).2 ⟨bot_le, fun i _ => le_iSup f i⟩) (iSup_le fun i => ?_)
  exact (Finset.le_fold_max _).2 (.inr ⟨i, Finset.mem_univ i, le_rfl⟩)

instance : Nonempty S128x128.Idx := ⟨at2 0 0 (by omega) (by omega)⟩

/-- The index of a vector at `a`. -/
def at1 {N : ℕ} (a : ℕ) (ha : a < N) : (⟨1, ![N]⟩ : Shape).Idx := fun
  | ⟨0, _⟩ => ⟨a, ha⟩

/-- The maximum over the rows, -/
theorem rows_max (x : FVec Ideal S128x128 .f32) (l : S128.Idx) :
    multiReduction .maximumf [0] S128 x 0xFF800000#32 reduces_S128x128_S128 (.inl rfl) rfl l
      = ⨆ k : Fin 128, x (at2 k.val (l 0).val k.isLt (l 0).isLt) := by
  refine (multiReduction_maximumf_eq_fold _ _ _ _ _ _).trans ((Shape.Reduces.fold_fiber_r2_a0 _ _ _ _ _).trans ?_)
  rw [neutral_bot]
  refine (fold_max_eq_iSup _).trans (iSup_congr fun k => congrArg x ?_)
  exact eq_at2 _ _ _ rfl rfl

/-- and over the lanes. -/
theorem lanes_max (x : FVec Ideal S1x128 .f32) (l : S1.Idx) :
    multiReduction .maximumf [1] S1 x 0xFF800000#32 reduces_S1x128_S1 (.inl rfl) rfl l
      = ⨆ k : Fin 128, x (at2 0 k.val Nat.one_pos k.isLt) := by
  refine (multiReduction_maximumf_eq_fold _ _ _ _ _ _).trans ((Shape.Reduces.fold_fiber_r2_a1 _ _ _ _ _).trans ?_)
  rw [neutral_bot]
  refine (fold_max_eq_iSup _).trans (iSup_congr fun k => congrArg x ?_)
  have h0 : (l 0).val < 1 := (l 0).isLt
  exact eq_at2 _ _ _ (by show (l 0).val = 0; omega) rfl

/-- The kernel's maximum over rows and then over lanes. -/
def kmax (x : FVec Ideal S128x128 .f32) : FVec Ideal S1x1 .f32 :=
  shapeCast S1x1 (multiReduction .maximumf [1] S1 (shapeCast S1x128 (multiReduction .maximumf [0] S128 x 0xFF800000#32
    reduces_S128x128_S128 (.inl rfl) rfl) shapeCasts_S128_S1x128) 0xFF800000#32 reduces_S1x128_S1 (.inl rfl) rfl) shapeCasts_S1_S1x1

/-- A vector as a row. -/
theorem asRow (x : FVec Ideal S128 .f32) (k : Fin 128) :
    shapeCast S1x128 x shapeCasts_S128_S1x128 (at2 0 k.val Nat.one_pos k.isLt) = x (at1 k.val k.isLt) := by
  refine shapeCast_apply _ _ _ _ ?_
  rw [Shape.rowMajor_val_one, Shape.rowMajor_val_two]
  show k.val = 0 * 128 + k.val
  omega

/-- One entry as a row. -/
theorem asOne {α : Type} (x : S1.Idx → α) (j : S1x1.Idx) : shapeCast S1x1 x shapeCasts_S1_S1x1 j = x (at1 0 Nat.one_pos) := by
  refine shapeCast_apply _ _ _ _ ?_
  rw [Shape.rowMajor_val_one, Shape.rowMajor_val_two]
  have h0 : (j 0).val < 1 := (j 0).isLt
  have h1 : (j 1).val < 1 := (j 1).isLt
  show 0 = (j 0).val * 1 + (j 1).val
  omega

theorem kmax_eq (x : FVec Ideal S128x128 .f32) (j : S1x1.Idx) : kmax x j = ⨆ i, x i := by
  refine (asOne _ j).trans ((lanes_max _ _).trans ((iSup_congr fun k => (asRow _ k).trans (rows_max x _)).trans ?_))
  refine le_antisymm (iSup_le fun c => iSup_le fun k => le_iSup x _) (iSup_le fun i => ?_)
  refine le_trans (le_of_eq (congrArg x ?_)) (le_iSup_of_le (i 1) (le_iSup (fun k : Fin 128 => x (at2 k.val (i 1).val k.isLt (i 1).isLt)) (i 0)))
  exact eq_at2 _ _ _ rfl rfl

/-! ## The exponent's word -/

/-- The exponent field the kernel finds for a block, given the reciprocal of the largest code. -/
def eword (k : BitVec 32) (x : FVec Ideal S128x128 .f32) : IVec S1x1 32 :=
  let y : FVec Ideal S1x1 .f32 := mulf (kmax (absf x)) (broadcast S1x1 (Scalar.ofBits .f32 k))
  let n : IVec S1x256 32 := iota .tc S1x256 32 [1] iota_S1x256_d1_w32
  let w : IVec S1x1 32 := shapeCast S1x1 (multiReductionI .maxsi [1] S1 (select (cmpf .oge (broadcastTo S1x256 y broadcasts_S1x1_S1x256)
    (bitcastToFloat .f32 (shli n (broadcast S1x256 23#32)))) n (broadcast S1x256 0#32)) 2147483648#32 reduces_S1x256_S1 rfl) shapeCasts_S1_S1x1
  select (ori (cmpi .eq w (broadcast S1x1 0#32)) (cmpi .eq w (broadcast S1x1 255#32))) (broadcast S1x1 126#32) w

theorem pay81_eq (q : Vec Ideal S128x128 .f32) : k0_pay81 q = eword 0x37924925#32 (k0_pay80 q) := rfl
theorem pay87_eq (v : FVec Ideal S128x128 .f32) (s) (u) : k0_pay87 v s u = eword 0x3B124925#32 (k0_pay86 v s u) := rfl

/-- One entry of a one-entry block at every lane. -/
theorem spread {α : Type} (x : S1x1.Idx → α) (i : S1x256.Idx) :
    broadcastTo S1x256 x broadcasts_S1x1_S1x256 i = x (at2 0 0 Nat.one_pos Nat.one_pos) := by
  refine broadcastTo_apply _ _ _ _ fun a => ?_
  fin_cases a <;> rfl

/-- One entry of a one-entry block at every entry of a block. -/
theorem spread2 {α : Type} (x : S1x1.Idx → α) (i : S128x128.Idx) :
    broadcastTo S128x128 x broadcasts_S1x1_S128x128 i = x (at2 0 0 Nat.one_pos Nat.one_pos) := by
  refine broadcastTo_apply _ _ _ _ fun a => ?_
  fin_cases a <;> rfl

/-- A candidate word, kept where its power of two is at most the value. -/
theorem word_of (v : FVec Ideal S1x256 .f32) (n : IVec S1x256 32) (i : S1x256.Idx) :
    select (cmpf .oge v (bitcastToFloat .f32 (shli n (broadcast S1x256 23#32)))) n (broadcast S1x256 0#32) i
    = if Ideal.ofBits .f32 (n i <<< 23) ≤ v i then n i else 0#32 := by
  show (if BitVec.ofBool (decide (Ideal.ofBits .f32 (n i <<< 23) ≤ v i)) = 1#1 then n i else 0#32) = _
  by_cases h : Ideal.ofBits .f32 (n i <<< 23) ≤ v i <;> simp [h]

/-- The word compared for at a lane, -/
theorem word_at (y : FVec Ideal S1x1 .f32) (i : S1x256.Idx) :
    select (cmpf .oge (broadcastTo S1x256 y broadcasts_S1x1_S1x256)
      (bitcastToFloat .f32 (shli (iota .tc S1x256 32 [1] iota_S1x256_d1_w32) (broadcast S1x256 23#32))))
      (iota .tc S1x256 32 [1] iota_S1x256_d1_w32) (broadcast S1x256 0#32) i
    = word (y (at2 0 0 Nat.one_pos Nat.one_pos)) (i 1).val := by
  have hn : iota .tc S1x256 32 [1] iota_S1x256_d1_w32 i = BitVec.ofNat 32 (i 1).val :=
    iota_single_apply .tc S1x256 32 1 iota_S1x256_d1_w32 i
  exact (word_of _ _ i).trans (by rw [hn, spread]; rfl)

/-- and the largest of them. -/
theorem words_max (x : IVec S1x256 32) (l : S1.Idx) :
    multiReductionI .maxsi [1] S1 x 2147483648#32 reduces_S1x256_S1 rfl l
      = (Finset.univ : Finset (Fin 256)).fold IKind.maxsi.op 2147483648#32 (fun k => x (at2 0 k.val Nat.one_pos k.isLt)) := by
  refine (multiReductionI_eq_fold _ _ _ _ _ _).trans ((Shape.Reduces.fold_fiber_r2_a1 _ _ _ _ _).trans ?_)
  refine Finset.fold_congr fun k _ => congrArg x ?_
  have h0 : (l 0).val < 1 := (l 0).isLt
  exact eq_at2 _ _ _ (by show (l 0).val = 0; omega) rfl

/-- The exponent field found, as an `if`. -/
theorem field_at (w : IVec S1x1 32) (j : S1x1.Idx) :
    select (ori (cmpi .eq w (broadcast S1x1 0#32)) (cmpi .eq w (broadcast S1x1 255#32))) (broadcast S1x1 126#32) w j = field (w j) := by
  unfold field
  show (if BitVec.ofBool (w j == 0#32) ||| BitVec.ofBool (w j == 255#32) = 1#1 then 126#32 else w j) = _
  by_cases h0 : w j = 0#32
  · simp [h0]
  · by_cases h1 : w j = 255#32
    · simp [h1]
    · rw [beq_false_of_ne h0, beq_false_of_ne h1, if_neg (by decide), if_neg (by tauto)]

/-- The word, and the scale and reciprocal placed from it. -/
theorem eword_scale (k : BitVec 32) (x : FVec Ideal S128x128 .f32) (r : ℝ) (hr : span k x = (r : EReal)) (h0 : 0 ≤ r)
    (h : r < (2 : ℝ) ^ (126 : ℤ)) (j : S1x1.Idx) :
    Ideal.ofBits .f32 ((eword k x j + 1#32) <<< 23) = pow2 k x ∧ Ideal.ofBits .f32 ((253#32 - eword k x j) <<< 23) = inv2 k x := by
  unfold pow2 inv2
  rw [hr]
  have hy (l : S1x1.Idx) : mulf (kmax (absf x)) (broadcast S1x1 (Scalar.ofBits .f32 k)) l = (r : EReal) := by
    rw [← hr]
    show kmax (absf x) l * Ideal.ofBits .f32 k = _
    rw [kmax_eq]
    rfl
  have he : eword k x j = field ((Finset.univ : Finset (Fin 256)).fold IKind.maxsi.op 2147483648#32 fun i => word (r : EReal) i.val) := by
    refine (field_at _ j).trans (congrArg field ((asOne _ j).trans ((words_max _ _).trans (Finset.fold_congr fun i _ => ?_))))
    rw [word_at, hy]
    rfl
  rw [he]
  exact scale_inv_eq Finset.univ (fun i : Fin 256 => i.val) (fun i _ => i.isLt) (fun n hn => ⟨⟨n, hn⟩, Finset.mem_univ _, rfl⟩) r h0 h _ rfl

/-! ## The block's scale, codes and residual -/

/-- The single entry. -/
abbrev at0 : S1x1.Idx := at2 0 0 Nat.one_pos Nat.one_pos

theorem pay84_at (u : FVec Ideal S128x128 .f32) (i : S128x128.Idx) :
    k0_pay84 u i = min (Ideal.ofBits .f32 0x47600000#32) (max (Ideal.ofBits .f32 0xC7600000#32) (u i)) := rfl
theorem pay90_at (u : FVec Ideal S128x128 .f32) (i : S128x128.Idx) :
    k0_pay90 u i = min (Ideal.ofBits .f32 0x43E00000#32) (max (Ideal.ofBits .f32 0xC3E00000#32) (u i)) := rfl
theorem pay85_at (s : FVec Ideal S1x1 .f32) (u : FVec Ideal S128x128 .f32) (i : S128x128.Idx) :
    k0_pay85 s u i = (k0_pay84 u i * s at0 : EReal) :=
  congrArg (fun z : EReal => k0_pay84 u i * z) (spread2 s i)
theorem pay86_at (v : FVec Ideal S128x128 .f32) (s : FVec Ideal S1x1 .f32) (u : FVec Ideal S128x128 .f32) (i : S128x128.Idx) :
    k0_pay86 v s u i = (v i - k0_pay85 s u i : EReal) := rfl
theorem pay91_at (u : FVec Ideal S128x128 .f32) (i : S128x128.Idx) : k0_pay91 u i = u i :=
  congrFun (shapeCast_self (s := S128x128) u _) i
theorem pay92_at (s : FVec Ideal S1x1 .f32) (u : FVec Ideal S128x128 .f32) (i : S128x128.Idx) :
    k0_pay92 s u i = (k0_pay90 u i * s at0 : EReal) :=
  (congrFun (shapeCast_self (s := S128x128) (fun i => (k0_pay90 u i * broadcastTo S128x128 s broadcasts_S1x1_S128x128 i : EReal)) _) i).trans
    (congrArg (fun z : EReal => k0_pay90 u i * z) (spread2 s i))

variable (q : Vec Ideal S128x128 .f32)

theorem pay80_eq : k0_pay80 q = q := shapeCast_self _ _

/-- What a block is scaled by placing words, as one operation. -/
theorem up_eq (w : IVec S1x1 32) (j : S1x1.Idx) :
    bitcastToFloat (F := Ideal) .f32 (shli (addi w (broadcast S1x1 1#32)) (broadcast S1x1 23#32)) j = Ideal.ofBits .f32 ((w j + 1#32) <<< 23) := by
  rfl
theorem down_eq (w : IVec S1x1 32) (j : S1x1.Idx) :
    bitcastToFloat (F := Ideal) .f32 (shli (subi (broadcast S1x1 253#32) w) (broadcast S1x1 23#32)) j = Ideal.ofBits .f32 ((253#32 - w j) <<< 23) := by
  rfl

theorem tS_eq (hq : Bounded q) (j : S1x1.Idx) : tS q j = scale1 q := by
  obtain ⟨r, hr, h0, h1⟩ := span1 q hq
  refine (up_eq _ j).trans ?_
  rw [pay81_eq, pay80_eq]
  exact (eword_scale _ q r hr h0 h1 j).1

theorem pay83_eq (hq : Bounded q) (i : S128x128.Idx) : k0_pay83 q i = q i * inv2 0x37924925#32 q := by
  obtain ⟨r, hr, h0, h1⟩ := span1 q hq
  show k0_pay80 q i * broadcastTo S128x128 _ _ i = _
  rw [spread2, down_eq, pay81_eq, pay80_eq, (eword_scale _ q r hr h0 h1 _).2]

theorem tC_eq (hq : Bounded q) (i : S128x128.Idx) : tC q i = code1 q i := by
  refine (pay84_at _ i).trans ?_
  rw [pay83_eq q hq]
  rfl

theorem deq_eq (hq : Bounded q) (i : S128x128.Idx) : k0_pay85 (k0_pay82 q) (k0_pay83 q) i = code1 q i * scale1 q := by
  refine (pay85_at _ _ i).trans ?_
  rw [show k0_pay82 q _ = _ from tS_eq q hq _, show k0_pay84 (k0_pay83 q) i = _ from tC_eq q hq i]

theorem tB_eq (hq : Bounded q) (i : S128x128.Idx) : tB q i = code1 q i * scale1 q := (pay91_at _ i).trans (deq_eq q hq i)

theorem res_eq (hq : Bounded q) : k0_pay86 (k0_pay80 q) (k0_pay82 q) (k0_pay83 q) = miss q := by
  funext i
  refine (pay86_at _ _ _ i).trans ?_
  rw [deq_eq q hq, pay80_eq]
  rfl

theorem tRS_eq (hq : Bounded q) (j : S1x1.Idx) : tRS q j = scale2 q := by
  obtain ⟨r, hr, h0, h1⟩ := span2 q hq
  refine (up_eq _ j).trans ?_
  rw [pay87_eq, res_eq q hq]
  exact (eword_scale _ (miss q) r hr h0 h1 j).1

theorem pay89_eq (hq : Bounded q) (i : S128x128.Idx) :
    k0_pay89 (k0_pay80 q) (k0_pay82 q) (k0_pay83 q) i = miss q i * inv2 0x3B124925#32 (miss q) := by
  obtain ⟨r, hr, h0, h1⟩ := span2 q hq
  show k0_pay86 (k0_pay80 q) (k0_pay82 q) (k0_pay83 q) i * broadcastTo S128x128 _ _ i = _
  rw [spread2, down_eq, pay87_eq, res_eq q hq, (eword_scale _ (miss q) r hr h0 h1 _).2]

theorem tRC_eq (hq : Bounded q) (i : S128x128.Idx) : tRC q i = code2 q i := by
  refine (pay90_at _ i).trans ?_
  rw [pay89_eq q hq]
  rfl

theorem tRB_eq (hq : Bounded q) (i : S128x128.Idx) : tRB q i = code2 q i * scale2 q := by
  refine (pay92_at _ _ i).trans ?_
  rw [show k0_pay88 (k0_pay80 q) (k0_pay82 q) (k0_pay83 q) _ = _ from tRS_eq q hq _,
    show k0_pay90 (k0_pay89 (k0_pay80 q) (k0_pay82 q) (k0_pay83 q)) i = _ from tRC_eq q hq i]

end Cert.KernelIdeal.Hand

end
-- ==== Proof.KDot.lean ====
/- The kernel's two products over the extended reals: every entry is a sum over the tokens. -/
module

public import proofs.«01_k».proof.Proof.KernelEnd
public import proofs.«01_k».proof.Proof.Tile
public import Idealize.ShloMosaic.Lib.Pointwise.Contract

@[expose] public section

set_option maxRecDepth 16384

noncomputable section

namespace Cert.KernelIdeal.Hand

open Idealize.ShloMosaic Idealize.ShloMosaic.TcCoe
open Cert.KernelIdeal Cert.KernelIdeal.Gen Cert.Grad

/-- A product of the kernel at an entry. -/
theorem kdot (A : FVec Ideal S896x4096 .bf16) (B : FVec Ideal S4096x256 .bf16) (y : S896x256.Idx) :
    (matmul dot_S896x4096_S4096x256_S896x256_1_0_0_1_n_n none A B (constant S896x256 .f32 0x00000000#32) y : EReal)
      = ∑ k : Fin 4096, (A (at2 (y 0).val k.val (y 0).isLt k.isLt) : EReal) * B (at2 k.val (y 1).val k.isLt (y 1).isLt) := by
  refine (Ideal.matmul_apply dot_S896x4096_S4096x256_S896x256_1_0_0_1_n_n none A B (constant S896x256 .f32 0x00000000#32) y).trans ?_
  have h0 : (constant S896x256 .f32 0x00000000#32 : FVec Ideal S896x256 .f32) y = (0 : EReal) := Ideal.ofBits_zero_f32
  rw [h0, zero_add, dot_S896x4096_S4096x256_S896x256_1_0_0_1_n_n.sum_contr₁ (a := 1) rfl (K := 4096) rfl]
  refine Finset.sum_congr rfl fun k _ => ?_
  congr 1
  · exact congrArg A (eq_at2 _ _ _ rfl rfl)
  · exact congrArg B (eq_at2 _ _ _ rfl rfl)

theorem pay5_at (A : FVec Ideal S896x4096 .bf16) (B : FVec Ideal S4096x256 .bf16) (y : S896x256.Idx) :
    (k0_pay5 (F := Ideal) A B y : EReal) = ∑ k : Fin 4096, (A (at2 (y 0).val k.val (y 0).isLt k.isLt) : EReal) * B (at2 k.val (y 1).val k.isLt (y 1).isLt) := kdot A B y
theorem pay6_at (A : FVec Ideal S896x4096 .bf16) (B : FVec Ideal S4096x256 .bf16) (y : S896x256.Idx) :
    (k0_pay6 (F := Ideal) A B y : EReal) = ∑ k : Fin 4096, (A (at2 (y 0).val k.val (y 0).isLt k.isLt) : EReal) * B (at2 k.val (y 1).val k.isLt (y 1).isLt) := kdot A B y
/-- The two products read back and added. -/
theorem pay7_at (u v : FVec Ideal S896x256 .f32) (y : S896x256.Idx) : (k0_pay7 (F := Ideal) u v y : EReal) = u y + v y := by
  unfold k0_pay7
  rw [shapeCast_self, shapeCast_self]
  rfl

/-! ## The activations -/

/-- The activations times their scales, block by block, one row per token. -/
def XV (x : Vec Ideal S4096x3584 .fp8e4m3) (xs : Fin 32 → Fin 28 → EReal) : (⟨2, ![128 * 32, 128 * 28]⟩ : Shape).Idx → EReal :=
  blocks 32 28 fun b c z => tile 32 28 x b c z * xs b c

theorem spread_lane (s : EReal) (i : S128x128.Idx) :
    broadcastTo S128x128 (fun _ : S1x128.Idx => s) broadcasts_S1x128_S128x128 i = s := rfl

/-- A block of the transposed activations. -/
theorem pay1_at (q : Vec Ideal S128x128 .fp8e4m3) (s : EReal) (z : S128x128.Idx) :
    (k0_pay1 (F := Ideal) q s z : EReal) = q (at2 (z 1).val (z 0).val (z 1).isLt (z 0).isLt) * s := by
  unfold k0_pay1
  rw [shapeCast_self]
  refine (transpose_apply _ _ _ z (at2 (z 1).val (z 0).val (z 1).isLt (z 0).isLt : S128x128.Idx) fun b => ?_).trans rfl
  fin_cases b <;> rfl

/-- The transposed activations, read back. -/
theorem XT_at (x : Vec Ideal S4096x3584 .fp8e4m3) (xs : Vec Ideal S32x28 .f32) (r k : ℕ) (hr : r < 3584) (hk : k < 4096) :
    (XT x xs (at2 r k hr hk : S3584x4096.Idx) : EReal)
      = XV x (fun b c => xs (at2 b.val c.val b.isLt c.isLt)) (at2 k r hk hr) := by
  refine (pay1_at _ _ _).trans ?_
  rfl

/-- The rows a grid step multiplies. -/
theorem xblk_at (X : Vec Ideal S3584x4096 .bf16) (t : Fin cfg0.N) (y : S896x4096.Idx) :
    xblk X (grid0.coords t) y = X (at2 (896 * (t.val % 4) + (y 0).val) (y 1).val (by have := lt0 y; omega) (y 1).isLt) := by
  refine congrArg X (eq_at2 _ _ _ ?_ ?_)
  · show ((BitVec.ofNat 32 (grid0.coords t 1).val) * 896#32).toNat + 1 * (y 0).val = _
    rw [BitVec.toNat_mul, w1]
    show t.val % 4 * 896 % 2 ^ 32 + 1 * (y 0).val = _
    omega
  · show 0 + 1 * (y 1).val = _
    omega

end Cert.KernelIdeal.Hand

end
-- ==== Proof.Five.lean ====
/- An array of 2 × 16 row blocks and `C` column blocks in five axes, as the reference views it, against the same array with one row
   per token: both are 128 × 128 blocks side by side. -/
module

public import proofs.«01_k».proof.Proof.Tile
public import proofs.«01_k».proof.Proof.Where
public import Idealize.ShloMosaic.PureOps.Reduce
public import Idealize.ShloMosaic.Lib.Pointwise.Reduce
public import Idealize.ShloMosaic.Lib.Pipeline.Value

@[expose] public section

set_option maxRecDepth 16384

noncomputable section

namespace Cert.Grad

open Idealize.ShloMosaic Idealize.ShloMosaic.TcCoe
open Cert.KernelIdeal.Hand (at2 at3 eq_at2 lt0 lt1 tile blocks blocks_apply neutral_bot fold_max_eq_iSup)

/-- A 128 × 128 block. -/
abbrev Blk : Shape := Cert.KernelIdeal.S128x128

variable {α : Type} {C : ℕ}

/-- The index of an entry in five axes. -/
def at5 {P A R D : ℕ} (p : Fin P) (a : Fin A) (r : Fin R) (c : Fin C) (d : Fin D) : (⟨5, ![P, A, R, C, D]⟩ : Shape).Idx := fun
  | ⟨0, _⟩ => p
  | ⟨1, _⟩ => a
  | ⟨2, _⟩ => r
  | ⟨3, _⟩ => c
  | ⟨4, _⟩ => d

theorem eq_at5 {P A R D : ℕ} (y : (⟨5, ![P, A, R, C, D]⟩ : Shape).Idx) {p : Fin P} {a : Fin A} {r : Fin R} {c : Fin C} {d : Fin D}
    (h0 : (y 0).val = p.val) (h1 : (y 1).val = a.val) (h2 : (y 2).val = r.val) (h3 : (y 3).val = c.val) (h4 : (y 4).val = d.val) :
    y = at5 p a r c d := by
  funext i
  fin_cases i
  · exact Fin.ext h0
  · exact Fin.ext h1
  · exact Fin.ext h2
  · exact Fin.ext h3
  · exact Fin.ext h4

/-- Row block `16 p + a`. -/
def rowBlk (p : Fin 2) (a : Fin 16) : Fin 32 := ⟨16 * p.val + a.val, by omega⟩

/-- Blocks, in five axes; -/
def five (f : Fin 32 → Fin C → Blk.Idx → α) (y : (⟨5, ![2, 16, 128, C, 128]⟩ : Shape).Idx) : α :=
  f (rowBlk (y 0) (y 1)) (y 3) (at2 (y 2).val (y 4).val (y 2).isLt (y 4).isLt)
/-- one entry per block, in five axes, -/
def five1 (s : Fin 32 → Fin C → α) (y : (⟨5, ![2, 16, 1, C, 1]⟩ : Shape).Idx) : α := s (rowBlk (y 0) (y 1)) (y 3)
/-- and in three. -/
def three (s : Fin 32 → Fin C → α) (y : (⟨3, ![2, 16, C]⟩ : Shape).Idx) : α := s (rowBlk (y 0) (y 1)) (y 2)

/-- The blocks in five axes, with one row per token. -/
theorem cast_five (f : Fin 32 → Fin C → Blk.Idx → α) (h : (⟨5, ![2, 16, 128, C, 128]⟩ : Shape).ShapeCasts ⟨2, ![4096, 128 * C]⟩) :
    shapeCast (⟨2, ![4096, 128 * C]⟩ : Shape) (five f) h = blocks 32 C f := by
  funext j
  have l0 : (j 0).val < 4096 := lt0 j
  have l1 : (j 1).val < 128 * C := lt1 j
  refine (shapeCast_apply _ _ j (at5 ⟨(j 0).val / 2048, by omega⟩ ⟨(j 0).val / 128 % 16, by omega⟩ ⟨(j 0).val % 128, by omega⟩
    ⟨(j 1).val / 128, by omega⟩ ⟨(j 1).val % 128, by omega⟩) ?_).trans ?_
  · rw [Shape.rowMajor_val_five, Shape.rowMajor_val_two]
    show ((((j 0).val / 2048 * 16 + (j 0).val / 128 % 16) * 128 + (j 0).val % 128) * C + (j 1).val / 128) * 128 + (j 1).val % 128
      = (j 0).val * (128 * C) + (j 1).val
    have e0 : ((j 0).val / 2048 * 16 + (j 0).val / 128 % 16) * 128 + (j 0).val % 128 = (j 0).val := by omega
    have e1 : (j 1).val / 128 * 128 + (j 1).val % 128 = (j 1).val := by omega
    rw [e0, Nat.add_mul, Nat.add_assoc, e1]
    ring
  · refine (blocks_apply 32 C f j (rowBlk ⟨(j 0).val / 2048, by omega⟩ ⟨(j 0).val / 128 % 16, by omega⟩) ⟨(j 1).val / 128, by omega⟩
      (at2 ((j 0).val % 128) ((j 1).val % 128) (by omega) (by omega)) ?_ ?_).symm
    · show (j 0).val = 128 * (16 * ((j 0).val / 2048) + (j 0).val / 128 % 16) + (j 0).val % 128
      omega
    · show (j 1).val = 128 * ((j 1).val / 128) + (j 1).val % 128
      omega

theorem cast_blocks (f : Fin 32 → Fin C → Blk.Idx → α) (h : (⟨2, ![4096, 128 * C]⟩ : Shape).ShapeCasts ⟨5, ![2, 16, 128, C, 128]⟩) :
    shapeCast (⟨5, ![2, 16, 128, C, 128]⟩ : Shape) (blocks 32 C f) h = five f := by
  rw [← cast_five f h.symm]
  exact shapeCast_shapeCast _ _ _

/-- An array is its blocks. -/
theorem blocks_tile (g : (⟨2, ![128 * 32, 128 * C]⟩ : Shape).Idx → α) : blocks 32 C (tile 32 C g) = g := by
  funext y
  refine congrArg g (eq_at2 y _ _ ?_ ?_).symm
  · show (y 0).val = 128 * ((y 0).val / 128) + (y 0).val % 128
    omega
  · show (y 1).val = 128 * ((y 1).val / 128) + (y 1).val % 128
    omega

theorem cast_three (s : Fin 32 → Fin C → α) (h : (⟨3, ![2, 16, C]⟩ : Shape).ShapeCasts ⟨5, ![2, 16, 1, C, 1]⟩) :
    shapeCast (⟨5, ![2, 16, 1, C, 1]⟩ : Shape) (three s) h = five1 s := by
  funext y
  refine (shapeCast_apply _ _ y (at3 (y 0).val (y 1).val (y 3).val (y 0).isLt (y 1).isLt (y 3).isLt) ?_).trans rfl
  rw [Shape.rowMajor_val_five, Shape.rowMajor_val_three]
  have h2 : (y 2).val < 1 := (y 2).isLt
  have h4 : (y 4).val < 1 := (y 4).isLt
  show ((y 0).val * 16 + (y 1).val) * C + (y 3).val = ((((y 0).val * 16 + (y 1).val) * 1 + (y 2).val) * C + (y 3).val) * 1 + (y 4).val
  rw [show (y 2).val = 0 by omega, show (y 4).val = 0 by omega]
  simp

theorem cast_five1 (s : Fin 32 → Fin C → α) (h : (⟨5, ![2, 16, 1, C, 1]⟩ : Shape).ShapeCasts ⟨3, ![2, 16, C]⟩) :
    shapeCast (⟨3, ![2, 16, C]⟩ : Shape) (five1 s) h = three s := by
  rw [← cast_three s h.symm]
  exact shapeCast_shapeCast _ _ _

/-- One entry per block, at every entry of the block. -/
theorem spread5 (s : Fin 32 → Fin C → α) (h : (⟨5, ![2, 16, 1, C, 1]⟩ : Shape).Broadcasts ⟨5, ![2, 16, 128, C, 128]⟩) :
    broadcastTo (⟨5, ![2, 16, 128, C, 128]⟩ : Shape) (five1 s) h = five fun b c _ => s b c := by
  funext y
  refine (broadcastTo_apply _ _ y (at5 (y 0) (y 1) 0 (y 3) 0) fun a => ?_).trans rfl
  fin_cases a
  · rfl
  · rfl
  · rfl
  · show (y 3).val = if C = 1 then 0 else (y 3).val
    have l3 : (y 3).val < C := (y 3).isLt
    split <;> omega
  · rfl

/-- The maximum over each block. -/
theorem block_max (f : Fin 32 → Fin C → Blk.Idx → EReal) (h : (⟨5, ![2, 16, 128, C, 128]⟩ : Shape).Reduces [2, 4] ⟨3, ![2, 16, C]⟩) :
    (multiReduction (F := Ideal) .maximumf [2, 4] (⟨3, ![2, 16, C]⟩ : Shape) (five f : FVec Ideal (⟨5, ![2, 16, 128, C, 128]⟩ : Shape) .f32)
      0xFF800000#32 h (.inl rfl) rfl : (⟨3, ![2, 16, C]⟩ : Shape).Idx → EReal) = three fun b c => ⨆ z, f b c z := by
  funext l
  refine (multiReduction_maximumf_eq_fold _ _ _ _ _ _).trans ((Finset.fold_filter_eq_fold_of_fiber _ (fun i => h.drop i = l)
    (fun z : Blk.Idx => at5 (l 0) (l 1) (z 0) (l 2) (z 1)) ?_ ?_ _ _).trans ?_)
  · intro z z' e
    refine (eq_at2 z (lt0 z') (lt1 z') ?_ ?_).trans (eq_at2 z' _ _ rfl rfl).symm
    · exact congrArg Fin.val (congrFun e 2)
    · exact congrArg Fin.val (congrFun e 4)
  · intro i
    constructor
    · intro e
      refine ⟨at2 (i 2).val (i 4).val (i 2).isLt (i 4).isLt, (eq_at5 i ?_ ?_ rfl ?_ rfl).symm⟩
      · exact congrArg Fin.val (congrFun e 0)
      · exact congrArg Fin.val (congrFun e 1)
      · exact congrArg Fin.val (congrFun e 2)
    · rintro ⟨z, rfl⟩
      funext b
      fin_cases b <;> rfl
  · rw [neutral_bot]
    refine (fold_max_eq_iSup _).trans (iSup_congr fun z => ?_)
    exact congrArg (f _ _) (eq_at2 z _ _ rfl rfl).symm

end Cert.Grad

end
-- ==== Proof.Staged.lean ====
/- The scales as the kernel stages and returns them: two lanes of a row per column block, read back in the order of the results. -/
module

public import proofs.«01_k».proof.Proof.KernelEnd
public import proofs.«01_k».proof.Proof.Five

@[expose] public section

set_option maxRecDepth 16384

noncomputable section

namespace Cert.KernelIdeal.Hand

open Idealize.ShloMosaic Idealize.ShloMosaic.TcCoe
open Cert.KernelIdeal Cert.KernelIdeal.Gen Cert.Grad

/-- One entry of a one-entry block at every lane of a row. -/
theorem spread_row (x : FVec Ideal S1x1 .f32) (i : S1x128.Idx) :
    broadcastTo S1x128 (shapeCast S1x1 x shapeCasts_S1x1_S1x1) broadcasts_S1x1_S1x128 i = x at0 := by
  rw [shapeCast_self]
  refine broadcastTo_apply _ _ _ _ fun a => ?_
  fin_cases a <;> rfl

/-- The two scales of a row. -/
theorem row_at (s0 s1 : FVec Ideal S1x1 .f32) (l : Fin 128) (h : l.val < 2) :
    row (iota .tc S1x128 32 [1] iota_S1x128_d1_w32) s0 s1 (lane l) = if l.val = 0 then s0 at0 else s1 at0 := by
  have hn : iota .tc S1x128 32 [1] iota_S1x128_d1_w32 (at2 0 l.val Nat.one_pos l.isLt) = BitVec.ofNat 32 l.val :=
    iota_single_apply .tc S1x128 32 1 iota_S1x128_d1_w32 _
  unfold row k0_pay3
  refine (shapeCast_apply _ _ _ (at2 0 l.val Nat.one_pos l.isLt : S1x128.Idx) ?_).trans ?_
  · rw [Shape.rowMajor_val_two, Shape.rowMajor_val_three]
    show 0 * 128 + l.val = (0 * 1 + 0) * 128 + l.val
    omega
  · refine Eq.trans (?_ : _ = if BitVec.ofBool (BitVec.ofNat 32 l.val == 1#32) = 1#1 then s1 at0
        else if BitVec.ofBool (BitVec.ofNat 32 l.val == 0#32) = 1#1 then s0 at0 else Ideal.ofBits .f32 0x00000000#32) ?_
    · rw [← hn, ← spread_row s0 (at2 0 l.val Nat.one_pos l.isLt), ← spread_row s1 (at2 0 l.val Nat.one_pos l.isLt)]
      rfl
    · have e : l.val = 0 ∨ l.val = 1 := by omega
      rcases e with e | e <;> rw [e]
      · rw [if_neg (by decide), if_pos (by decide), if_pos rfl]
      · rw [if_pos (by decide), if_neg (by decide)]

/-- The staged scales, in the order of the results. -/
theorem unstage_at (x : Vec Ideal S74x32x128 .f32) (y : S2x16x148.Idx) :
    unstage x y = x (at3 ((y 2).val / 2) (16 * (y 0).val + (y 1).val) ((y 2).val % 2)
      (by have h : (y 2).val < 148 := (y 2).isLt; omega)
      (by have h : (y 0).val < 2 := (y 0).isLt; have h' : (y 1).val < 16 := (y 1).isLt; omega) (by omega)) := by
  have h2 : (y 2).val < 148 := (y 2).isLt
  have h0 : (y 0).val < 2 := (y 0).isLt
  have h1 : (y 1).val < 16 := (y 1).isLt
  refine (shapeCast_apply _ _ y (at3 (16 * (y 0).val + (y 1).val) ((y 2).val / 2) ((y 2).val % 2) (by omega) (by omega) (by omega) : S32x74x2.Idx) ?_).trans ?_
  · rw [Shape.rowMajor_val_three, Shape.rowMajor_val_three]
    show ((16 * (y 0).val + (y 1).val) * 74 + (y 2).val / 2) * 2 + (y 2).val % 2 = ((y 0).val * 16 + (y 1).val) * 148 + (y 2).val
    omega
  refine (transpose_apply _ _ _ _ (at3 ((y 2).val / 2) (16 * (y 0).val + (y 1).val) ((y 2).val % 2) (by omega) (by omega) (by omega) : S74x32x2.Idx)
    fun b => ?_).trans ?_
  · fin_cases b <;> rfl
  refine extractStridedSlice_apply _ _ _ _ _ fun a => ?_
  fin_cases a
  · exact (Nat.zero_add _).symm
  · exact (Nat.zero_add _).symm
  · exact (Nat.zero_add _).symm

/-- The scales staged two per row, given for every block. -/
theorem unstage_rows (s : Fin 32 → Fin 148 → FVec Ideal S1x1 .f32) (f : Fin 32 → Fin 148 → EReal) (hs : ∀ b c, s b c at0 = f b c) :
    (unstage (fun y => row (iota .tc S1x128 32 [1] iota_S1x128_d1_w32)
      (s (y 1) ⟨2 * (y 0).val, by have h : (y 0).val < 74 := (y 0).isLt; omega⟩)
      (s (y 1) ⟨2 * (y 0).val + 1, by have h : (y 0).val < 74 := (y 0).isLt; omega⟩) (lane (y 2))) : S2x16x148.Idx → EReal) = three f := by
  funext y
  have h2 : (y 2).val < 148 := (y 2).isLt
  refine (unstage_at _ y).trans ((row_at _ _ _ (Nat.mod_lt _ (by omega))).trans ?_)
  show (if (y 2).val % 2 = 0 then s (rowBlk (y 0) (y 1)) ⟨2 * ((y 2).val / 2), _⟩ at0
    else s (rowBlk (y 0) (y 1)) ⟨2 * ((y 2).val / 2) + 1, _⟩ at0) = f (rowBlk (y 0) (y 1)) (y 2)
  split
  · rw [hs]
    exact congrArg (f _) (Fin.ext (by show 2 * ((y 2).val / 2) = (y 2).val; omega))
  · rw [hs]
    exact congrArg (f _) (Fin.ext (by show 2 * ((y 2).val / 2) + 1 = (y 2).val; omega))

end Cert.KernelIdeal.Hand

end
-- ==== Proof.RefRead.lean ====
/- The reference's arrays over the extended reals, block by block: the quantities of `Spec` at every 128 × 128 block. -/
module

public import proofs.«01_k».proof.Proof.Five
public import proofs.«01_k».proof.Proof.Gen.ReferenceIdeal.Value

@[expose] public section

set_option maxRecDepth 16384

noncomputable section

namespace Cert.Grad

open Idealize.ShloMosaic Idealize.ShloMosaic.TcCoe
open Cert.KernelIdeal.Hand (at2 at3 eq_at2 lt0 lt1 tile blocks blocks_apply)
open Cert.ReferenceIdeal Cert.ReferenceIdeal.Gen

/-- Two reshapes are one. -/
theorem cast_cast {s t u : Shape} {α : Type} (x : s.Idx → α) (h : s.ShapeCasts t) (h' : t.ShapeCasts u) (h'' : s.ShapeCasts u) :
    shapeCast u (shapeCast t x h) h' = shapeCast u x h'' :=
  funext fun i => congrArg x (Shape.reshapeEquiv_reshapeEquiv _ _ i)

theorem flat_casts : S2x2048x18944.ShapeCasts S4096x18944 := by decide

/-- The gradient with one row per token, -/
def flat (g : Vec Ideal S2x2048x18944 .f32) : (⟨2, ![128 * 32, 128 * 148]⟩ : Shape).Idx → EReal := shapeCast S4096x18944 g flat_casts
/-- and its blocks. -/
def gt (g : Vec Ideal S2x2048x18944 .f32) (b : Fin 32) (c : Fin 148) : Blk.Idx → EReal := tile 32 148 (flat g) b c

/-! ## The quantiser, over blocks in five axes -/

/-- The largest magnitude over the largest code, -/
def rspan (k : BitVec 32) (x : FVec Ideal S2x16x128x148x128 .f32) : FVec Ideal S2x16x1x148x1 .f32 :=
  mulf (shapeCast S2x16x1x148x1 (multiReduction .maximumf [2, 4] S2x16x148 (absf x) 0xFF800000#32 reduces_S2x16x128x148x128_S2x16x148 (.inl rfl) rfl)
    shapeCasts_S2x16x148_S2x16x1x148x1) (broadcast S2x16x1x148x1 (Scalar.ofBits .f32 k))
/-- the exponent, -/
def rexp (v : FVec Ideal S2x16x1x148x1 .f32) : FVec Ideal S2x16x1x148x1 .f32 :=
  select (cmpf .olt v (broadcast S2x16x1x148x1 (Scalar.ofBits .f32 0x00800000#32))) (broadcast S2x16x1x148x1 (Scalar.ofBits .f32 0x00000000#32))
    (addf (floor (divf (log v) (broadcast S2x16x1x148x1 (Scalar.log (Scalar.ofBits .f32 0x40000000#32)))))
      (broadcast S2x16x1x148x1 (Scalar.ofBits .f32 0x3F800000#32)))
/-- and the codes. -/
def rcode (lo hi : BitVec 32) (x : FVec Ideal S2x16x128x148x128 .f32) (e : FVec Ideal S2x16x1x148x1 .f32) : FVec Ideal S2x16x128x148x128 .f32 :=
  minimumf (broadcast S2x16x128x148x128 (Scalar.ofBits .f32 hi)) (maximumf (broadcast S2x16x128x148x128 (Scalar.ofBits .f32 lo))
    (mulf x (broadcastTo S2x16x128x148x128 (exp2 (subf (broadcast S2x16x1x148x1 (Scalar.ofBits .f32 0x00000000#32)) e))
      broadcasts_S2x16x1x148x1_S2x16x128x148x128)))

theorem ofBits_zero : Ideal.ofBits .f32 0x00000000#32 = 0 := Ideal.ofBits_zero_f32
theorem ofBits_one : Ideal.ofBits .f32 0x3F800000#32 = 1 := by
  rw [ofBits_val _ 127 0 false (by decide) (by decide) (by decide) (by decide) (by decide) 1 (by norm_num)]
  rfl

theorem absf_five (f : Fin 32 → Fin 148 → Blk.Idx → EReal) :
    (absf (five f : FVec Ideal S2x16x128x148x128 .f32) : S2x16x128x148x128.Idx → EReal) = five fun b c z => max (f b c z) (-(f b c z)) := rfl
theorem exp2_five1 (s : Fin 32 → Fin 148 → EReal) :
    (exp2 (five1 s : FVec Ideal S2x16x1x148x1 .f32) : S2x16x1x148x1.Idx → EReal) = five1 fun b c => Ideal.exp2 (s b c) := rfl

theorem rspan_five (k : BitVec 32) (f : Fin 32 → Fin 148 → Blk.Idx → EReal) :
    (rspan k (five f) : S2x16x1x148x1.Idx → EReal) = five1 fun b c => span k (f b c) := by
  unfold rspan
  rw [absf_five, block_max, cast_three]
  rfl

/-- The exponent at an entry. -/
theorem rexp_at (v : FVec Ideal S2x16x1x148x1 .f32) (y) : rexp v y = refExp (v y) := by
  show (if BitVec.ofBool (decide (v y < Ideal.ofBits .f32 0x00800000#32)) = 1#1 then Ideal.ofBits .f32 0x00000000#32
    else Ideal.liftRound Int.floor (Ideal.div (Ideal.log (v y)) (Ideal.log (Ideal.ofBits .f32 0x40000000#32))) + Ideal.ofBits .f32 0x3F800000#32) = _
  unfold refExp
  rw [ofBits_zero, ofBits_one]
  by_cases h : v y < Ideal.ofBits .f32 0x00800000#32 <;> simp [h]

theorem rexp_five1 (s : Fin 32 → Fin 148 → EReal) : (rexp (five1 s) : S2x16x1x148x1.Idx → EReal) = five1 fun b c => refExp (s b c) :=
  funext fun y => rexp_at _ y

theorem rcode_five (lo hi : BitVec 32) (f : Fin 32 → Fin 148 → Blk.Idx → EReal) (e : Fin 32 → Fin 148 → EReal) :
    (rcode lo hi (five f) (five1 e) : S2x16x128x148x128.Idx → EReal)
      = five fun b c z => min (Ideal.ofBits .f32 hi) (max (Ideal.ofBits .f32 lo) (f b c z * Ideal.exp2 (0 - e b c))) := by
  have h := spread5 (fun b c => Ideal.exp2 (Ideal.ofBits .f32 0x00000000#32 - e b c)) broadcasts_S2x16x1x148x1_S2x16x128x148x128
  rw [ofBits_zero] at h
  have h' : broadcastTo S2x16x128x148x128 (exp2 (subf (broadcast S2x16x1x148x1 (Scalar.ofBits (F := Ideal) .f32 0x00000000#32)) (five1 e)))
      broadcasts_S2x16x1x148x1_S2x16x128x148x128 = five fun b c _ => Ideal.exp2 (0 - e b c) := by
    rw [← h]
    congr 1
    funext y
    show Ideal.exp2 (Ideal.ofBits .f32 0x00000000#32 - _) = Ideal.exp2 (0 - _)
    rw [ofBits_zero]
    rfl
  funext y
  exact congrArg (fun z : EReal => min (Ideal.ofBits .f32 hi) (max (Ideal.ofBits .f32 lo) (five f y * z))) (congrFun h' y)

/-- A scale at every entry of its block, times the codes. -/
theorem mul_five (f : Fin 32 → Fin 148 → Blk.Idx → EReal) (s : Fin 32 → Fin 148 → EReal) :
    ((fun y => five f y * broadcastTo S2x16x128x148x128 (five1 s) broadcasts_S2x16x1x148x1_S2x16x128x148x128 y) : S2x16x128x148x128.Idx → EReal)
      = five fun b c z => f b c z * s b c := by
  rw [spread5]
  rfl

/-! ## The reference's arrays -/

variable (g : Vec Ideal S2x2048x18944 .f32)

theorem pay5_five : (k0_pay5 g : S2x16x128x148x128.Idx → EReal) = five (gt g) :=
  (cast_cast g flat_casts (by decide) _).symm.trans
    ((congrArg (fun z => shapeCast S2x16x128x148x128 z (by decide)) (blocks_tile (C := 148) (flat g)).symm).trans (cast_blocks (C := 148) (gt g) _))

theorem pay6_five : (k0_pay6 g : S2x16x1x148x1.Idx → EReal) = five1 fun b c => refExp (span 0x37924925#32 (gt g b c)) := by
  have h : k0_pay6 g = rexp (rspan 0x37924925#32 (k0_pay5 g)) := rfl
  rw [h, pay5_five, rspan_five, rexp_five1]

theorem pay7_five : (k0_pay7 g : S2x16x1x148x1.Idx → EReal) = five1 fun b c => scale1 (gt g b c) := by
  have h : k0_pay7 g = exp2 (k0_pay6 g) := rfl
  rw [h, pay6_five, exp2_five1]
  rfl

theorem pay8_five : (k0_pay8 g : S2x16x128x148x128.Idx → EReal) = five fun b c => code1 (gt g b c) := by
  have h : (k0_pay8 g : S2x16x128x148x128.Idx → EReal) = rcode 0xC7600000#32 0x47600000#32 (k0_pay5 g) (k0_pay6 g) := rfl
  rw [h, pay5_five, pay6_five, rcode_five]
  rfl

/-- Subtracting in three axes is subtracting in five. -/
theorem sub_cast (x : FVec Ideal S2x16x128x148x128 .f32) :
    (shapeCast S2x16x128x148x128 (subf g (shapeCast S2x2048x18944 x shapeCasts_S2x16x128x148x128_S2x2048x18944))
      shapeCasts_S2x2048x18944_S2x16x128x148x128 : S2x16x128x148x128.Idx → EReal) = fun y => (k0_pay5 g y - x y : EReal) := by
  funext y
  exact congrArg (fun z : EReal => k0_pay5 g y - z) (congrFun (shapeCast_shapeCast x shapeCasts_S2x16x128x148x128_S2x2048x18944
    shapeCasts_S2x2048x18944_S2x16x128x148x128) y)

theorem pay9_five : (k0_pay9 g : S2x16x128x148x128.Idx → EReal) = five fun b c => miss (gt g b c) := by
  have h : (k0_pay9 g : S2x16x128x148x128.Idx → EReal) = fun y => (k0_pay5 g y - k0_pay8 g y
      * broadcastTo S2x16x128x148x128 (k0_pay7 g) broadcasts_S2x16x1x148x1_S2x16x128x148x128 y : EReal) := sub_cast g _
  rw [h, pay7_five, spread5, pay8_five, pay5_five]
  rfl

/-- The residual's scale, -/
theorem pay13_five : (k0_pay13 (k0_pay10 g) (k0_pay11 g) (Scalar.ofBits .f32 0x00800000#32) : S2x16x1x148x1.Idx → EReal)
    = five1 fun b c => scale2 (gt g b c) := by
  have h : k0_pay12 (k0_pay10 g) (k0_pay11 g) (Scalar.ofBits .f32 0x00800000#32) = rexp (rspan 0x3B124925#32 (k0_pay9 g)) := rfl
  have h' : k0_pay13 (k0_pay10 g) (k0_pay11 g) (Scalar.ofBits .f32 0x00800000#32)
    = exp2 (k0_pay12 (k0_pay10 g) (k0_pay11 g) (Scalar.ofBits .f32 0x00800000#32)) := rfl
  rw [h', h, pay9_five, rspan_five, rexp_five1, exp2_five1]
  rfl

/-- and codes. -/
theorem pay14_five : (k0_pay14 (k0_pay9 g) (k0_pay10 g) (k0_pay11 g) (Scalar.ofBits .f32 0x00800000#32) : S2x16x128x148x128.Idx → EReal)
    = five fun b c => code2 (gt g b c) := by
  have h : (k0_pay14 (k0_pay9 g) (k0_pay10 g) (k0_pay11 g) (Scalar.ofBits .f32 0x00800000#32) : S2x16x128x148x128.Idx → EReal)
      = rcode 0xC3E00000#32 0x43E00000#32 (k0_pay9 g) (rexp (rspan 0x3B124925#32 (k0_pay9 g))) := rfl
  rw [h, pay9_five, rspan_five, rexp_five1, rcode_five]
  rfl

end Cert.Grad

end
-- ==== Proof.RDot.lean ====
/- The reference's two products over the extended reals: every entry is a sum over the tokens. -/
module

public import proofs.«01_k».proof.Proof.RefRead
public import Idealize.ShloMosaic.Lib.Pointwise.Contract

@[expose] public section

set_option maxRecDepth 16384

noncomputable section

namespace Cert.Grad

open Idealize.ShloMosaic Idealize.ShloMosaic.TcCoe
open Cert.KernelIdeal.Hand (at2 at3 eq_at2 lt0 lt1 tile blocks blocks_apply)
open Cert.ReferenceIdeal Cert.ReferenceIdeal.Gen

/-- A product of the reference at an entry. -/
theorem rdot (A : FVec Ideal S4096x3584 .bf16) (B : FVec Ideal S4096x18944 .bf16) (y : S3584x18944.Idx) :
    (matmul dot_S4096x3584_S4096x18944_S3584x18944_0_0_1_1_n_n none A B (constant S3584x18944 .f32 0x00000000#32) y : EReal)
      = ∑ k : Fin 4096, (A (at2 k.val (y 0).val k.isLt (y 0).isLt) : EReal) * B (at2 k.val (y 1).val k.isLt (y 1).isLt) := by
  refine (Ideal.matmul_apply dot_S4096x3584_S4096x18944_S3584x18944_0_0_1_1_n_n none A B (constant S3584x18944 .f32 0x00000000#32) y).trans ?_
  have h0 : (constant S3584x18944 .f32 0x00000000#32 : FVec Ideal S3584x18944 .f32) y = (0 : EReal) := Ideal.ofBits_zero_f32
  rw [h0, zero_add, dot_S4096x3584_S4096x18944_S3584x18944_0_0_1_1_n_n.sum_contr₁ (a := 0) rfl (K := 4096) rfl]
  refine Finset.sum_congr rfl fun k _ => ?_
  congr 1
  · exact congrArg A (eq_at2 _ _ _ rfl rfl)
  · exact congrArg B (eq_at2 _ _ _ rfl rfl)

theorem flatx_casts : S2x2048x3584.ShapeCasts S4096x3584 := by decide

/-- The activations' codes with one row per token. -/
def flatx (x : Vec Ideal S2x2048x3584 .fp8e4m3) : (⟨2, ![128 * 32, 128 * 28]⟩ : Shape).Idx → EReal := shapeCast S4096x3584 x flatx_casts

/-- The scale of an activation block. -/
def xsc (s : Vec Ideal S2x16x28 .f32) (b : Fin 32) (c : Fin 28) : EReal :=
  s (at3 (b.val / 16) (b.val % 16) c.val (by have := b.isLt; omega) (by omega) c.isLt)

theorem three_xsc (s : Vec Ideal S2x16x28 .f32) : (s : S2x16x28.Idx → EReal) = three (xsc s) := by
  funext y
  have h1 : (y 1).val < 16 := (y 1).isLt
  refine congrArg s (Cert.KernelIdeal.Hand.eq_at3 y _ _ _ ?_ ?_ rfl)
  · show (y 0).val = (16 * (y 0).val + (y 1).val) / 16
    omega
  · show (y 1).val = (16 * (y 0).val + (y 1).val) % 16
    omega

/-- The activations times their scales, -/
theorem pay15_five (x : Vec Ideal S2x2048x3584 .fp8e4m3) (s : Vec Ideal S2x16x28 .f32) :
    (k0_pay15 x s : S2x16x128x28x128.Idx → EReal) = five fun b c z => tile 32 28 (flatx x) b c z * xsc s b c := by
  have hx : (shapeCast S2x16x128x28x128 x shapeCasts_S2x2048x3584_S2x16x128x28x128 : S2x16x128x28x128.Idx → EReal) = five (tile 32 28 (flatx x)) :=
    (cast_cast x flatx_casts (by decide) _).symm.trans
      ((congrArg (fun z => shapeCast S2x16x128x28x128 z (by decide)) (blocks_tile (C := 28) (flatx x)).symm).trans (cast_blocks (C := 28) _ _))
  have hs : (shapeCast S2x16x1x28x1 s shapeCasts_S2x16x28_S2x16x1x28x1 : S2x16x1x28x1.Idx → EReal) = five1 (xsc s) :=
    (congrArg (fun z => shapeCast S2x16x1x28x1 z shapeCasts_S2x16x28_S2x16x1x28x1) (three_xsc s)).trans (cast_three _ _)
  have h : (k0_pay15 x s : S2x16x128x28x128.Idx → EReal) = fun y => (shapeCast S2x16x128x28x128 x shapeCasts_S2x2048x3584_S2x16x128x28x128 y : EReal)
      * broadcastTo S2x16x128x28x128 (shapeCast S2x16x1x28x1 s shapeCasts_S2x16x28_S2x16x1x28x1) broadcasts_S2x16x1x28x1_S2x16x128x28x128 y := rfl
  rw [h, hx, hs, spread5]
  rfl

/-- with one row per token. -/
theorem lhs_eq (x : Vec Ideal S2x2048x3584 .fp8e4m3) (s : Vec Ideal S2x16x28 .f32) :
    (shapeCast S4096x3584 (k0_pay15 x s) shapeCasts_S2x16x128x28x128_S4096x3584 : S4096x3584.Idx → EReal)
      = blocks 32 28 fun b c z => tile 32 28 (flatx x) b c z * xsc s b c := by
  rw [pay15_five]
  exact cast_five (C := 28) _ _

/-- Codes times their scales. -/
def scaled (c : S2x16x128x148x128.Idx → EReal) (s : S2x16x1x148x1.Idx → EReal) (y : S2x16x128x148x128.Idx) : EReal :=
  c y * broadcastTo S2x16x128x148x128 s broadcasts_S2x16x1x148x1_S2x16x128x148x128 y

theorem rhs_eq (f : Fin 32 → Fin 148 → Blk.Idx → EReal) (s : Fin 32 → Fin 148 → EReal) :
    (shapeCast S4096x18944 (scaled (five f) (five1 s)) shapeCasts_S2x16x128x148x128_S4096x18944 : S4096x18944.Idx → EReal)
      = blocks 32 148 fun b c z => f b c z * s b c := by
  have h : scaled (five f) (five1 s) = five fun b c z => f b c z * s b c := mul_five f s
  rw [h]
  exact cast_five (C := 148) _ _

/-- The sum over the tokens of an activation times an array of the gradient's. -/
def rsum (x : Vec Ideal S2x2048x3584 .fp8e4m3) (s : Vec Ideal S2x16x28 .f32) (f : Fin 32 → Fin 148 → Blk.Idx → EReal) (y : S3584x18944.Idx) : EReal :=
  ∑ k : Fin 4096, (blocks 32 28 fun b c z => tile 32 28 (flatx x) b c z * xsc s b c) (at2 k.val (y 0).val k.isLt (y 0).isLt)
    * blocks 32 148 f (at2 k.val (y 1).val k.isLt (y 1).isLt)

/-- A product of the reference, given its factors. -/
def rprod (x : Vec Ideal S2x2048x3584 .fp8e4m3) (s : Vec Ideal S2x16x28 .f32) (c : S2x16x128x148x128.Idx → EReal) (e : S2x16x1x148x1.Idx → EReal) :
    FVec Ideal S3584x18944 .f32 :=
  matmul (F := Ideal) (φ₁ := .bf16) (φ₂ := .bf16) dot_S4096x3584_S4096x18944_S3584x18944_0_0_1_1_n_n none
    (shapeCast S4096x3584 (k0_pay15 x s) shapeCasts_S2x16x128x28x128_S4096x3584)
    (shapeCast S4096x18944 (scaled c e) shapeCasts_S2x16x128x148x128_S4096x18944) (constant S3584x18944 .f32 0x00000000#32)

theorem rprod_eq (x : Vec Ideal S2x2048x3584 .fp8e4m3) (s : Vec Ideal S2x16x28 .f32) (f : Fin 32 → Fin 148 → Blk.Idx → EReal)
    (e : Fin 32 → Fin 148 → EReal) : (rprod x s (five f) (five1 e) : S3584x18944.Idx → EReal) = rsum x s fun b c z => f b c z * e b c := by
  unfold rprod
  rw [lhs_eq, rhs_eq]
  exact funext fun y => rdot _ _ y

section
variable (v18 : FVec Ideal S2x16x1x148x1 .f32) (v28 : FVec Ideal S2x16x128x148x128 .fp8e5m2) (v34 : FVec Ideal S2x16x128x148x128 .f32)
  (v39 v43 : FVec Ideal S2x16x1x148x1 .f32) (k : Ideal .f32) (x : Vec Ideal S2x2048x3584 .fp8e4m3) (s : Vec Ideal S2x16x28 .f32)

theorem pay16_of : k0_pay16 v34 v39 v43 k x s = rprod x s (k0_pay14 v34 v39 v43 k) (k0_pay13 v39 v43 k) := rfl
theorem pay17_of (y) : (k0_pay17 v18 v28 v34 v39 v43 k x s y : EReal) = (rprod x s v28 v18 y : EReal) + k0_pay16 v34 v39 v43 k x s y := rfl
end

variable (g : Vec Ideal S2x2048x18944 .f32) (x : Vec Ideal S2x2048x3584 .fp8e4m3) (s : Vec Ideal S2x16x28 .f32)

/-- The residual's part of the weight gradient, -/
theorem pay16_eq : (k0_pay16 (k0_pay9 g) (k0_pay10 g) (k0_pay11 g) (Scalar.ofBits .f32 0x00800000#32) x s : S3584x18944.Idx → EReal)
    = rsum x s fun b c z => code2 (gt g b c) z * scale2 (gt g b c) := by
  rw [pay16_of, pay14_five, pay13_five, rprod_eq]

/-- and the whole of it. -/
theorem pay17_eq : (k0_pay17 (k0_pay7 g) (k0_pay8 g) (k0_pay9 g) (k0_pay10 g) (k0_pay11 g) (Scalar.ofBits .f32 0x00800000#32) x s : S3584x18944.Idx → EReal)
    = fun y => rsum x s (fun b c z => code1 (gt g b c) z * scale1 (gt g b c)) y + rsum x s (fun b c z => code2 (gt g b c) z * scale2 (gt g b c)) y := by
  funext y
  rw [pay17_of, pay16_eq, pay8_five, pay7_five, rprod_eq]

end Cert.Grad

end
-- ==== Proof.RefEnd.lean ====
/- What the reference returns: the six results over the blocks of the gradient. -/
module

public import proofs.«01_k».proof.Proof.RDot

@[expose] public section

set_option maxRecDepth 16384

noncomputable section

namespace Cert.Grad

open Idealize.ShloMosaic Idealize.ShloMosaic.TcCoe
open Cert.KernelIdeal.Hand (at2 at3 eq_at2 lt0 lt1 tile blocks blocks_apply)
open Cert.ReferenceIdeal Cert.ReferenceIdeal.Gen Cert.ReferenceIdeal.Value

variable (x : Vec Ideal S2x2048x3584 .fp8e4m3) (s : Vec Ideal S2x16x28 .f32) (g : Vec Ideal S2x2048x18944 .f32)

/-- A load of the whole gradient reads it. -/
theorem ld_all (inb) : View.ld g (Rect.unit (s := S2x2048x18944) ![0, 0, 0] S2x2048x18944.size inb) = g :=
  View.ld_unit_zero (S := S2x2048x18944) hz5 _ g

theorem unflat_casts : S4096x18944.ShapeCasts S2x2048x18944 := by decide

/-- Blocks in five axes, in the shape of the gradient. -/
theorem unfive (f : Fin 32 → Fin 148 → Blk.Idx → EReal) (h : S2x16x128x148x128.ShapeCasts S2x2048x18944) :
    shapeCast S2x2048x18944 (five f) h = shapeCast S2x2048x18944 (blocks 32 148 f : S4096x18944.Idx → EReal) unflat_casts := by
  rw [← cast_blocks (C := 148) f (by decide)]
  exact cast_cast _ _ _ _

theorem ref0 : (G3 x s g : S3584x18944.Idx → EReal) = fun y => rsum x s (fun b c z => code1 (gt g b c) z * scale1 (gt g b c)) y
    + rsum x s (fun b c z => code2 (gt g b c) z * scale2 (gt g b c)) y := by
  unfold G3 k0_pay18 k0_pay19 k0_pay20 k0_pay21 k0_pay22
  rw [ld_all, pay17_eq]

theorem ref1 : (G4 x s g : S3584x18944.Idx → EReal) = rsum x s fun b c z => code2 (gt g b c) z * scale2 (gt g b c) := by
  unfold G4 k0_pay20 k0_pay21 k0_pay22
  rw [ld_all, pay16_eq]

theorem ref2 : (G5 x s g : S2x2048x18944.Idx → EReal)
    = shapeCast S2x2048x18944 (blocks 32 148 fun b c => code1 (gt g b c) : S4096x18944.Idx → EReal) unflat_casts := by
  unfold G5 k0_pay19 k0_pay1
  rw [ld_all, pay8_five]
  exact unfive _ _

theorem ref3 : (G6 x s g : S2x16x148.Idx → EReal) = three fun b c => scale1 (gt g b c) := by
  unfold G6 k0_pay18 k0_pay3
  rw [ld_all, pay7_five]
  exact cast_five1 _ _

theorem ref4 : (G7 x s g : S2x2048x18944.Idx → EReal)
    = shapeCast S2x2048x18944 (blocks 32 148 fun b c => code2 (gt g b c) : S4096x18944.Idx → EReal) unflat_casts := by
  unfold G7 k0_pay20 k0_pay21 k0_pay22 k0_pay2
  rw [ld_all, pay14_five]
  exact unfive _ _

theorem ref5 : (G8 x s g : S2x16x148.Idx → EReal) = three fun b c => scale2 (gt g b c) := by
  unfold G8 k0_pay21 k0_pay22 k0_pay4
  rw [ld_all, pay13_five]
  exact cast_five1 _ _

end Cert.Grad

end
-- ==== Proof.Match.lean ====
/- The kernel returns what the reference returns, for a gradient whose entries are at most the largest float in size. -/
module

public import proofs.«01_k».proof.Proof.KDot
public import proofs.«01_k».proof.Proof.Staged
public import proofs.«01_k».proof.Proof.RefEnd
public import proofs.«01_k».proof.Proof.Gen.Pre_finite_gradient

@[expose] public section

set_option maxRecDepth 16384

noncomputable section

namespace Cert.KernelIdeal.Hand

open Idealize.ShloMosaic Idealize.ShloMosaic.TcCoe Idealize.SL.Sem
open Cert.KernelIdeal Cert.KernelIdeal.Gen Cert.Grad

variable (m : (ℓ : Loc nD τ sig) → Buf (Elt Ideal) ℓ) (c : Dev nD)

/-- The arguments. -/
abbrev argX : Vec Ideal S2x2048x3584 .fp8e4m3 := m ((c : Thread nD τ).loc main_arg0)
abbrev argS : Vec Ideal S2x16x28 .f32 := m ((c : Thread nD τ).loc main_arg1)
abbrev argG : Vec Ideal S2x2048x18944 .f32 := m ((c : Thread nD τ).loc main_arg2)

/-! ## The arrays the launch reads -/

theorem GG_eq : GG m c = flat (argG m c) := V_v2 m c
theorem x_eq : V m c main_v0 = flatx (argX m c) := V_v0 m c

theorem s_at (b : Fin 32) (j : Fin 28) :
    ((V m c main_v1 : Vec Ideal S32x28 .f32) (at2 b.val j.val b.isLt j.isLt) : EReal) = xsc (argS m c) b j := by
  rw [V_v1]
  refine shapeCast_apply _ _ _ (at3 (b.val / 16) (b.val % 16) j.val (by have := b.isLt; omega) (by omega) j.isLt) ?_
  rw [Shape.rowMajor_val_three, Shape.rowMajor_val_two]
  show (b.val / 16 * 16 + b.val % 16) * 28 + j.val = b.val * 28 + j.val
  omega

theorem XV_eq : XV (V m c main_v0) (fun b j => (V m c main_v1 : Vec Ideal S32x28 .f32) (at2 b.val j.val b.isLt j.isLt))
    = blocks 32 28 fun b j z => tile 32 28 (flatx (argX m c)) b j z * xsc (argS m c) b j := by
  have h : (fun (b : Fin 32) (j : Fin 28) => ((V m c main_v1 : Vec Ideal S32x28 .f32) (at2 b.val j.val b.isLt j.isLt) : EReal)) = xsc (argS m c) :=
    funext fun b => funext fun j => s_at m c b j
  unfold XV
  rw [x_eq]
  exact congrArg (fun s : Fin 32 → Fin 28 → EReal => blocks 32 28 fun b j z => tile 32 28 (flatx (argX m c)) b j z * s b j) h

/-! ## Every block is bounded -/

/-- The precondition, entry by entry. -/
theorem bound_of_pre (a0 : Vec Ideal S2x2048x3584 .fp8e4m3) (a1 : Vec Ideal S2x16x28 .f32) (g : Vec Ideal S2x2048x18944 .f32)
    (h : Cert.Pre_finite_gradient.fn (F := Ideal) a0 a1 g = fun _ => 1#1) : Bounded g := by
  intro i
  have hi : BitVec.ofBool (decide (max (g i : EReal) (-(g i)) ≤ Ideal.ofBits .f32 0x7F7FFFFF#32)) = 1#1 := congrFun h i
  by_contra hn
  rw [decide_eq_false hn] at hi
  exact absurd hi (by decide)

/-- A block's entries are entries of the gradient. -/
theorem bound_gt (g : Vec Ideal S2x2048x18944 .f32) (h : Bounded g) (b : Fin 32) (j : Fin 148) : Bounded (gt g b j) :=
  fun _ => h _

variable (hg : Bounded (argG m c))
include hg

/-! ## The codes and the scales -/

theorem codes1 : HC m c = blocks 32 148 fun b j => code1 (gt (argG m c) b j) := by
  have h : (fun (b : Fin 32) (j : Fin 148) => tC (F := Ideal) (gt (argG m c) b j)) = fun b j => code1 (gt (argG m c) b j) :=
    funext fun b => funext fun j => funext fun i => tC_eq _ (bound_gt _ hg b j) i
  unfold HC
  rw [GG_eq]
  exact congrArg (fun f : Fin 32 → Fin 148 → S128x128.Idx → EReal => blocks 32 148 f) h

theorem codes2 : RC m c = blocks 32 148 fun b j => code2 (gt (argG m c) b j) := by
  have h : (fun (b : Fin 32) (j : Fin 148) => tRC (F := Ideal) (gt (argG m c) b j)) = fun b j => code2 (gt (argG m c) b j) :=
    funext fun b => funext fun j => funext fun i => tRC_eq _ (bound_gt _ hg b j) i
  unfold RC
  rw [GG_eq]
  exact congrArg (fun f : Fin 32 → Fin 148 → S128x128.Idx → EReal => blocks 32 148 f) h

theorem scales1 : unstage (HS m c) = three fun b j => scale1 (gt (argG m c) b j) := by
  unfold HS
  rw [GG_eq]
  exact unstage_rows (fun b j => tS (F := Ideal) (gt (argG m c) b j)) (fun b j => scale1 (gt (argG m c) b j)) fun b j => tS_eq _ (bound_gt _ hg b j) _

theorem scales2 : unstage (RS m c) = three fun b j => scale2 (gt (argG m c) b j) := by
  unfold RS
  rw [GG_eq]
  exact unstage_rows (fun b j => tRS (F := Ideal) (gt (argG m c) b j)) (fun b j => scale2 (gt (argG m c) b j)) fun b j => tRS_eq _ (bound_gt _ hg b j) _

/-! ## The products -/

omit hg in
/-- The factor from the activations. -/
theorem lhs_at (i : S3584x18944.Idx) (k : Fin 4096) :
    (xblk (XX m c) (grid0.coords (ptOf i)) (at2 (locOf i 0).val k.val (locOf i 0).isLt k.isLt) : EReal)
      = (blocks 32 28 fun b j z => tile 32 28 (flatx (argX m c)) b j z * xsc (argS m c) b j) (at2 k.val (i 0).val k.isLt (i 0).isLt) := by
  have h0 : (i 0).val < 3584 := (i 0).isLt
  refine (xblk_at _ _ _).trans ?_
  refine (congrArg (XX m c) (eq_at2 _ h0 k.isLt ?_ rfl)).trans ((XT_at _ _ _ _ h0 k.isLt).trans (congrFun (XV_eq m c) _))
  show 896 * ((4 * ((i 1).val / 256) + (i 0).val / 896) % 4) + (i 0).val % 896 = (i 0).val
  omega

omit hg in
/-- The factor from the gradient. -/
theorem rhs_at (f : (S128x128.Idx → EReal) → S128x128.Idx → EReal) (i : S3584x18944.Idx) (k : Fin 4096) :
    blocks 32 2 (fun b j => f (tile 32 2 (gb m c (ptOf i)) b j)) (at2 k.val (locOf i 1).val k.isLt (locOf i 1).isLt)
      = blocks 32 148 (fun b j => f (gt (argG m c) b j)) (at2 k.val (i 1).val k.isLt (i 1).isLt) := by
  have h1 : (i 1).val < 18944 := (i 1).isLt
  have h0 : (i 0).val < 3584 := (i 0).isLt
  refine (blocks_col m f c (ptOf i) _).trans ?_
  rw [GG_eq]
  refine congrArg (blocks 32 148 fun b j => f (gt (argG m c) b j)) (eq_at2 _ k.isLt h1 rfl ?_)
  show 256 * ((4 * ((i 1).val / 256) + (i 0).val / 896) / 4) + (i 1).val % 256 = (i 1).val
  omega

omit hg in
/-- A product of the kernel is a sum over the tokens. -/
theorem prod_at (f : (S128x128.Idx → EReal) → S128x128.Idx → EReal) (i : S3584x18944.Idx) :
    (∑ k : Fin 4096, (xblk (XX m c) (grid0.coords (ptOf i)) (at2 (locOf i 0).val k.val (locOf i 0).isLt k.isLt) : EReal)
        * blocks 32 2 (fun b j => f (tile 32 2 (gb m c (ptOf i)) b j)) (at2 k.val (locOf i 1).val k.isLt (locOf i 1).isLt))
      = rsum (argX m c) (argS m c) (fun b j => f (gt (argG m c) b j)) i :=
  Finset.sum_congr rfl fun k _ => congrArg₂ (· * ·) (lhs_at m c i k) (rhs_at m c f i k)

theorem values1 : (fun (b : Fin 32) (j : Fin 148) => tB (F := Ideal) (gt (argG m c) b j)) = fun b j z => code1 (gt (argG m c) b j) z * scale1 (gt (argG m c) b j) :=
  funext fun b => funext fun j => funext fun i => tB_eq _ (bound_gt _ hg b j) i

theorem values2 : (fun (b : Fin 32) (j : Fin 148) => tRB (F := Ideal) (gt (argG m c) b j)) = fun b j z => code2 (gt (argG m c) b j) z * scale2 (gt (argG m c) b j) :=
  funext fun b => funext fun j => funext fun i => tRB_eq _ (bound_gt _ hg b j) i

theorem part2 (i : S3584x18944.Idx) :
    (dwrV (XX m c) (rbB (gb m c (ptOf i))) (grid0.coords (ptOf i)) (locOf i) : EReal)
      = rsum (argX m c) (argS m c) (fun b j z => code2 (gt (argG m c) b j) z * scale2 (gt (argG m c) b j)) i := by
  rw [← values2 m c hg]
  exact (pay6_at (xblk (XX m c) (grid0.coords (ptOf i))) (rbB (gb m c (ptOf i))) (locOf i)).trans (prod_at m c (tRB (F := Ideal)) i)

theorem part1 (i : S3584x18944.Idx) :
    (k0_pay5 (xblk (XX m c) (grid0.coords (ptOf i))) (hbB (gb m c (ptOf i))) (locOf i) : EReal)
      = rsum (argX m c) (argS m c) (fun b j z => code1 (gt (argG m c) b j) z * scale1 (gt (argG m c) b j)) i := by
  rw [← values1 m c hg]
  exact (pay5_at (xblk (XX m c) (grid0.coords (ptOf i))) (hbB (gb m c (ptOf i))) (locOf i)).trans (prod_at m c (tB (F := Ideal)) i)

theorem grad2 : DWR m c = rsum (argX m c) (argS m c) fun b j z => code2 (gt (argG m c) b j) z * scale2 (gt (argG m c) b j) :=
  funext fun i => part2 m c hg i

theorem grad1 : DW m c = fun i => rsum (argX m c) (argS m c) (fun b j z => code1 (gt (argG m c) b j) z * scale1 (gt (argG m c) b j)) i
    + rsum (argX m c) (argS m c) (fun b j z => code2 (gt (argG m c) b j) z * scale2 (gt (argG m c) b j)) i :=
  funext fun i => (pay7_at _ _ _).trans (congrArg₂ (· + ·) (part1 m c hg i) (part2 m c hg i))

/-! ## The six results -/

open Cert.ReferenceIdeal.Value (G3 G4 G5 G6 G7 G8)

theorem res0 : DW m c = G3 (argX m c) (argS m c) (argG m c) := (grad1 m c hg).trans (ref0 _ _ _).symm
theorem res1 : DWR m c = G4 (argX m c) (argS m c) (argG m c) := (grad2 m c hg).trans (ref1 _ _ _).symm
theorem res2 : shapeCast S2x2048x18944 (HC m c) shapeCasts_S4096x18944_S2x2048x18944 = G5 (argX m c) (argS m c) (argG m c) := by
  rw [codes1 m c hg]
  exact (ref2 _ _ _).symm
theorem res3 : unstage (HS m c) = G6 (argX m c) (argS m c) (argG m c) := (scales1 m c hg).trans (ref3 _ _ _).symm
theorem res4 : shapeCast S2x2048x18944 (RC m c) shapeCasts_S4096x18944_S2x2048x18944 = G7 (argX m c) (argS m c) (argG m c) := by
  rw [codes2 m c hg]
  exact (ref4 _ _ _).symm
theorem res5 : unstage (RS m c) = G8 (argX m c) (argS m c) (argG m c) := (scales2 m c hg).trans (ref5 _ _ _).symm

end Cert.KernelIdeal.Hand

end
-- ==== Proof.lean ====
module

public import proofs.«01_k».proof.Defs
public import proofs.«01_k».proof.Proof.Same
public import proofs.«01_k».proof.Proof.Gen.Pre_finite_gradient
public import proofs.«01_k».proof.Proof.Gen.ReferenceIdeal.Value
public import proofs.«01_k».proof.Proof.Match

@[expose] public section

set_option maxRecDepth 16384

noncomputable section

namespace Cert.Proof

open Idealize.ShloMosaic Idealize.ShloMosaic.TcCoe Idealize.SL.Sem
open Cert.KernelIdeal.Hand
open Cert.ReferenceIdeal.Value (G3 G4 G5 G6 G7 G8)

/-- The kernel and the reference, started on the same arguments, return the same six arrays. -/
theorem algebraic : algebraic_KernelIdeal_ReferenceIdeal_pre_finite_gradient (hKernelIdeal := Cert.KernelIdeal.Gen.facts)
    (hReferenceIdeal := Cert.ReferenceIdeal.Gen.facts) (hPre_finite_gradient := Cert.Pre_finite_gradient.Gen.facts) := by
  intro m g m' g' hpre hargs
  have hg : ∀ c, Cert.Grad.Bounded (argG m c) := fun c => bound_of_pre _ _ _ (hpre c)
  refine ⟨fun c => G3 (argX m c) (argS m c) (argG m c), fun c => G4 (argX m c) (argS m c) (argG m c),
    fun c => G5 (argX m c) (argS m c) (argG m c), fun c => G6 (argX m c) (argS m c) (argG m c),
    fun c => G7 (argX m c) (argS m c) (argG m c), fun c => G8 (argX m c) (argS m c) (argG m c), ?_, ?_⟩
  · refine (θ_run _ _ _).mono (fun r h c => ?_) (run_values m g)
    obtain ⟨h0, h1, h2, h3, h4, h5, k⟩ := h c
    exact ⟨h0.trans (res0 m c (hg c)), h1.trans (res1 m c (hg c)), h2.trans (res2 m c (hg c)), h3.trans (res3 m c (hg c)),
      h4.trans (res4 m c (hg c)), h5.trans (res5 m c (hg c)), k⟩
  · refine (θ_run _ _ _).mono (fun r h c => ?_) (Cert.ReferenceIdeal.Value.run m' g')
    have e := h c
    obtain ⟨e0, e1, e2⟩ := hargs c
    obtain ⟨h0, h1, h2, h3, h4, h5, k⟩ := e
    rw [e0, e1, e2] at h0 h1 h2 h3 h4 h5
    exact ⟨h0, h1, h2, h3, h4, h5, k⟩

theorem claim : Cert.Claim :=
  ⟨Cert.Kernel.Gen.facts, Cert.KernelIdeal.Gen.facts, Cert.ReferenceIdeal.Gen.facts, Cert.Pre_finite_gradient.Gen.facts,
    fun m ρ _ => Cert.Kernel.Hand.frame m ρ,
    fun m ρ _ => Cert.KernelIdeal.Hand.frame m ρ,
    fun m ρ _ => Cert.KernelIdeal.Hand.frame m ρ,
    fun m ρ _ => Cert.ReferenceIdeal.Gen.frame m ρ,
    fun m ρ _ => Cert.ReferenceIdeal.Gen.frame m ρ,
    trivial,
    algebraic⟩

end Cert.Proof

end
